-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gates [hPre_finite_gates : Cert.Pre_finite_gates.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gates.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gates [hPre_finite_gates : Cert.Pre_finite_gates.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gates.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3Ideal (m : (ℓ : Loc Cert.Kernel3Ideal.nD Cert.Kernel3Ideal.τ Cert.Kernel3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_gates [hKernel2Ideal : Cert.Kernel2Ideal.Facts] [hPre_finite_gates : Cert.Pre_finite_gates.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gates m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_gates [hReference2Ideal : Cert.Reference2Ideal.Facts] [hPre_finite_gates : Cert.Pre_finite_gates.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gates m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def preserves_Kernel_KernelIdeal : Prop :=
  IdealRules.named_const.Statement Cert.KernelIdeal.κ "score_scale" .f32 0x3DB8AA3B#32 (((1 / 16) * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_gates [hKernel2Ideal : Cert.Kernel2Ideal.Facts] [hReference2Ideal : Cert.Reference2Ideal.Facts] [hPre_finite_gates : Cert.Pre_finite_gates.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gates m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3Ideal : Cert.Kernel3Ideal.Facts) (hPre_finite_scores : Cert.Pre_finite_scores.Facts) (hPre_finite_gates : Cert.Pre_finite_gates.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_gates (hKernel2Ideal := hKernel2Ideal) (hPre_finite_gates := hPre_finite_gates)
    ∧ quiescent_Reference2Ideal (hReference2Ideal := hReference2Ideal)
    ∧ quiescent_Reference2Ideal_pre_finite_gates (hReference2Ideal := hReference2Ideal) (hPre_finite_gates := hPre_finite_gates)
    ∧ quiescent_Kernel3Ideal (hKernel3Ideal := hKernel3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_gates (hKernel2Ideal := hKernel2Ideal) (hReference2Ideal := hReference2Ideal) (hPre_finite_gates := hPre_finite_gates)
-- ==== Pre_finite_gates.lean ====
abbrev S8x2048x1024 : Shape := ⟨3, ![8, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_

variable [Facts]

def fn {F : FTy → Type} [FloatOps F] (main_arg0 : FVec F S8x2048x1024 .f32) (main_arg1 : FVec F S1x1024 .f32) (main_arg2 : FVec F S1x1024x5632 .f32) (main_arg3 : FVec F S1x2816x1024 .f32) (main_arg4 : FVec F S1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x5632 .f32 := Host.absf main_arg2
  let main_cst_0 : FVec F S_ .f32 := constant S_ .f32 0x7F800000#32
  let main_v5 : FVec F S1x1024x5632 .f32 := broadcastInDim S1x1024x5632 ![] bcast_S_S1x1024x5632 main_cst_0
  let main_v6 : IVec S1x1024x5632 1 := cmpf .olt main_v4 main_v5
  let main_c_1 : IVec S_ 1 := constantI S_ 1 1#1
  let main_v7 : IVec S_ 1 := (fun x v => Host.reduce IntOp.andi x v reducesTo_S1x1024x5632_S_d0_1_2 h_S_) main_v6 main_c_1
  let main_v8 : IVec S_ 1 := andi main_v3 main_v7
  main_v8
-- ==== Pre_finite_scores.lean ====
abbrev S8x2048x1024 : Shape := ⟨3, ![8, 2048, 1024]⟩
abbrev S8x256x1024 : Shape := ⟨3, ![8, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024x2048 : S_.BroadcastsInDim S1x1024x2048 (![] : Fin 0 → Fin S1x1024x2048.rank)
  reducesTo_S1x1024x2048_S_d0_1_2 : S1x1024x2048.ReducesTo [0, 1, 2] S_

variable [Facts]

def fn_part1 {F : FTy → Type} [FloatOps F] (main_v13 : IVec S_ 1) (main_v16 : IVec S1x1024x2048 1) : IVec S_ 1 :=
  let main_c_5 : IVec S_ 1 := constantI S_ 1 1#1
  let main_v17 : IVec S_ 1 := (fun x v => Host.reduce IntOp.andi x v reducesTo_S1x1024x2048_S_d0_1_2 h_S_) main_v16 main_c_5
  let main_v18 : IVec S_ 1 := andi main_v13 main_v17
  main_v18

def fn {F : FTy → Type} [FloatOps F] (main_arg0 : FVec F S8x2048x1024 .f32) (main_arg1 : FVec F S8x256x1024 .f32) (main_arg2 : FVec F S1x1024 .f32) (main_arg3 : FVec F S1x1024 .f32) (main_arg4 : FVec F S1x1024x1024 .f32) (main_arg5 : FVec F S1x1024x2048 .f32) (main_arg6 : FVec F S1x1024x1024 .f32) : IVec S_ 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024 .f32 := Host.absf main_arg3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x1024 .f32 := Host.absf main_arg4
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_c_3 : IVec S_ 1 := constantI S_ 1 1#1
  let main_v12 : IVec S_ 1 := (fun x v => Host.reduce IntOp.andi x v reducesTo_S1x1024x1024_S_d0_1_2 h_S_) main_v11 main_c_3
  let main_v13 : IVec S_ 1 := andi main_v8 main_v12
  let main_v14 : FVec F S1x1024x2048 .f32 := Host.absf main_arg5
  let main_cst_4 : FVec F S_ .f32 := constant S_ .f32 0x7F800000#32
  let main_v15 : FVec F S1x1024x2048 .f32 := broadcastInDim S1x1024x2048 ![] bcast_S_S1x1024x2048 main_cst_4
  let main_v16 : IVec S1x1024x2048 1 := cmpf .olt main_v14 main_v15
  fn_part1 (F := F) main_v13 main_v16
-- ==== Kernel.lean ====
abbrev S8x2048x1024 : Shape := ⟨3, ![8, 2048, 1024]⟩
abbrev S8x256x1024 : Shape := ⟨3, ![8, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1024 : Shape := ⟨1, ![1024]⟩
abbrev S1024x1024 : Shape := ⟨2, ![1024, 1024]⟩
abbrev S1024x2048 : Shape := ⟨2, ![1024, 2048]⟩
abbrev S1x256x1024 : Shape := ⟨3, ![1, 256, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 18
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024x2048, .f32⟩
  | .hbm, ⟨6, _⟩ => ⟨S1x1024x1024, .f32⟩
  | .hbm, ⟨7, _⟩ => ⟨S1024, .f32⟩
  | .hbm, ⟨8, _⟩ => ⟨S1x1024, .f32⟩
  | .hbm, ⟨9, _⟩ => ⟨S1024x1024, .f32⟩
  | .hbm, ⟨10, _⟩ => ⟨S1024x1024, .bf16⟩
  | .hbm, ⟨11, _⟩ => ⟨S1024, .f32⟩
  | .hbm, ⟨12, _⟩ => ⟨S1x1024, .f32⟩
  | .hbm, ⟨13, _⟩ => ⟨S1024x2048, .f32⟩
  | .hbm, ⟨14, _⟩ => ⟨S1024x2048, .bf16⟩
  | .hbm, ⟨15, _⟩ => ⟨S1024x1024, .f32⟩
  | .hbm, ⟨16, _⟩ => ⟨S1024x1024, .bf16⟩
  | .hbm, ⟨17, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x1024, .f32⟩
  | .local _ .vmem, ⟨7, _⟩ => ⟨S1024x2048, .bf16⟩
  | .local _ .vmem, ⟨8, _⟩ => ⟨S1024x1024, .bf16⟩
  | .local _ .vmem, ⟨9, _⟩ => ⟨S1x1024x1024, .f32⟩
  | .local _ .vmem, ⟨10, _⟩ => ⟨S1x1024x1024, .f32⟩
  | .local _ .vmem, ⟨11, _⟩ => ⟨S256x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "score_scale" => some (((1 / 16) * (Real.log 2)⁻¹ : ℝ) : EReal)
  | _ => none
-- ==== ReferenceIdeal.lean ====
abbrev S8x2048x1024 : Shape := ⟨3, ![8, 2048, 1024]⟩
abbrev S8x256x1024 : Shape := ⟨3, ![8, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256 : Shape := ⟨2, ![8, 256]⟩
abbrev S8x256x1 : Shape := ⟨3, ![8, 256, 1]⟩
abbrev S1024x1024 : Shape := ⟨2, ![1024, 1024]⟩
abbrev S8x2048x4x256 : Shape := ⟨4, ![8, 2048, 4, 256]⟩
abbrev S1024x2048 : Shape := ⟨2, ![1024, 2048]⟩
abbrev S8x256x2048 : Shape := ⟨3, ![8, 256, 2048]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024x2048, .f32⟩
  | .hbm, ⟨6, _⟩ => ⟨S1x1024x1024, .f32⟩
  | .hbm, ⟨7, _⟩ => ⟨S1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S1024, .f32⟩
  | .hbm, ⟨25, _⟩ => ⟨S8x256x1024, .f32⟩
  | .hbm, ⟨26, _⟩ => ⟨S_, .f32⟩
  | .hbm, ⟨27, _⟩ => ⟨S8x256, .f32⟩
  | .hbm, ⟨28, _⟩ => ⟨S8x256x1, .f32⟩
  | .hbm, ⟨29, _⟩ => ⟨S_, .f32⟩
  | .hbm, ⟨30, _⟩ => ⟨S8x256x1, .f32⟩
  | .hbm, ⟨31, _⟩ => ⟨S8x256x1, .f32⟩
  | .hbm, ⟨32, _⟩ => ⟨S_, .f32⟩
  | .hbm, ⟨33, _⟩ => ⟨S8x256x1, .f32⟩
  | .hbm, ⟨34, _⟩ => ⟨S8x256x1, .f32⟩
  | .hbm, ⟨35, _⟩ => ⟨S8x256x1, .f32⟩
  | .hbm, ⟨36, _⟩ => ⟨S8x256x1024, .f32⟩
  | .hbm, ⟨37, _⟩ => ⟨S8x256x1024, .f32⟩
  | .hbm, ⟨38, _⟩ => ⟨S1x1x1024, .f32⟩
  | .hbm, ⟨39, _⟩ => ⟨S8x256x1024, .f32⟩
  | .hbm, ⟨40, _⟩ => ⟨S8x256x1024, .f32⟩
  | .hbm, ⟨41, _⟩ => ⟨S1024x1024, .f32⟩
  | .hbm, ⟨42, _⟩ => ⟨S8x2048x1024, .f32⟩
  | .hbm, ⟨43, _⟩ => ⟨S8x2048x4x256, .f32⟩
  | .hbm, ⟨44, _⟩ => ⟨S1024x2048, .f32⟩
  | .hbm, ⟨45, _⟩ => ⟨S8x256x2048, .f32⟩
  | .hbm, ⟨46, _⟩ => ⟨S8x256x1024, .f32⟩
  | .hbm, ⟨47, _⟩ => ⟨S8x256x1024, .f32⟩
  | .hbm, ⟨48, _⟩ => ⟨S8x256x4x256, .f32⟩
  | .hbm, ⟨49, _⟩ => ⟨S8x256x4x256, .f32⟩
  | .hbm, ⟨50, _⟩ => ⟨S8x4x2048x256, .f32⟩
  | .hbm, ⟨51, _⟩ => ⟨S_, .f32⟩
  | .hbm, ⟨52, _⟩ => ⟨S8x4x2048x256, .f32⟩
  | .hbm, ⟨53, _⟩ => ⟨S8x4x2048x256, .f32⟩
  | .hbm, ⟨54, _⟩ => ⟨S_, .f32⟩
  | .hbm, ⟨55, _⟩ => ⟨S8x4x2048, .f32⟩
  | .hbm, ⟨56, _⟩ => ⟨S_, .f32⟩
  | .hbm, ⟨57, _⟩ => ⟨S8x4x2048, .f32⟩
  | .hbm, ⟨58, _⟩ => ⟨S8x4x2048, .f32⟩
  | .hbm, ⟨59, _⟩ => ⟨S8x4x2048x1, .f32⟩
  | .hbm, ⟨60, _⟩ => ⟨S8x4x2048x256, .f32⟩
  | .hbm, ⟨61, _⟩ => ⟨S8x4x2048x256, .f32⟩
  | .hbm, ⟨62, _⟩ => ⟨S8x4x2048x256, .f32⟩
  | .hbm, ⟨63, _⟩ => ⟨S_, .f32⟩
  | .hbm, ⟨64, _⟩ => ⟨S8x4x2048, .f32⟩
  | .hbm, ⟨65, _⟩ => ⟨S8x4x2048x1, .f32⟩
  | .hbm, ⟨66, _⟩ => ⟨S8x4x2048x256, .f32⟩
  | .hbm, ⟨67, _⟩ => ⟨S8x4x2048x256, .f32⟩
  | .hbm, ⟨68, _⟩ => ⟨S8x4x256x2048, .f32⟩
  | .hbm, ⟨69, _⟩ => ⟨S8x2048x4x256, .f32⟩
  | .hbm, ⟨70, _⟩ => ⟨S8x2048x1024, .f32⟩
  | .hbm, ⟨71, _⟩ => ⟨S1024x1024, .f32⟩
  | .hbm, ⟨72, _⟩ => ⟨S8x2048x1024, .f32⟩
  | .hbm, ⟨73, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S16384x1024 : Shape := ⟨2, ![16384, 1024]⟩
abbrev S1024x5632 : Shape := ⟨2, ![1024, 5632]⟩
abbrev S2816x1024 : Shape := ⟨2, ![2816, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 14
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S16384x1024, .f32⟩
  | .hbm, ⟨6, _⟩ => ⟨S1024, .f32⟩
  | .hbm, ⟨7, _⟩ => ⟨S1x1024, .f32⟩
  | .hbm, ⟨8, _⟩ => ⟨S1024x5632, .f32⟩
  | .hbm, ⟨9, _⟩ => ⟨S1024x5632, .bf16⟩
  | .hbm, ⟨10, _⟩ => ⟨S2816x1024, .f32⟩
  | .hbm, ⟨11, _⟩ => ⟨S2816x1024, .bf16⟩
  | .hbm, ⟨12, _⟩ => ⟨S1x1024, .f32⟩
  | .hbm, ⟨13, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x2048x1024 : Shape := ⟨3, ![8, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5632 : Shape := ⟨2, ![1024, 5632]⟩
abbrev S8x2048x5632 : Shape := ⟨3, ![8, 2048, 5632]⟩
abbrev S8x2048x2816 : Shape := ⟨3, ![8, 2048, 2816]⟩
abbrev S2816x1024 : Shape := ⟨2, ![2816, 1024]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x5632, .f32⟩
  | .hbm, ⟨23, _⟩ => ⟨S8x2048x5632, .f32⟩
  | .hbm, ⟨24, _⟩ => ⟨S8x2048x2816, .f32⟩
  | .hbm, ⟨25, _⟩ => ⟨S8x2048x2816, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S_, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S2816x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S8x2048x1, .f32⟩
  | .hbm, ⟨50, _⟩ => ⟨S8x2048x1024, .f32⟩
  | .hbm, ⟨51, _⟩ => ⟨S8x2048x1024, .f32⟩
  | .hbm, ⟨52, _⟩ => ⟨S1x1x1024, .f32⟩
  | .hbm, ⟨53, _⟩ => ⟨S8x2048x1024, .f32⟩
  | .hbm, ⟨54, _⟩ => ⟨S8x2048x1024, .f32⟩
  | .hbm, ⟨55, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Kernel3Ideal.lean ====
abbrev S8x2048x1024 : Shape := ⟨3, ![8, 2048, 1024]⟩
abbrev S8x2048 : Shape := ⟨2, ![8, 2048]⟩
abbrev S1x1024 : Shape := ⟨2, ![1, 1024]⟩
abbrev S1x1024x2816 : Shape := ⟨3, ![1, 1024, 2816]⟩
abbrev S1x8 : Shape := ⟨2, ![1, 8]⟩
abbrev S1x512 : Shape := ⟨2, ![1, 512]⟩
abbrev S2x512 : Shape := ⟨2, ![2, 512]⟩
abbrev S1x1024x1024 : Shape := ⟨3, ![1, 1024, 1024]⟩
abbrev S1x1024x2048 : Shape := ⟨3, ![1, 1024, 2048]⟩
abbrev S1x1024x5632 : Shape := ⟨3, ![1, 1024, 5632]⟩
abbrev S1x2816x1024 : Shape := ⟨3, ![1, 2816, 1024]⟩
abbrev S256x256 : Shape := ⟨2, ![256, 256]⟩
abbrev S896x128 : Shape := ⟨2, ![896, 128]⟩
abbrev S32x128 : Shape := ⟨2, ![32, 128]⟩
abbrev S16x128 : Shape := ⟨2, ![16, 128]⟩
abbrev S2x256x256 : Shape := ⟨3, ![2, 256, 256]⟩
abbrev S1024x2048 : Shape := ⟨2, ![1024, 2048]⟩
abbrev S1024x1024 : Shape := ⟨2, ![1024, 1024]⟩
abbrev S1024x5632 : Shape := ⟨2, ![1024, 5632]⟩
abbrev S2816x1024 : Shape := ⟨2, ![2816, 1024]⟩
abbrev S1024 : Shape := ⟨1, ![1024]⟩
abbrev S1024x2816 : Shape := ⟨2, ![1024, 2816]⟩
abbrev S8 : Shape := ⟨1, ![8]⟩
abbrev S512 : Shape := ⟨1, ![512]⟩
abbrev S_ : Shape := ⟨0, ![]⟩
abbrev S8x1 : Shape := ⟨2, ![8, 1]⟩
abbrev S8x256 : Shape := ⟨2, ![8, 256]⟩
abbrev S16x1x1024 : Shape := ⟨3, ![16, 1, 1024]⟩
abbrev S1x1x1024 : Shape := ⟨3, ![1, 1, 1024]⟩
abbrev S4x128x128 : Shape := ⟨3, ![4, 128, 128]⟩
abbrev S128x1024 : Shape := ⟨2, ![128, 1024]⟩
abbrev S2x128x2816 : Shape := ⟨3, ![2, 128, 2816]⟩
abbrev S2x128x1024 : Shape := ⟨3, ![2, 128, 1024]⟩
abbrev S2 : Shape := ⟨1, ![2]⟩
abbrev S2x64x2048 : Shape := ⟨3, ![2, 64, 2048]⟩
abbrev S2x64x1024 : Shape := ⟨3, ![2, 64, 1024]⟩
abbrev S2x64x5632 : Shape := ⟨3, ![2, 64, 5632]⟩
abbrev S2x176x1024 : Shape := ⟨3, ![2, 176, 1024]⟩
abbrev S1 : Shape := ⟨1, ![1]⟩
abbrev S1x128x2816 : Shape := ⟨3, ![1, 128, 2816]⟩
abbrev S128x2816 : Shape := ⟨2, ![128, 2816]⟩
abbrev S1x128x1024 : Shape := ⟨3, ![1, 128, 1024]⟩
abbrev S1x64x2048 : Shape := ⟨3, ![1, 64, 2048]⟩
abbrev S64x2048 : Shape := ⟨2, ![64, 2048]⟩
abbrev S1x64x1024 : Shape := ⟨3, ![1, 64, 1024]⟩
abbrev S64x1024 : Shape := ⟨2, ![64, 1024]⟩
abbrev S1x64x5632 : Shape := ⟨3, ![1, 64, 5632]⟩
abbrev S64x5632 : Shape := ⟨2, ![64, 5632]⟩
abbrev S1x176x1024 : Shape := ⟨3, ![1, 176, 1024]⟩
abbrev S176x1024 : Shape := ⟨2, ![176, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x256 : Shape := ⟨3, ![1, 1, 256]⟩
abbrev S1x256 : Shape := ⟨2, ![1, 256]⟩
abbrev S32x256 : Shape := ⟨2, ![32, 256]⟩
abbrev S256x128 : Shape := ⟨2, ![256, 128]⟩
abbrev S16x256 : Shape := ⟨2, ![16, 256]⟩
abbrev S1024x512 : Shape := ⟨2, ![1024, 512]⟩
abbrev S256x512 : Shape := ⟨2, ![256, 512]⟩
abbrev S1024x256 : Shape := ⟨2, ![1024, 256]⟩
abbrev S128x128 : Shape := ⟨2, ![128, 128]⟩
abbrev S384x128 : Shape := ⟨2, ![384, 128]⟩
abbrev S1x256x256 : Shape := ⟨3, ![1, 256, 256]⟩
abbrev S240x128 : Shape := ⟨2, ![240, 128]⟩
abbrev S512x256 : Shape := ⟨2, ![512, 256]⟩
abbrev S128x512 : Shape := ⟨2, ![128, 512]⟩
abbrev S1x128 : Shape := ⟨2, ![1, 128]⟩
abbrev S1x128x128 : Shape := ⟨3, ![1, 128, 128]⟩
abbrev S1x256x128 : Shape := ⟨3, ![1, 256, 128]⟩
abbrev S1x1x128 : Shape := ⟨3, ![1, 1, 128]⟩
abbrev S64x128 : Shape := ⟨2, ![64, 128]⟩
abbrev S2x128x128 : Shape := ⟨3, ![2, 128, 128]⟩
abbrev S2x1x128 : Shape := ⟨3, ![2, 1, 128]⟩
abbrev S2x64x128 : Shape := ⟨3, ![2, 64, 128]⟩
abbrev S8x128 : Shape := ⟨2, ![8, 128]⟩
abbrev S4x64x128 : Shape := ⟨3, ![4, 64, 128]⟩
abbrev S4x1x128 : Shape := ⟨3, ![4, 1, 128]⟩
abbrev S4x32x128 : Shape := ⟨3, ![4, 32, 128]⟩
abbrev S8x32x128 : Shape := ⟨3, ![8, 32, 128]⟩
abbrev S8x1x128 : Shape := ⟨3, ![8, 1, 128]⟩
abbrev S8x16x128 : Shape := ⟨3, ![8, 16, 128]⟩
abbrev S16x16x128 : Shape := ⟨3, ![16, 16, 128]⟩
abbrev S16x1x128 : Shape := ⟨3, ![16, 1, 128]⟩
abbrev S16x8x128 : Shape := ⟨3, ![16, 8, 128]⟩
abbrev S32x8x128 : Shape := ⟨3, ![32, 8, 128]⟩
abbrev S32x1x128 : Shape := ⟨3, ![32, 1, 128]⟩
abbrev S128x256 : Shape := ⟨2, ![128, 256]⟩

abbrev nBuf : Space → Nat
  | .hbm => 50
  | .vmem => 32
  | .smem => 1
  | _ => 0

abbrev bufTy : (tb : Table) → Fin (tcTables nBuf tb) → BufTy
  | .hbm, ⟨0, _⟩ => ⟨S8x2048x1024, .f32⟩
  | .hbm, ⟨1, _⟩ => ⟨S8x2048, .i32⟩
  | .hbm, ⟨2, _⟩ => ⟨S1x1024, .f32⟩
  | .hbm, ⟨3, _⟩ => ⟨S1x1024x2816, .f32⟩
  | .hbm, ⟨4, _⟩ => ⟨S1x8, .f32⟩
  | .hbm, ⟨5, _⟩ => ⟨S1x512, .f32⟩
  | .hbm, ⟨6, _⟩ => ⟨S2x512, .f32⟩
  | .hbm, ⟨7, _⟩ => ⟨S1x512, .f32⟩
  | .hbm, ⟨8, _⟩ => ⟨S1x1024x1024, .f32⟩
  | .hbm, ⟨9, _⟩ => ⟨S1x1024x1024, .f32⟩
  | .hbm, ⟨10, _⟩ => ⟨S1x1024x2048, .f32⟩
  | .hbm, ⟨11, _⟩ => ⟨S1x1024x1024, .f32⟩
  | .hbm, ⟨12, _⟩ => ⟨S1x1024x5632, .f32⟩
  | .hbm, ⟨13, _⟩ => ⟨S1x2816x1024, .f32⟩
  | .hbm, ⟨14, _⟩ => ⟨S256x256, .bf16⟩
  | .hbm, ⟨15, _⟩ => ⟨S896x128, .f32⟩
  | .hbm, ⟨16, _⟩ => ⟨S32x128, .bf16⟩
  | .hbm, ⟨17, _⟩ => ⟨S16x128, .bf16⟩
  | .hbm, ⟨18, _⟩ => ⟨S2x256x256, .f32⟩
  | .hbm, ⟨19, _⟩ => ⟨S1024x2048, .f32⟩
  | .hbm, ⟨20, _⟩ => ⟨S1024x1024, .f32⟩
  | .hbm, ⟨21, _⟩ => ⟨S1024x1024, .f32⟩
  | .hbm, ⟨22, _⟩ => ⟨S1024x5632, .f32⟩
  | .hbm, ⟨23, _⟩ => ⟨S2816x1024, .f32⟩
  | .hbm, ⟨24, _⟩ => ⟨S1024, .f32⟩
  | .hbm, ⟨25, _⟩ => ⟨S1x1024, .f32⟩
  | .hbm, ⟨26, _⟩ => ⟨S1024x2816, .f32⟩
  | .hbm, ⟨27, _⟩ => ⟨S1024x1024, .f32⟩
  | .hbm, ⟨28, _⟩ => ⟨S8, .f32⟩
  | .hbm, ⟨29, _⟩ => ⟨S512, .f32⟩
  | .hbm, ⟨30, _⟩ => ⟨S1x512, .f32⟩
  | .hbm, ⟨31, _⟩ => ⟨S512, .f32⟩
  | .hbm, ⟨32, _⟩ => ⟨S1x512, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S8x1, .f32⟩
  | .hbm, ⟨42, _⟩ => ⟨S8x256, .f32⟩
  | .hbm, ⟨43, _⟩ => ⟨S16x1x1024, .i32⟩
  | .hbm, ⟨44, _⟩ => ⟨S8x2048x1024, .f32⟩
  | .hbm, ⟨45, _⟩ => ⟨S1024x2048, .bf16⟩
  | .hbm, ⟨46, _⟩ => ⟨S1024x1024, .bf16⟩
  | .hbm, ⟨47, _⟩ => ⟨S1024x1024, .bf16⟩
  | .hbm, ⟨48, _⟩ => ⟨S1024x5632, .bf16⟩
  | .hbm, ⟨49, _⟩ => ⟨S2816x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .i32⟩
  | .local _ .vmem, ⟨4, _⟩ => ⟨S1x1x1024, .i32⟩
  | .local _ .vmem, ⟨5, _⟩ => ⟨S8x256, .f32⟩
  | .local _ .vmem, ⟨6, _⟩ => ⟨S32x128, .bf16⟩
  | .local _ .vmem, ⟨7, _⟩ => ⟨S16x128, .bf16⟩
  | .local _ .vmem, ⟨8, _⟩ => ⟨S1x512, .f32⟩
  | .local _ .vmem, ⟨9, _⟩ => ⟨S2x512, .f32⟩
  | .local _ .vmem, ⟨10, _⟩ => ⟨S1x512, .f32⟩
  | .local _ .vmem, ⟨11, _⟩ => ⟨S256x256, .bf16⟩
  | .local _ .vmem, ⟨12, _⟩ => ⟨S896x128, .f32⟩
  | .local _ .vmem, ⟨13, _⟩ => ⟨S2x256x256, .f32⟩
  | .local _ .vmem, ⟨14, _⟩ => ⟨S1x1024x1024, .f32⟩
  | .local _ .vmem, ⟨15, _⟩ => ⟨S1x1024x1024, .f32⟩
  | .local _ .vmem, ⟨16, _⟩ => ⟨S4x128x128, .f32⟩
  | .local _ .vmem, ⟨17, _⟩ => ⟨S128x1024, .bf16⟩
  | .local _ .vmem, ⟨18, _⟩ => ⟨S1024x2816, .bf16⟩
  | .local _ .vmem, ⟨19, _⟩ => ⟨S1024x1024, .bf16⟩
  | .local _ .vmem, ⟨20, _⟩ => ⟨S2x128x2816, .f32⟩
  | .local _ .vmem, ⟨21, _⟩ => ⟨S2x128x1024, .f32⟩
  | .local _ .vmem, ⟨22, _⟩ => ⟨S2x64x2048, .f32⟩
  | .local _ .vmem, ⟨23, _⟩ => ⟨S2x64x2048, .bf16⟩
  | .local _ .vmem, ⟨24, _⟩ => ⟨S2x64x1024, .f32⟩
  | .local _ .vmem, ⟨25, _⟩ => ⟨S2x64x1024, .bf16⟩
  | .local _ .vmem, ⟨26, _⟩ => ⟨S2x64x1024, .f32⟩
  | .local _ .vmem, ⟨27, _⟩ => ⟨S2x64x1024, .bf16⟩
  | .local _ .vmem, ⟨28, _⟩ => ⟨S2x64x5632, .f32⟩
  | .local _ .vmem, ⟨29, _⟩ => ⟨S2x64x5632, .bf16⟩
  | .local _ .vmem, ⟨30, _⟩ => ⟨S2x176x1024, .f32⟩
  | .local _ .vmem, ⟨31, _⟩ => ⟨S2x176x1024, .bf16⟩
  | .local _ .smem, ⟨0, _⟩ => ⟨S8, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_cst_1 : Ref sig .tc := ⟨.hbm, 16, rfl⟩
abbrev main_cst_2 : Ref sig .tc := ⟨.hbm, 17, rfl⟩
abbrev main_cst_3 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23_0 : Ref sig .tc := ⟨.hbm, 44, rfl⟩
abbrev main_v23_1 : Ref sig .tc := ⟨.hbm, 45, rfl⟩
abbrev main_v23_2 : Ref sig .tc := ⟨.hbm, 46, rfl⟩
abbrev main_v23_3 : Ref sig .tc := ⟨.hbm, 47, rfl⟩
abbrev main_v23_4 : Ref sig .tc := ⟨.hbm, 48, rfl⟩
abbrev main_v23_5 : Ref sig .tc := ⟨.hbm, 49, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch12 : Ref sig .tc := ⟨.vmem, 24, rfl⟩
abbrev cc0_scratch13 : Ref sig .tc := ⟨.vmem, 25, rfl⟩
abbrev cc0_scratch16 : Ref sig .tc := ⟨.vmem, 26, rfl⟩
abbrev cc0_scratch17 : Ref sig .tc := ⟨.vmem, 27, rfl⟩
abbrev cc0_scratch20 : Ref sig .tc := ⟨.vmem, 28, rfl⟩
abbrev cc0_scratch21 : Ref sig .tc := ⟨.vmem, 29, rfl⟩
abbrev cc0_scratch24 : Ref sig .tc := ⟨.vmem, 30, rfl⟩
abbrev cc0_scratch25 : Ref sig .tc := ⟨.vmem, 31, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v5 : BitVec 32 := Scalar.remsi v1 c1_i32
  let c0_i32_1 : BitVec 32 := 0#32
  let v6 : BitVec 1 := Scalar.cmpi .eq v5 c0_i32_1
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6586 : BitVec 32 := 1#32
  let v18016 : BitVec 32 := Scalar.divsi v1 c1_i32_6586
  let c1_i32_6590 : BitVec 32 := 1#32
  let v18021 : BitVec 32 := Scalar.addi v18016 c1_i32_6590
  let c16_i32 : BitVec 32 := 16#32
  let v18022 : BitVec 1 := Scalar.cmpi .slt v18021 c16_i32
  let v18023 : BitVec 32 := Scalar.extui v18022
  let c0_i32_6591 : BitVec 32 := 0#32
  let v18024 : BitVec 1 := Scalar.cmpi .ne v18023 c0_i32_6591
  v18024

def k0_off1 (i : grid0.Coords) : Fin 1 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6586 : BitVec 32 := 1#32
  let v18016 : BitVec 32 := Scalar.divsi v1 c1_i32_6586
  let c2_i32_6587 : BitVec 32 := 2#32
  let v18017 : BitVec 32 := Scalar.remsi v18016 c2_i32_6587
  let v18102 : BitVec 32 := Scalar.subi c1_i32_6650 v18017
  ![v18102.toNat]
def k0_off2 (i : grid0.Coords) : Fin 3 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6586 : BitVec 32 := 1#32
  let v18016 : BitVec 32 := Scalar.divsi v1 c1_i32_6586
  let c2_i32_6587 : BitVec 32 := 2#32
  let v18017 : BitVec 32 := Scalar.remsi v18016 c2_i32_6587
  let v18102 : BitVec 32 := Scalar.subi c1_i32_6650 v18017
  let c0_i32_6652 : BitVec 32 := 0#32
  let c0_i32_6653 : BitVec 32 := 0#32
  ![v18102.toNat, 0, 0]
def k0_off3 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6586 : BitVec 32 := 1#32
  let v18016 : BitVec 32 := Scalar.divsi v1 c1_i32_6586
  let c1_i32_6649 : BitVec 32 := 1#32
  let v18101 : BitVec 32 := Scalar.addi v18016 c1_i32_6649
  let c64_i32_6651 : BitVec 32 := 64#32
  let v18103 : BitVec 32 := Scalar.muli v18101 c64_i32_6651
  let c0_i32_6654 : BitVec 32 := 0#32
  ![v18103.toNat, 0]
def k0_cond6 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6592 : BitVec 32 := 1#32
  let v18025 : BitVec 32 := Scalar.divsi v1 c1_i32_6592
  let c1_i32_6596 : BitVec 32 := 1#32
  let v18030 : BitVec 32 := Scalar.addi v18025 c1_i32_6596
  let c16_i32_6597 : BitVec 32 := 16#32
  let v18031 : BitVec 1 := Scalar.cmpi .slt v18030 c16_i32_6597
  let v18032 : BitVec 32 := Scalar.extui v18031
  let c0_i32_6598 : BitVec 32 := 0#32
  let v18033 : BitVec 1 := Scalar.cmpi .ne v18032 c0_i32_6598
  v18033

def k0_off4 (i : grid0.Coords) : Fin 1 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6592 : BitVec 32 := 1#32
  let v18025 : BitVec 32 := Scalar.divsi v1 c1_i32_6592
  let c2_i32_6593 : BitVec 32 := 2#32
  let v18026 : BitVec 32 := Scalar.remsi v18025 c2_i32_6593
  let v18102 : BitVec 32 := Scalar.subi c1_i32_6650 v18026
  ![v18102.toNat]
def k0_off5 (i : grid0.Coords) : Fin 3 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6592 : BitVec 32 := 1#32
  let v18025 : BitVec 32 := Scalar.divsi v1 c1_i32_6592
  let c2_i32_6593 : BitVec 32 := 2#32
  let v18026 : BitVec 32 := Scalar.remsi v18025 c2_i32_6593
  let v18102 : BitVec 32 := Scalar.subi c1_i32_6650 v18026
  let c0_i32_6652 : BitVec 32 := 0#32
  let c0_i32_6653 : BitVec 32 := 0#32
  ![v18102.toNat, 0, 0]
def k0_off6 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6592 : BitVec 32 := 1#32
  let v18025 : BitVec 32 := Scalar.divsi v1 c1_i32_6592
  let c1_i32_6649 : BitVec 32 := 1#32
  let v18101 : BitVec 32 := Scalar.addi v18025 c1_i32_6649
  let c64_i32_6651 : BitVec 32 := 64#32
  let v18103 : BitVec 32 := Scalar.muli v18101 c64_i32_6651
  let c0_i32_6654 : BitVec 32 := 0#32
  ![v18103.toNat, 0]
def k0_cond8 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6599 : BitVec 32 := 1#32
  let v18034 : BitVec 32 := Scalar.divsi v1 c1_i32_6599
  let c1_i32_6603 : BitVec 32 := 1#32
  let v18039 : BitVec 32 := Scalar.addi v18034 c1_i32_6603
  let c16_i32_6604 : BitVec 32 := 16#32
  let v18040 : BitVec 1 := Scalar.cmpi .slt v18039 c16_i32_6604
  let v18041 : BitVec 32 := Scalar.extui v18040
  let c0_i32_6605 : BitVec 32 := 0#32
  let v18042 : BitVec 1 := Scalar.cmpi .ne v18041 c0_i32_6605
  v18042

def k0_off7 (i : grid0.Coords) : Fin 1 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6599 : BitVec 32 := 1#32
  let v18034 : BitVec 32 := Scalar.divsi v1 c1_i32_6599
  let c2_i32_6600 : BitVec 32 := 2#32
  let v18035 : BitVec 32 := Scalar.remsi v18034 c2_i32_6600
  let v18102 : BitVec 32 := Scalar.subi c1_i32_6650 v18035
  ![v18102.toNat]
def k0_off8 (i : grid0.Coords) : Fin 3 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6599 : BitVec 32 := 1#32
  let v18034 : BitVec 32 := Scalar.divsi v1 c1_i32_6599
  let c2_i32_6600 : BitVec 32 := 2#32
  let v18035 : BitVec 32 := Scalar.remsi v18034 c2_i32_6600
  let v18102 : BitVec 32 := Scalar.subi c1_i32_6650 v18035
  let c0_i32_6652 : BitVec 32 := 0#32
  let c0_i32_6653 : BitVec 32 := 0#32
  ![v18102.toNat, 0, 0]
def k0_off9 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6599 : BitVec 32 := 1#32
  let v18034 : BitVec 32 := Scalar.divsi v1 c1_i32_6599
  let c1_i32_6649 : BitVec 32 := 1#32
  let v18101 : BitVec 32 := Scalar.addi v18034 c1_i32_6649
  let c64_i32_6651 : BitVec 32 := 64#32
  let v18103 : BitVec 32 := Scalar.muli v18101 c64_i32_6651
  let c0_i32_6654 : BitVec 32 := 0#32
  ![v18103.toNat, 0]
def k0_cond10 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6606 : BitVec 32 := 1#32
  let v18043 : BitVec 32 := Scalar.divsi v1 c1_i32_6606
  let c1_i32_6610 : BitVec 32 := 1#32
  let v18048 : BitVec 32 := Scalar.addi v18043 c1_i32_6610
  let c16_i32_6611 : BitVec 32 := 16#32
  let v18049 : BitVec 1 := Scalar.cmpi .slt v18048 c16_i32_6611
  let v18050 : BitVec 32 := Scalar.extui v18049
  let c0_i32_6612 : BitVec 32 := 0#32
  let v18051 : BitVec 1 := Scalar.cmpi .ne v18050 c0_i32_6612
  v18051

def k0_off10 (i : grid0.Coords) : Fin 1 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6606 : BitVec 32 := 1#32
  let v18043 : BitVec 32 := Scalar.divsi v1 c1_i32_6606
  let c2_i32_6607 : BitVec 32 := 2#32
  let v18044 : BitVec 32 := Scalar.remsi v18043 c2_i32_6607
  let v18102 : BitVec 32 := Scalar.subi c1_i32_6650 v18044
  ![v18102.toNat]
def k0_off11 (i : grid0.Coords) : Fin 3 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6606 : BitVec 32 := 1#32
  let v18043 : BitVec 32 := Scalar.divsi v1 c1_i32_6606
  let c2_i32_6607 : BitVec 32 := 2#32
  let v18044 : BitVec 32 := Scalar.remsi v18043 c2_i32_6607
  let v18102 : BitVec 32 := Scalar.subi c1_i32_6650 v18044
  let c0_i32_6652 : BitVec 32 := 0#32
  let c0_i32_6653 : BitVec 32 := 0#32
  ![v18102.toNat, 0, 0]
def k0_off12 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6606 : BitVec 32 := 1#32
  let v18043 : BitVec 32 := Scalar.divsi v1 c1_i32_6606
  let c1_i32_6649 : BitVec 32 := 1#32
  let v18101 : BitVec 32 := Scalar.addi v18043 c1_i32_6649
  let c64_i32_6651 : BitVec 32 := 64#32
  let v18103 : BitVec 32 := Scalar.muli v18101 c64_i32_6651
  let c0_i32_6654 : BitVec 32 := 0#32
  ![v18103.toNat, 0]
def k0_cond12 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6613 : BitVec 32 := 1#32
  let v18052 : BitVec 32 := Scalar.divsi v1 c1_i32_6613
  let c1_i32_6617 : BitVec 32 := 1#32
  let v18057 : BitVec 32 := Scalar.addi v18052 c1_i32_6617
  let c16_i32_6618 : BitVec 32 := 16#32
  let v18058 : BitVec 1 := Scalar.cmpi .slt v18057 c16_i32_6618
  let v18059 : BitVec 32 := Scalar.extui v18058
  let c0_i32_6619 : BitVec 32 := 0#32
  let v18060 : BitVec 1 := Scalar.cmpi .ne v18059 c0_i32_6619
  v18060

def k0_off13 (i : grid0.Coords) : Fin 1 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6613 : BitVec 32 := 1#32
  let v18052 : BitVec 32 := Scalar.divsi v1 c1_i32_6613
  let c2_i32_6614 : BitVec 32 := 2#32
  let v18053 : BitVec 32 := Scalar.remsi v18052 c2_i32_6614
  let v18102 : BitVec 32 := Scalar.subi c1_i32_6650 v18053
  ![v18102.toNat]
def k0_off14 (i : grid0.Coords) : Fin 3 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6613 : BitVec 32 := 1#32
  let v18052 : BitVec 32 := Scalar.divsi v1 c1_i32_6613
  let c2_i32_6614 : BitVec 32 := 2#32
  let v18053 : BitVec 32 := Scalar.remsi v18052 c2_i32_6614
  let v18102 : BitVec 32 := Scalar.subi c1_i32_6650 v18053
  let c0_i32_6651 : BitVec 32 := 0#32
  let c0_i32_6652 : BitVec 32 := 0#32
  ![v18102.toNat, 0, 0]
def k0_off15 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6613 : BitVec 32 := 1#32
  let v18052 : BitVec 32 := Scalar.divsi v1 c1_i32_6613
  let c1_i32_6649 : BitVec 32 := 1#32
  let v18101 : BitVec 32 := Scalar.addi v18052 c1_i32_6649
  let c176_i32 : BitVec 32 := 176#32
  let v18103 : BitVec 32 := Scalar.muli v18101 c176_i32
  let c0_i32_6653 : BitVec 32 := 0#32
  ![v18103.toNat, 0]
def k0_cond13 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6620 : BitVec 32 := 1#32
  let v18061 : BitVec 32 := Scalar.divsi v1 c1_i32_6620
  let c16_i32_6622 : BitVec 32 := 16#32
  let v18063 : BitVec 1 := Scalar.cmpi .slt v18061 c16_i32_6622
  let v18064 : BitVec 32 := Scalar.extui v18063
  let c0_i32_6623 : BitVec 32 := 0#32
  let v18065 : BitVec 1 := Scalar.cmpi .ne v18064 c0_i32_6623
  v18065

def k0_off16 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6620 : BitVec 32 := 1#32
  let v18061 : BitVec 32 := Scalar.divsi v1 c1_i32_6620
  let c2_i32_6621 : BitVec 32 := 2#32
  let v18062 : BitVec 32 := Scalar.remsi v18061 c2_i32_6621
  ![v18062.toNat]
def k0_off17 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6620 : BitVec 32 := 1#32
  let v18061 : BitVec 32 := Scalar.divsi v1 c1_i32_6620
  let c2_i32_6621 : BitVec 32 := 2#32
  let v18062 : BitVec 32 := Scalar.remsi v18061 c2_i32_6621
  let c0_i32_6650 : BitVec 32 := 0#32
  let c0_i32_6651 : BitVec 32 := 0#32
  ![v18062.toNat, 0, 0]
def k0_off18 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6620 : BitVec 32 := 1#32
  let v18061 : BitVec 32 := Scalar.divsi v1 c1_i32_6620
  let c64_i32_6649 : BitVec 32 := 64#32
  let v18101 : BitVec 32 := Scalar.muli v18061 c64_i32_6649
  let c0_i32_6652 : BitVec 32 := 0#32
  ![v18101.toNat, 0]
def k0_cond14 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6620 : BitVec 32 := 1#32
  let v18061 : BitVec 32 := Scalar.divsi v1 c1_i32_6620
  let c2_i32_6653 : BitVec 32 := 2#32
  let v18107 : BitVec 1 := Scalar.cmpi .sge v18061 c2_i32_6653
  let v18108 : BitVec 32 := Scalar.extui v18107
  let c0_i32_6654 : BitVec 32 := 0#32
  let v18109 : BitVec 1 := Scalar.cmpi .ne v18108 c0_i32_6654
  v18109

def k0_off19 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6620 : BitVec 32 := 1#32
  let v18061 : BitVec 32 := Scalar.divsi v1 c1_i32_6620
  let c2_i32_6621 : BitVec 32 := 2#32
  let v18062 : BitVec 32 := Scalar.remsi v18061 c2_i32_6621
  ![v18062.toNat]
def k0_off20 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6620 : BitVec 32 := 1#32
  let v18061 : BitVec 32 := Scalar.divsi v1 c1_i32_6620
  let c2_i32_6663 : BitVec 32 := 2#32
  let v18124 : BitVec 32 := Scalar.subi v18061 c2_i32_6663
  let c64_i32_6664 : BitVec 32 := 64#32
  let v18125 : BitVec 32 := Scalar.muli v18124 c64_i32_6664
  let c0_i32_6665 : BitVec 32 := 0#32
  ![v18125.toNat, 0]
def k0_off21 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6620 : BitVec 32 := 1#32
  let v18061 : BitVec 32 := Scalar.divsi v1 c1_i32_6620
  let c2_i32_6621 : BitVec 32 := 2#32
  let v18062 : BitVec 32 := Scalar.remsi v18061 c2_i32_6621
  let c0_i32_6666 : BitVec 32 := 0#32
  let c0_i32_6667 : BitVec 32 := 0#32
  ![v18062.toNat, 0, 0]
def k0_off22 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6620 : BitVec 32 := 1#32
  let v18061 : BitVec 32 := Scalar.divsi v1 c1_i32_6620
  let c2_i32_6621 : BitVec 32 := 2#32
  let v18062 : BitVec 32 := Scalar.remsi v18061 c2_i32_6621
  let v18110 : Index := Scalar.indexCast v18062
  let c0_6655 : Index := 0#32
  let c0_6656 : Index := 0#32
  ![v18110.toNat, 0, 0]
def k0_cond15 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6620 : BitVec 32 := 1#32
  let v18061 : BitVec 32 := Scalar.divsi v1 c1_i32_6620
  let c15_i32 : BitVec 32 := 15#32
  let v18066 : BitVec 1 := Scalar.cmpi .eq v18061 c15_i32
  let v18067 : BitVec 32 := Scalar.extui v18066
  let c0_i32_6624 : BitVec 32 := 0#32
  let v18068 : BitVec 1 := Scalar.cmpi .ne v18067 c0_i32_6624
  v18068

def k0_off23 (i : grid0.Coords) : Fin 1 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6620 : BitVec 32 := 1#32
  let v18061 : BitVec 32 := Scalar.divsi v1 c1_i32_6620
  let c2_i32_6621 : BitVec 32 := 2#32
  let v18062 : BitVec 32 := Scalar.remsi v18061 c2_i32_6621
  let v18102 : BitVec 32 := Scalar.subi c1_i32_6650 v18062
  ![v18102.toNat]
def k0_off24 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6620 : BitVec 32 := 1#32
  let v18061 : BitVec 32 := Scalar.divsi v1 c1_i32_6620
  let c1_i32_6649 : BitVec 32 := 1#32
  let v18101 : BitVec 32 := Scalar.subi v18061 c1_i32_6649
  let c64_i32_6651 : BitVec 32 := 64#32
  let v18103 : BitVec 32 := Scalar.muli v18101 c64_i32_6651
  let c0_i32_6652 : BitVec 32 := 0#32
  ![v18103.toNat, 0]
def k0_off25 (i : grid0.Coords) : Fin 3 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6620 : BitVec 32 := 1#32
  let v18061 : BitVec 32 := Scalar.divsi v1 c1_i32_6620
  let c2_i32_6621 : BitVec 32 := 2#32
  let v18062 : BitVec 32 := Scalar.remsi v18061 c2_i32_6621
  let v18102 : BitVec 32 := Scalar.subi c1_i32_6650 v18062
  let c0_i32_6653 : BitVec 32 := 0#32
  let c0_i32_6654 : BitVec 32 := 0#32
  ![v18102.toNat, 0, 0]
def k0_off26 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6620 : BitVec 32 := 1#32
  let v18061 : BitVec 32 := Scalar.divsi v1 c1_i32_6620
  let c2_i32_6621 : BitVec 32 := 2#32
  let v18062 : BitVec 32 := Scalar.remsi v18061 c2_i32_6621
  ![v18062.toNat]
def k0_off27 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6620 : BitVec 32 := 1#32
  let v18061 : BitVec 32 := Scalar.divsi v1 c1_i32_6620
  let c64_i32_6655 : BitVec 32 := 64#32
  let v18109 : BitVec 32 := Scalar.muli v18061 c64_i32_6655
  let c0_i32_6656 : BitVec 32 := 0#32
  ![v18109.toNat, 0]
def k0_off28 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6620 : BitVec 32 := 1#32
  let v18061 : BitVec 32 := Scalar.divsi v1 c1_i32_6620
  let c2_i32_6621 : BitVec 32 := 2#32
  let v18062 : BitVec 32 := Scalar.remsi v18061 c2_i32_6621
  let c0_i32_6657 : BitVec 32 := 0#32
  let c0_i32_6658 : BitVec 32 := 0#32
  ![v18062.toNat, 0, 0]
def k0_cond16 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6625 : BitVec 32 := 1#32
  let v18069 : BitVec 32 := Scalar.divsi v1 c1_i32_6625
  let c16_i32_6627 : BitVec 32 := 16#32
  let v18071 : BitVec 1 := Scalar.cmpi .slt v18069 c16_i32_6627
  let v18072 : BitVec 32 := Scalar.extui v18071
  let c0_i32_6628 : BitVec 32 := 0#32
  let v18073 : BitVec 1 := Scalar.cmpi .ne v18072 c0_i32_6628
  v18073

def k0_off29 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6625 : BitVec 32 := 1#32
  let v18069 : BitVec 32 := Scalar.divsi v1 c1_i32_6625
  let c2_i32_6626 : BitVec 32 := 2#32
  let v18070 : BitVec 32 := Scalar.remsi v18069 c2_i32_6626
  ![v18070.toNat]
def k0_off30 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6625 : BitVec 32 := 1#32
  let v18069 : BitVec 32 := Scalar.divsi v1 c1_i32_6625
  let c2_i32_6626 : BitVec 32 := 2#32
  let v18070 : BitVec 32 := Scalar.remsi v18069 c2_i32_6626
  let c0_i32_6650 : BitVec 32 := 0#32
  let c0_i32_6651 : BitVec 32 := 0#32
  ![v18070.toNat, 0, 0]
def k0_off31 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6625 : BitVec 32 := 1#32
  let v18069 : BitVec 32 := Scalar.divsi v1 c1_i32_6625
  let c64_i32_6649 : BitVec 32 := 64#32
  let v18101 : BitVec 32 := Scalar.muli v18069 c64_i32_6649
  let c0_i32_6652 : BitVec 32 := 0#32
  ![v18101.toNat, 0]
def k0_cond17 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6625 : BitVec 32 := 1#32
  let v18069 : BitVec 32 := Scalar.divsi v1 c1_i32_6625
  let c2_i32_6653 : BitVec 32 := 2#32
  let v18107 : BitVec 1 := Scalar.cmpi .sge v18069 c2_i32_6653
  let v18108 : BitVec 32 := Scalar.extui v18107
  let c0_i32_6654 : BitVec 32 := 0#32
  let v18109 : BitVec 1 := Scalar.cmpi .ne v18108 c0_i32_6654
  v18109

def k0_off32 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6625 : BitVec 32 := 1#32
  let v18069 : BitVec 32 := Scalar.divsi v1 c1_i32_6625
  let c2_i32_6626 : BitVec 32 := 2#32
  let v18070 : BitVec 32 := Scalar.remsi v18069 c2_i32_6626
  ![v18070.toNat]
def k0_off33 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6625 : BitVec 32 := 1#32
  let v18069 : BitVec 32 := Scalar.divsi v1 c1_i32_6625
  let c2_i32_6663 : BitVec 32 := 2#32
  let v18124 : BitVec 32 := Scalar.subi v18069 c2_i32_6663
  let c64_i32_6664 : BitVec 32 := 64#32
  let v18125 : BitVec 32 := Scalar.muli v18124 c64_i32_6664
  let c0_i32_6665 : BitVec 32 := 0#32
  ![v18125.toNat, 0]
def k0_off34 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6625 : BitVec 32 := 1#32
  let v18069 : BitVec 32 := Scalar.divsi v1 c1_i32_6625
  let c2_i32_6626 : BitVec 32 := 2#32
  let v18070 : BitVec 32 := Scalar.remsi v18069 c2_i32_6626
  let c0_i32_6666 : BitVec 32 := 0#32
  let c0_i32_6667 : BitVec 32 := 0#32
  ![v18070.toNat, 0, 0]
def k0_off35 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6625 : BitVec 32 := 1#32
  let v18069 : BitVec 32 := Scalar.divsi v1 c1_i32_6625
  let c2_i32_6626 : BitVec 32 := 2#32
  let v18070 : BitVec 32 := Scalar.remsi v18069 c2_i32_6626
  let v18110 : Index := Scalar.indexCast v18070
  let c0_6655 : Index := 0#32
  let c0_6656 : Index := 0#32
  ![v18110.toNat, 0, 0]
def k0_cond18 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6625 : BitVec 32 := 1#32
  let v18069 : BitVec 32 := Scalar.divsi v1 c1_i32_6625
  let c15_i32_6629 : BitVec 32 := 15#32
  let v18074 : BitVec 1 := Scalar.cmpi .eq v18069 c15_i32_6629
  let v18075 : BitVec 32 := Scalar.extui v18074
  let c0_i32_6630 : BitVec 32 := 0#32
  let v18076 : BitVec 1 := Scalar.cmpi .ne v18075 c0_i32_6630
  v18076

def k0_off36 (i : grid0.Coords) : Fin 1 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6625 : BitVec 32 := 1#32
  let v18069 : BitVec 32 := Scalar.divsi v1 c1_i32_6625
  let c2_i32_6626 : BitVec 32 := 2#32
  let v18070 : BitVec 32 := Scalar.remsi v18069 c2_i32_6626
  let v18102 : BitVec 32 := Scalar.subi c1_i32_6650 v18070
  ![v18102.toNat]
def k0_off37 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6625 : BitVec 32 := 1#32
  let v18069 : BitVec 32 := Scalar.divsi v1 c1_i32_6625
  let c1_i32_6649 : BitVec 32 := 1#32
  let v18101 : BitVec 32 := Scalar.subi v18069 c1_i32_6649
  let c64_i32_6651 : BitVec 32 := 64#32
  let v18103 : BitVec 32 := Scalar.muli v18101 c64_i32_6651
  let c0_i32_6652 : BitVec 32 := 0#32
  ![v18103.toNat, 0]
def k0_off38 (i : grid0.Coords) : Fin 3 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6625 : BitVec 32 := 1#32
  let v18069 : BitVec 32 := Scalar.divsi v1 c1_i32_6625
  let c2_i32_6626 : BitVec 32 := 2#32
  let v18070 : BitVec 32 := Scalar.remsi v18069 c2_i32_6626
  let v18102 : BitVec 32 := Scalar.subi c1_i32_6650 v18070
  let c0_i32_6653 : BitVec 32 := 0#32
  let c0_i32_6654 : BitVec 32 := 0#32
  ![v18102.toNat, 0, 0]
def k0_off39 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6625 : BitVec 32 := 1#32
  let v18069 : BitVec 32 := Scalar.divsi v1 c1_i32_6625
  let c2_i32_6626 : BitVec 32 := 2#32
  let v18070 : BitVec 32 := Scalar.remsi v18069 c2_i32_6626
  ![v18070.toNat]
def k0_off40 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6625 : BitVec 32 := 1#32
  let v18069 : BitVec 32 := Scalar.divsi v1 c1_i32_6625
  let c64_i32_6655 : BitVec 32 := 64#32
  let v18109 : BitVec 32 := Scalar.muli v18069 c64_i32_6655
  let c0_i32_6656 : BitVec 32 := 0#32
  ![v18109.toNat, 0]
def k0_off41 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6625 : BitVec 32 := 1#32
  let v18069 : BitVec 32 := Scalar.divsi v1 c1_i32_6625
  let c2_i32_6626 : BitVec 32 := 2#32
  let v18070 : BitVec 32 := Scalar.remsi v18069 c2_i32_6626
  let c0_i32_6657 : BitVec 32 := 0#32
  let c0_i32_6658 : BitVec 32 := 0#32
  ![v18070.toNat, 0, 0]
def k0_cond19 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6631 : BitVec 32 := 1#32
  let v18077 : BitVec 32 := Scalar.divsi v1 c1_i32_6631
  let c16_i32_6633 : BitVec 32 := 16#32
  let v18079 : BitVec 1 := Scalar.cmpi .slt v18077 c16_i32_6633
  let v18080 : BitVec 32 := Scalar.extui v18079
  let c0_i32_6634 : BitVec 32 := 0#32
  let v18081 : BitVec 1 := Scalar.cmpi .ne v18080 c0_i32_6634
  v18081

def k0_off42 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6631 : BitVec 32 := 1#32
  let v18077 : BitVec 32 := Scalar.divsi v1 c1_i32_6631
  let c2_i32_6632 : BitVec 32 := 2#32
  let v18078 : BitVec 32 := Scalar.remsi v18077 c2_i32_6632
  ![v18078.toNat]
def k0_off43 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6631 : BitVec 32 := 1#32
  let v18077 : BitVec 32 := Scalar.divsi v1 c1_i32_6631
  let c2_i32_6632 : BitVec 32 := 2#32
  let v18078 : BitVec 32 := Scalar.remsi v18077 c2_i32_6632
  let c0_i32_6650 : BitVec 32 := 0#32
  let c0_i32_6651 : BitVec 32 := 0#32
  ![v18078.toNat, 0, 0]
def k0_off44 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6631 : BitVec 32 := 1#32
  let v18077 : BitVec 32 := Scalar.divsi v1 c1_i32_6631
  let c64_i32_6649 : BitVec 32 := 64#32
  let v18101 : BitVec 32 := Scalar.muli v18077 c64_i32_6649
  let c0_i32_6652 : BitVec 32 := 0#32
  ![v18101.toNat, 0]
def k0_cond20 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6631 : BitVec 32 := 1#32
  let v18077 : BitVec 32 := Scalar.divsi v1 c1_i32_6631
  let c2_i32_6653 : BitVec 32 := 2#32
  let v18107 : BitVec 1 := Scalar.cmpi .sge v18077 c2_i32_6653
  let v18108 : BitVec 32 := Scalar.extui v18107
  let c0_i32_6654 : BitVec 32 := 0#32
  let v18109 : BitVec 1 := Scalar.cmpi .ne v18108 c0_i32_6654
  v18109

def k0_off45 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6631 : BitVec 32 := 1#32
  let v18077 : BitVec 32 := Scalar.divsi v1 c1_i32_6631
  let c2_i32_6632 : BitVec 32 := 2#32
  let v18078 : BitVec 32 := Scalar.remsi v18077 c2_i32_6632
  ![v18078.toNat]
def k0_off46 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6631 : BitVec 32 := 1#32
  let v18077 : BitVec 32 := Scalar.divsi v1 c1_i32_6631
  let c2_i32_6663 : BitVec 32 := 2#32
  let v18124 : BitVec 32 := Scalar.subi v18077 c2_i32_6663
  let c64_i32_6664 : BitVec 32 := 64#32
  let v18125 : BitVec 32 := Scalar.muli v18124 c64_i32_6664
  let c0_i32_6665 : BitVec 32 := 0#32
  ![v18125.toNat, 0]
def k0_off47 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6631 : BitVec 32 := 1#32
  let v18077 : BitVec 32 := Scalar.divsi v1 c1_i32_6631
  let c2_i32_6632 : BitVec 32 := 2#32
  let v18078 : BitVec 32 := Scalar.remsi v18077 c2_i32_6632
  let c0_i32_6666 : BitVec 32 := 0#32
  let c0_i32_6667 : BitVec 32 := 0#32
  ![v18078.toNat, 0, 0]
def k0_off48 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6631 : BitVec 32 := 1#32
  let v18077 : BitVec 32 := Scalar.divsi v1 c1_i32_6631
  let c2_i32_6632 : BitVec 32 := 2#32
  let v18078 : BitVec 32 := Scalar.remsi v18077 c2_i32_6632
  let v18110 : Index := Scalar.indexCast v18078
  let c0_6655 : Index := 0#32
  let c0_6656 : Index := 0#32
  ![v18110.toNat, 0, 0]
def k0_cond21 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6631 : BitVec 32 := 1#32
  let v18077 : BitVec 32 := Scalar.divsi v1 c1_i32_6631
  let c15_i32_6635 : BitVec 32 := 15#32
  let v18082 : BitVec 1 := Scalar.cmpi .eq v18077 c15_i32_6635
  let v18083 : BitVec 32 := Scalar.extui v18082
  let c0_i32_6636 : BitVec 32 := 0#32
  let v18084 : BitVec 1 := Scalar.cmpi .ne v18083 c0_i32_6636
  v18084

def k0_off49 (i : grid0.Coords) : Fin 1 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6631 : BitVec 32 := 1#32
  let v18077 : BitVec 32 := Scalar.divsi v1 c1_i32_6631
  let c2_i32_6632 : BitVec 32 := 2#32
  let v18078 : BitVec 32 := Scalar.remsi v18077 c2_i32_6632
  let v18102 : BitVec 32 := Scalar.subi c1_i32_6650 v18078
  ![v18102.toNat]
def k0_off50 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6631 : BitVec 32 := 1#32
  let v18077 : BitVec 32 := Scalar.divsi v1 c1_i32_6631
  let c1_i32_6649 : BitVec 32 := 1#32
  let v18101 : BitVec 32 := Scalar.subi v18077 c1_i32_6649
  let c64_i32_6651 : BitVec 32 := 64#32
  let v18103 : BitVec 32 := Scalar.muli v18101 c64_i32_6651
  let c0_i32_6652 : BitVec 32 := 0#32
  ![v18103.toNat, 0]
def k0_off51 (i : grid0.Coords) : Fin 3 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6631 : BitVec 32 := 1#32
  let v18077 : BitVec 32 := Scalar.divsi v1 c1_i32_6631
  let c2_i32_6632 : BitVec 32 := 2#32
  let v18078 : BitVec 32 := Scalar.remsi v18077 c2_i32_6632
  let v18102 : BitVec 32 := Scalar.subi c1_i32_6650 v18078
  let c0_i32_6653 : BitVec 32 := 0#32
  let c0_i32_6654 : BitVec 32 := 0#32
  ![v18102.toNat, 0, 0]
def k0_off52 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6631 : BitVec 32 := 1#32
  let v18077 : BitVec 32 := Scalar.divsi v1 c1_i32_6631
  let c2_i32_6632 : BitVec 32 := 2#32
  let v18078 : BitVec 32 := Scalar.remsi v18077 c2_i32_6632
  ![v18078.toNat]
def k0_off53 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6631 : BitVec 32 := 1#32
  let v18077 : BitVec 32 := Scalar.divsi v1 c1_i32_6631
  let c64_i32_6655 : BitVec 32 := 64#32
  let v18109 : BitVec 32 := Scalar.muli v18077 c64_i32_6655
  let c0_i32_6656 : BitVec 32 := 0#32
  ![v18109.toNat, 0]
def k0_off54 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6631 : BitVec 32 := 1#32
  let v18077 : BitVec 32 := Scalar.divsi v1 c1_i32_6631
  let c2_i32_6632 : BitVec 32 := 2#32
  let v18078 : BitVec 32 := Scalar.remsi v18077 c2_i32_6632
  let c0_i32_6657 : BitVec 32 := 0#32
  let c0_i32_6658 : BitVec 32 := 0#32
  ![v18078.toNat, 0, 0]
def k0_cond22 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6637 : BitVec 32 := 1#32
  let v18085 : BitVec 32 := Scalar.divsi v1 c1_i32_6637
  let c16_i32_6639 : BitVec 32 := 16#32
  let v18087 : BitVec 1 := Scalar.cmpi .slt v18085 c16_i32_6639
  let v18088 : BitVec 32 := Scalar.extui v18087
  let c0_i32_6640 : BitVec 32 := 0#32
  let v18089 : BitVec 1 := Scalar.cmpi .ne v18088 c0_i32_6640
  v18089

def k0_off55 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6637 : BitVec 32 := 1#32
  let v18085 : BitVec 32 := Scalar.divsi v1 c1_i32_6637
  let c2_i32_6638 : BitVec 32 := 2#32
  let v18086 : BitVec 32 := Scalar.remsi v18085 c2_i32_6638
  ![v18086.toNat]
def k0_off56 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6637 : BitVec 32 := 1#32
  let v18085 : BitVec 32 := Scalar.divsi v1 c1_i32_6637
  let c2_i32_6638 : BitVec 32 := 2#32
  let v18086 : BitVec 32 := Scalar.remsi v18085 c2_i32_6638
  let c0_i32_6650 : BitVec 32 := 0#32
  let c0_i32_6651 : BitVec 32 := 0#32
  ![v18086.toNat, 0, 0]
def k0_off57 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6637 : BitVec 32 := 1#32
  let v18085 : BitVec 32 := Scalar.divsi v1 c1_i32_6637
  let c64_i32_6649 : BitVec 32 := 64#32
  let v18101 : BitVec 32 := Scalar.muli v18085 c64_i32_6649
  let c0_i32_6652 : BitVec 32 := 0#32
  ![v18101.toNat, 0]
def k0_cond23 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6637 : BitVec 32 := 1#32
  let v18085 : BitVec 32 := Scalar.divsi v1 c1_i32_6637
  let c2_i32_6653 : BitVec 32 := 2#32
  let v18107 : BitVec 1 := Scalar.cmpi .sge v18085 c2_i32_6653
  let v18108 : BitVec 32 := Scalar.extui v18107
  let c0_i32_6654 : BitVec 32 := 0#32
  let v18109 : BitVec 1 := Scalar.cmpi .ne v18108 c0_i32_6654
  v18109

def k0_off58 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6637 : BitVec 32 := 1#32
  let v18085 : BitVec 32 := Scalar.divsi v1 c1_i32_6637
  let c2_i32_6638 : BitVec 32 := 2#32
  let v18086 : BitVec 32 := Scalar.remsi v18085 c2_i32_6638
  ![v18086.toNat]
def k0_off59 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6637 : BitVec 32 := 1#32
  let v18085 : BitVec 32 := Scalar.divsi v1 c1_i32_6637
  let c2_i32_6663 : BitVec 32 := 2#32
  let v18124 : BitVec 32 := Scalar.subi v18085 c2_i32_6663
  let c64_i32_6664 : BitVec 32 := 64#32
  let v18125 : BitVec 32 := Scalar.muli v18124 c64_i32_6664
  let c0_i32_6665 : BitVec 32 := 0#32
  ![v18125.toNat, 0]
def k0_off60 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6637 : BitVec 32 := 1#32
  let v18085 : BitVec 32 := Scalar.divsi v1 c1_i32_6637
  let c2_i32_6638 : BitVec 32 := 2#32
  let v18086 : BitVec 32 := Scalar.remsi v18085 c2_i32_6638
  let c0_i32_6666 : BitVec 32 := 0#32
  let c0_i32_6667 : BitVec 32 := 0#32
  ![v18086.toNat, 0, 0]
def k0_off61 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6637 : BitVec 32 := 1#32
  let v18085 : BitVec 32 := Scalar.divsi v1 c1_i32_6637
  let c2_i32_6638 : BitVec 32 := 2#32
  let v18086 : BitVec 32 := Scalar.remsi v18085 c2_i32_6638
  let v18110 : Index := Scalar.indexCast v18086
  let c0_6655 : Index := 0#32
  let c0_6656 : Index := 0#32
  ![v18110.toNat, 0, 0]
def k0_cond24 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6637 : BitVec 32 := 1#32
  let v18085 : BitVec 32 := Scalar.divsi v1 c1_i32_6637
  let c15_i32_6641 : BitVec 32 := 15#32
  let v18090 : BitVec 1 := Scalar.cmpi .eq v18085 c15_i32_6641
  let v18091 : BitVec 32 := Scalar.extui v18090
  let c0_i32_6642 : BitVec 32 := 0#32
  let v18092 : BitVec 1 := Scalar.cmpi .ne v18091 c0_i32_6642
  v18092

def k0_off62 (i : grid0.Coords) : Fin 1 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6637 : BitVec 32 := 1#32
  let v18085 : BitVec 32 := Scalar.divsi v1 c1_i32_6637
  let c2_i32_6638 : BitVec 32 := 2#32
  let v18086 : BitVec 32 := Scalar.remsi v18085 c2_i32_6638
  let v18102 : BitVec 32 := Scalar.subi c1_i32_6650 v18086
  ![v18102.toNat]
def k0_off63 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6637 : BitVec 32 := 1#32
  let v18085 : BitVec 32 := Scalar.divsi v1 c1_i32_6637
  let c1_i32_6649 : BitVec 32 := 1#32
  let v18101 : BitVec 32 := Scalar.subi v18085 c1_i32_6649
  let c64_i32_6651 : BitVec 32 := 64#32
  let v18103 : BitVec 32 := Scalar.muli v18101 c64_i32_6651
  let c0_i32_6652 : BitVec 32 := 0#32
  ![v18103.toNat, 0]
def k0_off64 (i : grid0.Coords) : Fin 3 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6637 : BitVec 32 := 1#32
  let v18085 : BitVec 32 := Scalar.divsi v1 c1_i32_6637
  let c2_i32_6638 : BitVec 32 := 2#32
  let v18086 : BitVec 32 := Scalar.remsi v18085 c2_i32_6638
  let v18102 : BitVec 32 := Scalar.subi c1_i32_6650 v18086
  let c0_i32_6653 : BitVec 32 := 0#32
  let c0_i32_6654 : BitVec 32 := 0#32
  ![v18102.toNat, 0, 0]
def k0_off65 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6637 : BitVec 32 := 1#32
  let v18085 : BitVec 32 := Scalar.divsi v1 c1_i32_6637
  let c2_i32_6638 : BitVec 32 := 2#32
  let v18086 : BitVec 32 := Scalar.remsi v18085 c2_i32_6638
  ![v18086.toNat]
def k0_off66 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6637 : BitVec 32 := 1#32
  let v18085 : BitVec 32 := Scalar.divsi v1 c1_i32_6637
  let c64_i32_6655 : BitVec 32 := 64#32
  let v18109 : BitVec 32 := Scalar.muli v18085 c64_i32_6655
  let c0_i32_6656 : BitVec 32 := 0#32
  ![v18109.toNat, 0]
def k0_off67 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6637 : BitVec 32 := 1#32
  let v18085 : BitVec 32 := Scalar.divsi v1 c1_i32_6637
  let c2_i32_6638 : BitVec 32 := 2#32
  let v18086 : BitVec 32 := Scalar.remsi v18085 c2_i32_6638
  let c0_i32_6657 : BitVec 32 := 0#32
  let c0_i32_6658 : BitVec 32 := 0#32
  ![v18086.toNat, 0, 0]
def k0_cond25 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6643 : BitVec 32 := 1#32
  let v18093 : BitVec 32 := Scalar.divsi v1 c1_i32_6643
  let c16_i32_6645 : BitVec 32 := 16#32
  let v18095 : BitVec 1 := Scalar.cmpi .slt v18093 c16_i32_6645
  let v18096 : BitVec 32 := Scalar.extui v18095
  let c0_i32_6646 : BitVec 32 := 0#32
  let v18097 : BitVec 1 := Scalar.cmpi .ne v18096 c0_i32_6646
  v18097

def k0_off68 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6643 : BitVec 32 := 1#32
  let v18093 : BitVec 32 := Scalar.divsi v1 c1_i32_6643
  let c2_i32_6644 : BitVec 32 := 2#32
  let v18094 : BitVec 32 := Scalar.remsi v18093 c2_i32_6644
  ![v18094.toNat]
def k0_off69 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6643 : BitVec 32 := 1#32
  let v18093 : BitVec 32 := Scalar.divsi v1 c1_i32_6643
  let c2_i32_6644 : BitVec 32 := 2#32
  let v18094 : BitVec 32 := Scalar.remsi v18093 c2_i32_6644
  let c0_i32_6649 : BitVec 32 := 0#32
  let c0_i32_6650 : BitVec 32 := 0#32
  ![v18094.toNat, 0, 0]
def k0_off70 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6643 : BitVec 32 := 1#32
  let v18093 : BitVec 32 := Scalar.divsi v1 c1_i32_6643
  let c176_i32 : BitVec 32 := 176#32
  let v18101 : BitVec 32 := Scalar.muli v18093 c176_i32
  let c0_i32_6651 : BitVec 32 := 0#32
  ![v18101.toNat, 0]
def k0_cond26 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6643 : BitVec 32 := 1#32
  let v18093 : BitVec 32 := Scalar.divsi v1 c1_i32_6643
  let c2_i32_6652 : BitVec 32 := 2#32
  let v18107 : BitVec 1 := Scalar.cmpi .sge v18093 c2_i32_6652
  let v18108 : BitVec 32 := Scalar.extui v18107
  let c0_i32_6653 : BitVec 32 := 0#32
  let v18109 : BitVec 1 := Scalar.cmpi .ne v18108 c0_i32_6653
  v18109

def k0_off71 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6643 : BitVec 32 := 1#32
  let v18093 : BitVec 32 := Scalar.divsi v1 c1_i32_6643
  let c2_i32_6644 : BitVec 32 := 2#32
  let v18094 : BitVec 32 := Scalar.remsi v18093 c2_i32_6644
  ![v18094.toNat]
def k0_off72 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6643 : BitVec 32 := 1#32
  let v18093 : BitVec 32 := Scalar.divsi v1 c1_i32_6643
  let c2_i32_6662 : BitVec 32 := 2#32
  let v18124 : BitVec 32 := Scalar.subi v18093 c2_i32_6662
  let c176_i32_6663 : BitVec 32 := 176#32
  let v18125 : BitVec 32 := Scalar.muli v18124 c176_i32_6663
  let c0_i32_6664 : BitVec 32 := 0#32
  ![v18125.toNat, 0]
def k0_off73 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6643 : BitVec 32 := 1#32
  let v18093 : BitVec 32 := Scalar.divsi v1 c1_i32_6643
  let c2_i32_6644 : BitVec 32 := 2#32
  let v18094 : BitVec 32 := Scalar.remsi v18093 c2_i32_6644
  let c0_i32_6665 : BitVec 32 := 0#32
  let c0_i32_6666 : BitVec 32 := 0#32
  ![v18094.toNat, 0, 0]
def k0_off74 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6643 : BitVec 32 := 1#32
  let v18093 : BitVec 32 := Scalar.divsi v1 c1_i32_6643
  let c2_i32_6644 : BitVec 32 := 2#32
  let v18094 : BitVec 32 := Scalar.remsi v18093 c2_i32_6644
  let v18110 : Index := Scalar.indexCast v18094
  let c0_6654 : Index := 0#32
  let c0_6655 : Index := 0#32
  ![v18110.toNat, 0, 0]
def k0_cond27 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6643 : BitVec 32 := 1#32
  let v18093 : BitVec 32 := Scalar.divsi v1 c1_i32_6643
  let c15_i32_6647 : BitVec 32 := 15#32
  let v18098 : BitVec 1 := Scalar.cmpi .eq v18093 c15_i32_6647
  let v18099 : BitVec 32 := Scalar.extui v18098
  let c0_i32_6648 : BitVec 32 := 0#32
  let v18100 : BitVec 1 := Scalar.cmpi .ne v18099 c0_i32_6648
  v18100

def k0_off75 (i : grid0.Coords) : Fin 1 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6643 : BitVec 32 := 1#32
  let v18093 : BitVec 32 := Scalar.divsi v1 c1_i32_6643
  let c2_i32_6644 : BitVec 32 := 2#32
  let v18094 : BitVec 32 := Scalar.remsi v18093 c2_i32_6644
  let v18102 : BitVec 32 := Scalar.subi c1_i32_6650 v18094
  ![v18102.toNat]
def k0_off76 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6643 : BitVec 32 := 1#32
  let v18093 : BitVec 32 := Scalar.divsi v1 c1_i32_6643
  let c1_i32_6649 : BitVec 32 := 1#32
  let v18101 : BitVec 32 := Scalar.subi v18093 c1_i32_6649
  let c176_i32 : BitVec 32 := 176#32
  let v18103 : BitVec 32 := Scalar.muli v18101 c176_i32
  let c0_i32_6651 : BitVec 32 := 0#32
  ![v18103.toNat, 0]
def k0_off77 (i : grid0.Coords) : Fin 3 → Nat :=
  let c1_i32_6650 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6643 : BitVec 32 := 1#32
  let v18093 : BitVec 32 := Scalar.divsi v1 c1_i32_6643
  let c2_i32_6644 : BitVec 32 := 2#32
  let v18094 : BitVec 32 := Scalar.remsi v18093 c2_i32_6644
  let v18102 : BitVec 32 := Scalar.subi c1_i32_6650 v18094
  let c0_i32_6652 : BitVec 32 := 0#32
  let c0_i32_6653 : BitVec 32 := 0#32
  ![v18102.toNat, 0, 0]
def k0_off78 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6643 : BitVec 32 := 1#32
  let v18093 : BitVec 32 := Scalar.divsi v1 c1_i32_6643
  let c2_i32_6644 : BitVec 32 := 2#32
  let v18094 : BitVec 32 := Scalar.remsi v18093 c2_i32_6644
  ![v18094.toNat]
def k0_off79 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6643 : BitVec 32 := 1#32
  let v18093 : BitVec 32 := Scalar.divsi v1 c1_i32_6643
  let c176_i32_6654 : BitVec 32 := 176#32
  let v18109 : BitVec 32 := Scalar.muli v18093 c176_i32_6654
  let c0_i32_6655 : BitVec 32 := 0#32
  ![v18109.toNat, 0]
def k0_off80 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6643 : BitVec 32 := 1#32
  let v18093 : BitVec 32 := Scalar.divsi v1 c1_i32_6643
  let c2_i32_6644 : BitVec 32 := 2#32
  let v18094 : BitVec 32 := Scalar.remsi v18093 c2_i32_6644
  let c0_i32_6656 : BitVec 32 := 0#32
  let c0_i32_6657 : BitVec 32 := 0#32
  ![v18094.toNat, 0, 0]
def k0_off81 (i : grid0.Coords) : Fin 3 → Nat :=
  let arg1 : BitVec 32 := BitVec.ofNat 32 (i 1).val
  let c0_i32_5 : BitVec 32 := 0#32
  let v12 : BitVec 1 := Scalar.cmpi .sgt arg1 c0_i32_5
  let c0_i32_6 : BitVec 32 := 0#32
  let c1_i32_7 : BitVec 32 := 1#32
  let v13 : BitVec 32 := Scalar.select v12 c0_i32_6 c1_i32_7
  let v212 : Index := Scalar.indexCast v13
  let c0_92 : Index := 0#32
  let c0_93 : Index := 0#32
  ![v212.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S896x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Proof.Math.lean ====
/- The extended-real arithmetic that the two kernels and their references share: a row normalised by the root of its
   mean square is a row of real numbers whatever the row holds, as long as the gains are real; and the gate's activation
   computed through `tanh` is the one computed through `exp`, at a real gate. -/
module

public import Idealize.ShloMosaic.Lib.Pointwise

@[expose] public section

noncomputable section

namespace Cert.Math

open Idealize.ShloMosaic
open scoped BigOperators

/-- A value that is a real number, neither infinity. -/
def IsReal (a : EReal) : Prop := ∃ r : ℝ, a = (r : EReal)

theorem isReal_coe (r : ℝ) : IsReal (r : EReal) := ⟨r, rfl⟩

theorem isReal_zero : IsReal 0 := ⟨0, rfl⟩

theorem IsReal.mul {a b : EReal} : IsReal a → IsReal b → IsReal (a * b) := by
  rintro ⟨r, rfl⟩ ⟨s, rfl⟩
  exact ⟨r * s, (EReal.coe_mul r s).symm⟩

theorem IsReal.add {a b : EReal} : IsReal a → IsReal b → IsReal (a + b) := by
  rintro ⟨r, rfl⟩ ⟨s, rfl⟩
  exact ⟨r + s, (EReal.coe_add r s).symm⟩

/-- A sum of real numbers taken among the extended reals is their real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem isReal_sum {ι : Type*} (s : Finset ι) (f : ι → EReal) (h : ∀ i, IsReal (f i)) : IsReal (∑ i ∈ s, f i) := by
  choose g hg using h
  exact ⟨∑ i ∈ s, g i, by rw [← sum_coe]; exact Finset.sum_congr rfl fun i _ => hg i⟩

/-- A value other than the two infinities is real. -/
theorem isReal_of_ne {a : EReal} (h1 : a ≠ ⊥) (h2 : a ≠ ⊤) : IsReal a := ⟨a.toReal, (EReal.coe_toReal h2 h1).symm⟩

/-! ## The literals -/

theorem ofBits_1024 : Ideal.ofBits .f32 0x44800000#32 = ((1024 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-! ## The normalised row -/

/-- The factor that normalises a row: one over the root of its mean square, plus the small constant. -/
def rmsScale (x : Fin 1024 → EReal) : EReal :=
  Ideal.rsqrt (Ideal.div (∑ k, x k * x k) (Ideal.ofBits .f32 0x44800000#32) + Ideal.ofBits .f32 0x358637BD#32)

/-- A row normalised and multiplied by its gains. -/
def normed (x g : Fin 1024 → EReal) (k : Fin 1024) : EReal := x k * rmsScale x * g k

theorem mul_self_nonneg' (a : EReal) : 0 ≤ a * a := by
  rcases le_total 0 a with h | h
  · exact mul_nonneg h h
  · exact EReal.mul_nonneg_iff.2 (.inr ⟨h, h⟩)

/-- A row with an infinite entry is normalised by zero. -/
theorem rmsScale_eq_zero (x : Fin 1024 → EReal) (k : Fin 1024) (h : x k = ⊥ ∨ x k = ⊤) : rmsScale x = 0 := by
  have hk : x k * x k = ⊤ := by rcases h with h | h <;> rw [h] <;> rfl
  have hs : ∑ k, x k * x k = ⊤ :=
    top_le_iff.1 (hk ▸ Finset.single_le_sum (f := fun k => x k * x k) (fun i _ => mul_self_nonneg' (x i)) (Finset.mem_univ k))
  obtain ⟨e, he, heq⟩ := ofBits_eps
  unfold rmsScale
  rw [hs, ofBits_1024, heq, Ideal.div_coe (by norm_num), EReal.top_mul_coe_of_pos (by norm_num), EReal.top_add_coe, Ideal.rsqrt_top]

/-- A row of real numbers is normalised by a real number. -/
theorem rmsScale_isReal (x : Fin 1024 → EReal) (h : ∀ k, IsReal (x k)) : IsReal (rmsScale x) := by
  choose r hr using h
  obtain ⟨e, he, heq⟩ := ofBits_eps
  have hs : ∑ k, x k * x k = ((∑ k, r k * r k : ℝ) : EReal) := by
    rw [← sum_coe]; exact Finset.sum_congr rfl fun k _ => by rw [hr k, EReal.coe_mul]
  have h0 : 0 ≤ ∑ k, r k * r k := Finset.sum_nonneg fun k _ => mul_self_nonneg (r k)
  unfold rmsScale
  rw [hs, ofBits_1024, heq, Ideal.div_coe (by norm_num), ← EReal.coe_mul, ← EReal.coe_add, Ideal.rsqrt_coe]
  have hp : 0 < (∑ k, r k * r k) * (1 / 1024) + e := by positivity
  rw [if_neg (not_lt.2 hp.le), if_neg hp.ne']
  exact isReal_coe _

/-- So a normalised row is real whatever the row holds, when its gains are real. -/
theorem normed_isReal (x g : Fin 1024 → EReal) (hg : ∀ k, IsReal (g k)) (k : Fin 1024) : IsReal (normed x g k) := by
  unfold normed
  by_cases h : ∃ j, x j = ⊥ ∨ x j = ⊤
  · obtain ⟨j, hj⟩ := h
    rw [rmsScale_eq_zero x j hj, mul_zero, zero_mul]
    exact isReal_zero
  · push Not at h
    exact ((isReal_of_ne (h k).1 (h k).2).mul (rmsScale_isReal x fun j => isReal_of_ne (h j).1 (h j).2)).mul (hg k)

/-! ## The gate's activation -/

/-- The activation as the kernel computes it, through half the gate's `tanh`. -/
def siluT (g : EReal) : EReal :=
  Ideal.ofBits .f32 0x3F000000#32 * g + Ideal.ofBits .f32 0x3F000000#32 * g * Ideal.tanh (Ideal.ofBits .f32 0x3F000000#32 * g)

/-- The activation as the reference computes it, through the logistic function. -/
def siluE (g : EReal) : EReal :=
  g * Ideal.div 1 (1 + Ideal.exp (-g))

theorem half_add_tanh (r : ℝ) : 1 / 2 * r + 1 / 2 * r * Real.tanh (1 / 2 * r) = r * (1 / (1 + Real.exp (-r))) := by
  have h1 : Real.exp (1 / 2 * r) ≠ 0 := (Real.exp_pos _).ne'
  have e1 : Real.exp (-r) = (Real.exp (1 / 2 * r))⁻¹ * (Real.exp (1 / 2 * r))⁻¹ := by
    rw [← Real.exp_neg, ← Real.exp_add]; congr 1; ring
  have e2 : Real.exp (-(1 / 2 * r)) = (Real.exp (1 / 2 * r))⁻¹ := Real.exp_neg _
  rw [Real.tanh_eq_sinh_div_cosh, Real.sinh_eq, Real.cosh_eq, e1, e2]
  have h0 := Real.exp_pos (1 / 2 * r)
  generalize Real.exp (1 / 2 * r) = t at *
  have h2 : t * t + 1 ≠ 0 := by positivity
  field_simp
  ring

/-- The two activations agree at a real gate. -/
theorem siluT_eq_siluE (g : EReal) (hg : IsReal g) : siluT g = siluE g := by
  obtain ⟨r, rfl⟩ := hg
  have hp : (1 : ℝ) + Real.exp (-r) ≠ 0 := by have := Real.exp_pos (-r); positivity
  unfold siluT siluE
  rw [ofBits_half, ← EReal.coe_mul, Ideal.tanh_coe, ← EReal.coe_mul, ← EReal.coe_add, half_add_tanh, ← EReal.coe_neg,
    Ideal.exp_coe, ← EReal.coe_one, ← EReal.coe_add, Ideal.div_coe hp, ← EReal.coe_mul, ← EReal.coe_mul, one_mul]

end Cert.Math

end
-- ==== Proof.FfnTile.lean ====
/- The feed-forward kernel's payloads read at an index: what one 256-row tile of a block computes, row by row. -/
module

public import proofs.«01_k».proof.Proof.Math
public import proofs.«01_k».proof.Proof.Gen.Kernel2Ideal.Frame

@[expose] public section

noncomputable section

namespace Cert.Ffn

open Idealize.ShloMosaic Cert.Kernel2Ideal Cert.Kernel2Ideal.Gen Cert.Math
open scoped BigOperators

/-- A normalised tile, read at an index: its row normalised. -/
theorem pay4_apply (v : Vec Ideal S256x1024 .f32) (g : Vec Ideal S1x1024 .f32) (r : Fin 256) (c : Fin 1024) :
    k0_pay4 v g (ix2 r c) = normed (fun k => v (ix2 r k)) (fun k => g (ix2 0 k)) c := by
  pointwise [k0_pay4, k0_pay3]
  rfl

/-- The final normalisation of a tile, read at an index. -/
theorem pay31_apply (v : FVec Ideal S256x1024 .f32) (g : Vec Ideal S1x1024 .f32) (r : Fin 256) (c : Fin 1024) :
    k0_pay31 v g (ix2 r c) = normed (fun k => v (ix2 r k)) (fun k => g (ix2 0 k)) c := by
  pointwise [k0_pay31]
  rfl

/-- The hidden values of one chunk of a tile, read at an index: the gate's activation times the other half. -/
theorem pay12_apply (n : FVec Ideal S256x1024 .bf16) (wg wu : Vec Ideal S1024x1024 .bf16) (r : Fin 256) (j : Fin 1024) :
    k0_pay12 n wg wu (ix2 r j)
      = siluT (∑ k : Fin 1024, n (ix2 r k) * wg (ix2 k j)) * ∑ k : Fin 1024, n (ix2 r k) * wu (ix2 k j) := by
  pointwise [k0_pay12]
  rfl

theorem pay13_apply (a : FVec Ideal S256x1024 .f32) (h : FVec Ideal S256x1024 .bf16) (wd : Vec Ideal S1024x1024 .bf16) (r : Fin 256) (c : Fin 1024) :
    k0_pay13 a h wd (ix2 r c) = a (ix2 r c) + ∑ j : Fin 1024, h (ix2 r j) * wd (ix2 j c) := by
  pointwise [k0_pay13]

theorem pay26_apply (n : FVec Ideal S256x1024 .bf16) (wg wu : Vec Ideal S1024x768 .bf16) (r : Fin 256) (j : Fin 768) :
    k0_pay26 n wg wu (ix2 r j)
      = siluT (∑ k : Fin 1024, n (ix2 r k) * wg (ix2 k j)) * ∑ k : Fin 1024, n (ix2 r k) * wu (ix2 k j) := by
  pointwise [k0_pay26]
  rfl

theorem pay27_apply (a : FVec Ideal S256x1024 .f32) (h : FVec Ideal S256x768 .bf16) (wd : Vec Ideal S768x1024 .bf16) (r : Fin 256) (c : Fin 1024) :
    k0_pay27 a h wd (ix2 r c) = a (ix2 r c) + ∑ j : Fin 768, h (ix2 r j) * wd (ix2 j c) := by
  pointwise [k0_pay27]

end Cert.Ffn

end
-- ==== Proof.FfnBlock.lean ====
/- What the feed-forward kernel's body leaves in its 1024-row output block: every row is the same function of that row of
   the input block, of the gains and of the whole weight matrices (`ffnRow`). The block is stored as four 256-row tiles,
   each accumulating the down projection over three chunks of the hidden width. -/
module

public import proofs.«01_k».proof.Proof.FfnTile

@[expose] public section

noncomputable section

namespace Cert.Ffn

open Idealize.ShloMosaic Cert.Kernel2Ideal Cert.Kernel2Ideal.Gen Cert.Math
open scoped BigOperators

/-! ## The row function -/

/-- One hidden value: the activation (`act`) of its gate column times its up column. The 5632 columns of the weight
    are the 2816 gate columns, then the 2816 up columns. -/
def hidden (act : EReal → EReal) (n : Fin 1024 → EReal) (w : Fin 1024 → Fin 5632 → EReal) (j : Fin 2816) : EReal :=
  act (∑ k, n k * w k ⟨j.val, by omega⟩) * ∑ k, n k * w k ⟨2816 + j.val, by omega⟩

/-- A row plus its feed-forward. -/
def mixed (act : EReal → EReal) (x g : Fin 1024 → EReal) (w : Fin 1024 → Fin 5632 → EReal) (wd : Fin 2816 → Fin 1024 → EReal)
    (c : Fin 1024) : EReal :=
  x c + ∑ j, hidden act (normed x g) w j * wd j c

/-- The result's row: a row plus its feed-forward, normalised. -/
def ffnRow (act : EReal → EReal) (x g : Fin 1024 → EReal) (w : Fin 1024 → Fin 5632 → EReal) (wd : Fin 2816 → Fin 1024 → EReal)
    (gf : Fin 1024 → EReal) (c : Fin 1024) : EReal :=
  normed (mixed act x g w wd) gf c

/-- A sum over the hidden width, cut into the kernel's three chunks. -/
theorem sum_chunks (f : Fin 2816 → EReal) :
    ∑ j, f j = ∑ j : Fin 1024, f ⟨j.val, by omega⟩ + ∑ j : Fin 1024, f ⟨1024 + j.val, by omega⟩ + ∑ j : Fin 768, f ⟨2048 + j.val, by omega⟩ := by
  rw [show ∑ j, f j = ∑ j : Fin (1024 + 1024 + 768), f j from rfl, Fin.sum_univ_add, Fin.sum_univ_add]
  rfl

/-! ## One tile -/

/-- A tile's payload, from its rows, the gains and the nine blocks of the weights. -/
def tile (x : Vec Ideal S256x1024 .f32) (g : Vec Ideal S1x1024 .f32) (wg0 wu0 wd0 wg1 wu1 wd1 : Vec Ideal S1024x1024 .bf16)
    (wg2 wu2 : Vec Ideal S1024x768 .bf16) (wd2 : Vec Ideal S768x1024 .bf16) (gf : Vec Ideal S1x1024 .f32) : FVec Ideal S256x1024 .f32 :=
  k0_pay31 (k0_pay27 (k0_pay13 (k0_pay13 (k0_pay3 x) (k0_pay12 (k0_pay4 x g) wg0 wu0) wd0) (k0_pay12 (k0_pay4 x g) wg1 wu1) wd1)
    (k0_pay26 (k0_pay4 x g) wg2 wu2) wd2) gf

theorem pay3_apply (x : Vec Ideal S256x1024 .f32) (r : Fin 256) (c : Fin 1024) : k0_pay3 x (ix2 r c) = x (ix2 r c) := by
  pointwise [k0_pay3]

/-- A tile read at an index is the row function, when its blocks are the weights' columns and rows. -/
theorem tile_apply (x : Vec Ideal S256x1024 .f32) (g : Vec Ideal S1x1024 .f32) (wg0 wu0 wd0 wg1 wu1 wd1 : Vec Ideal S1024x1024 .bf16)
    (wg2 wu2 : Vec Ideal S1024x768 .bf16) (wd2 : Vec Ideal S768x1024 .bf16) (gf : Vec Ideal S1x1024 .f32)
    (w : Fin 1024 → Fin 5632 → EReal) (wd : Fin 2816 → Fin 1024 → EReal)
    (hg0 : ∀ k (j : Fin 1024), wg0 (ix2 k j) = w k ⟨j.val, by omega⟩) (hu0 : ∀ k (j : Fin 1024), wu0 (ix2 k j) = w k ⟨2816 + j.val, by omega⟩)
    (hg1 : ∀ k (j : Fin 1024), wg1 (ix2 k j) = w k ⟨1024 + j.val, by omega⟩) (hu1 : ∀ k (j : Fin 1024), wu1 (ix2 k j) = w k ⟨2816 + (1024 + j.val), by omega⟩)
    (hg2 : ∀ k (j : Fin 768), wg2 (ix2 k j) = w k ⟨2048 + j.val, by omega⟩) (hu2 : ∀ k (j : Fin 768), wu2 (ix2 k j) = w k ⟨2816 + (2048 + j.val), by omega⟩)
    (hd0 : ∀ (j : Fin 1024) c, wd0 (ix2 j c) = wd ⟨j.val, by omega⟩ c) (hd1 : ∀ (j : Fin 1024) c, wd1 (ix2 j c) = wd ⟨1024 + j.val, by omega⟩ c)
    (hd2 : ∀ (j : Fin 768) c, wd2 (ix2 j c) = wd ⟨2048 + j.val, by omega⟩ c) (r : Fin 256) (c : Fin 1024) :
    tile x g wg0 wu0 wd0 wg1 wu1 wd1 wg2 wu2 wd2 gf (ix2 r c)
      = ffnRow siluT (fun k => x (ix2 r k)) (fun k => g (ix2 0 k)) w wd (fun k => gf (ix2 0 k)) c := by
  unfold tile ffnRow
  rw [pay31_apply]
  congr 1
  funext c
  simp only [pay27_apply, pay26_apply, pay13_apply, pay12_apply, pay3_apply, pay4_apply, hg0, hu0, hg1, hu1, hg2, hu2, hd0, hd1, hd2]
  unfold mixed
  rw [sum_chunks, ← add_assoc, ← add_assoc]
  rfl

/-! ## The block -/

theorem ld_off {N M n m : ℕ} {e : EltTy} (v : Vec Ideal ⟨2, ![N, M]⟩ e) (o p : ℕ) (hb) (r : Fin n) (c : Fin m) (hr : o + r.val < N) (hc : p + c.val < M) :
    View.ld v (Rect.unit (s := ⟨2, ![N, M]⟩) ![o, p] (Shape.size ⟨2, ![n, m]⟩) hb) (ix2 r c) = v (ix2 ⟨o + r.val, hr⟩ ⟨p + c.val, hc⟩) := by
  refine congrArg v (funext fun a => Fin.ext ?_)
  match a with
  | ⟨0, _⟩ => show o + 1 * r.val = o + r.val; omega
  | ⟨1, _⟩ => show p + 1 * c.val = p + c.val; omega

section
variable (x0 : Vec Ideal S1024x1024 .f32) (x1 : Vec Ideal S1x1024 .f32) (x2 : Vec Ideal S1024x5632 .bf16) (x3 : Vec Ideal S2816x1024 .bf16)
  (x4 : Vec Ideal S1x1024 .f32)

/-- The tile whose rows are `x`, over the blocks of the weights. -/
abbrev tileOf (x : Vec Ideal S256x1024 .f32) : FVec Ideal S256x1024 .f32 :=
  tile x (View.ld x1 r0_1) (View.ld x2 r0_5) (View.ld x2 r0_6) (View.ld x3 r0_7) (View.ld x2 r0_8) (View.ld x2 r0_9) (View.ld x3 r0_10)
    (View.ld x2 r0_11) (View.ld x2 r0_12) (View.ld x3 r0_13) (View.ld x4 r0_1)

/-- The block is four such tiles: the four printed texts are one. -/
theorem out_eq_tiles : out0_5 x0 x1 x2 x3 x4 = View.canon [⟨r0_4, tileOf x1 x2 x3 x4 (View.ld x0 r0_4)⟩,
    ⟨r0_3, tileOf x1 x2 x3 x4 (View.ld x0 r0_3)⟩, ⟨r0_2, tileOf x1 x2 x3 x4 (View.ld x0 r0_2)⟩, ⟨r0_0, tileOf x1 x2 x3 x4 (View.ld x0 r0_0)⟩] := rfl

theorem tileOf_apply (x : Vec Ideal S256x1024 .f32) (r : Fin 256) (c : Fin 1024) :
    tileOf x1 x2 x3 x4 x (ix2 r c)
      = ffnRow siluT (fun k => x (ix2 r k)) (fun k => x1 (ix2 0 k)) (fun k j => x2 (ix2 k j)) (fun j c => x3 (ix2 j c)) (fun k => x4 (ix2 0 k)) c := by
  have h1 : ∀ (v : Vec Ideal S1x1024 .f32) k, View.ld v r0_1 (ix2 0 k) = v (ix2 0 k) := fun v k =>
    (ld_off v 0 0 _ 0 k (by decide) (by omega)).trans (congrArg v (by simp))
  refine (tile_apply x _ _ _ _ _ _ _ _ _ _ _ (fun k j => x2 (ix2 k j)) (fun j c => x3 (ix2 j c)) ?_ ?_ ?_ ?_ ?_ ?_ ?_ ?_ ?_ r c).trans ?_
  · exact fun k j => (ld_off x2 0 0 _ k j (by omega) (by omega)).trans (congrArg x2 (by simp))
  · exact fun k j => (ld_off x2 0 2816 _ k j (by omega) (by omega)).trans (congrArg x2 (by simp))
  · exact fun k j => (ld_off x2 0 1024 _ k j (by omega) (by omega)).trans (congrArg x2 (by simp))
  · exact fun k j => (ld_off x2 0 3840 _ k j (by omega) (by omega)).trans (congrArg x2 (by simp [← Nat.add_assoc]))
  · exact fun k j => (ld_off x2 0 2048 _ k j (by omega) (by omega)).trans (congrArg x2 (by simp))
  · exact fun k j => (ld_off x2 0 4864 _ k j (by omega) (by omega)).trans (congrArg x2 (by simp [← Nat.add_assoc]))
  · exact fun j c => (ld_off x3 0 0 _ j c (by omega) (by omega)).trans (congrArg x3 (by simp))
  · exact fun j c => (ld_off x3 1024 0 _ j c (by omega) (by omega)).trans (congrArg x3 (by simp))
  · exact fun j c => (ld_off x3 2048 0 _ j c (by omega) (by omega)).trans (congrArg x3 (by simp))
  · exact congrArg₂ (fun a b => ffnRow siluT (fun k => x (ix2 r k)) a (fun k j => x2 (ix2 k j)) (fun j c => x3 (ix2 j c)) b c)
      (funext (h1 x1)) (funext (h1 x4))

/-- A piece that covers the index's row gives it, the row counted from the piece's first. -/
theorem canon_at (o : ℕ) (hb) (p : Vec Ideal S256x1024 .f32) (L : List (View.Piece (Elt Ideal) S1024x1024 .f32)) (r : Fin 256) (c : Fin 1024)
    (hr : o + r.val < 1024) :
    View.canon (⟨Rect.unit (s := S1024x1024) ![o, 0] S256x1024.size hb, p⟩ :: L) (ix2 ⟨o + r.val, hr⟩ c) = p (ix2 r c) := by
  rw [← View.canon_cons_emb (Rect.unit (s := S1024x1024) ![o, 0] S256x1024.size hb) p L (ix2 r c)]
  refine congrArg _ (funext fun a => Fin.ext ?_)
  match a with
  | ⟨0, _⟩ => show o + r.val = o + 1 * r.val; omega
  | ⟨1, _⟩ => show c.val = 0 + 1 * c.val; omega

/-- A piece whose rows all lie elsewhere does not. -/
theorem canon_off (o : ℕ) (hb) (p : Vec Ideal S256x1024 .f32) (L : List (View.Piece (Elt Ideal) S1024x1024 .f32)) (r c : Fin 1024)
    (h : r.val < o ∨ o + 256 ≤ r.val) :
    View.canon (⟨Rect.unit (s := S1024x1024) ![o, 0] S256x1024.size hb, p⟩ :: L) (ix2 r c) = View.canon L (ix2 r c) := by
  refine View.canon_cons_of_not_mem _ L fun hm => ?_
  rw [Rect.mem_set_unit] at hm
  have h0 : o ≤ r.val ∧ r.val < o + 256 := hm 0
  omega

theorem row_split (o : ℕ) (r : Fin 1024) (h : o ≤ r.val) (h' : r.val < o + 256) : ∃ (l : Fin 256) (hl : o + l.val < 1024), r = ⟨o + l.val, hl⟩ :=
  ⟨⟨r.val - o, by omega⟩, by show o + (r.val - o) < 1024; omega, Fin.ext (by show r.val = o + (r.val - o); omega)⟩

/-- THE BLOCK, row by row. -/
theorem out_apply (r c : Fin 1024) :
    out0_5 x0 x1 x2 x3 x4 (ix2 r c)
      = ffnRow siluT (fun k => x0 (ix2 r k)) (fun k => x1 (ix2 0 k)) (fun k j => x2 (ix2 k j)) (fun j c => x3 (ix2 j c)) (fun k => x4 (ix2 0 k)) c := by
  have key : ∀ (o : ℕ) (hb) (l : Fin 256) (ho : o + l.val < 1024),
      tileOf x1 x2 x3 x4 (View.ld x0 (Rect.unit (s := S1024x1024) ![o, 0] S256x1024.size hb)) (ix2 l c)
        = ffnRow siluT (fun k => x0 (ix2 ⟨o + l.val, ho⟩ k)) (fun k => x1 (ix2 0 k)) (fun k j => x2 (ix2 k j)) (fun j c => x3 (ix2 j c))
            (fun k => x4 (ix2 0 k)) c := fun o hb l ho => by
    rw [tileOf_apply]
    congr 1
    exact funext fun k => (ld_off x0 o 0 hb l k ho (by omega)).trans (congrArg x0 (by simp))
  rw [out_eq_tiles]
  have hr := r.isLt
  by_cases c3 : 768 ≤ r.val
  · obtain ⟨l, h, rfl⟩ := row_split 768 r (by omega) (by omega)
    exact (canon_at 768 _ _ _ l c _).trans (key 768 _ l _)
  rw [canon_off 768 _ _ _ r c (by omega)]
  by_cases c2 : 512 ≤ r.val
  · obtain ⟨l, h, rfl⟩ := row_split 512 r (by omega) (by omega)
    exact (canon_at 512 _ _ _ l c _).trans (key 512 _ l _)
  rw [canon_off 512 _ _ _ r c (by omega)]
  by_cases c1 : 256 ≤ r.val
  · obtain ⟨l, h, rfl⟩ := row_split 256 r (by omega) (by omega)
    exact (canon_at 256 _ _ _ l c _).trans (key 256 _ l _)
  rw [canon_off 256 _ _ _ r c (by omega)]
  obtain ⟨l, h, rfl⟩ := row_split 0 r (by omega) (by omega)
  exact (canon_at 0 _ _ _ l c _).trans (key 0 _ l _)

end

end Cert.Ffn

end
-- ==== Proof.FfnArray.lean ====
/- The feed-forward kernel's whole result: every row of the 16384 is `ffnRow` of that row of the input and of the weights as
   the caller passes them. -/
module

public import proofs.«01_k».proof.Proof.FfnBlock
public import proofs.«01_k».proof.Proof.Gen.Kernel2Ideal.Value

@[expose] public section

noncomputable section

namespace Cert.Ffn

open Idealize.ShloMosaic Idealize.ShloMosaic.TcCoe Idealize.SL.Sem Cert.Kernel2Ideal Cert.Kernel2Ideal.Gen Cert.Math
open Idealize.ShloMosaic.StableHlo
open scoped BigOperators

/-- The whole result from the five arguments: rows are the 8 × 2048 rows of the input, in order. -/
def ffnOut (act : EReal → EReal) (x : Vec Ideal S8x2048x1024 .f32) (g : Vec Ideal S1x1024 .f32) (w : Vec Ideal S1x1024x5632 .f32)
    (wd : Vec Ideal S1x2816x1024 .f32) (gf : Vec Ideal S1024 .f32) (i : S16384x1024.Idx) : EReal :=
  ffnRow act (fun k => x (ix3 ⟨(i 0).val / 2048, by have : (i 0).val < 16384 := (i 0).isLt; omega⟩ ⟨(i 0).val % 2048, by omega⟩ k))
    (fun k => g (ix2 0 k)) (fun k j => w (ix3 0 k j)) (fun j c => wd (ix3 0 j c)) (fun k => gf (ix1 k)) (i 1)

variable (m : (ℓ : Loc nD τ sig) → Buf (Elt Ideal) ℓ) (c : Dev nD)

/-! ## The arrays as the launch finds them: the caller's, reshaped -/

theorem V_v0 (r : Fin 16384) (k : Fin 1024) : V m c main_v0 (ix2 r k)
    = m (c.tc.loc main_arg0) (ix3 ⟨r.val / 2048, by omega⟩ ⟨r.val % 2048, by omega⟩ k) := by
  have h : V m c main_v0 = shapeCast S16384x1024 (m (c.tc.loc main_arg0)) shapeCasts_S8x2048x1024_S16384x1024 := by
    unfold_abbrev_sides; after_results_simp <;> rfl
  rw [h]
  refine shapeCast_apply (s := S8x2048x1024) _ _ _ _ ?_
  rewrite [Shape.rowMajor_val_three, Shape.rowMajor_val_two]
  show (r.val / 2048 * 2048 + r.val % 2048) * 1024 + k.val = r.val * 1024 + k.val
  omega

theorem V_v2 (k : Fin 1024) : V m c main_v2 (ix2 0 k) = m (c.tc.loc main_arg1) (ix2 0 k) := by
  have h : V m c main_v2 = shapeCast S1x1024 (shapeCast S1024 (m (c.tc.loc main_arg1)) shapeCasts_S1x1024_S1024) shapeCasts_S1024_S1x1024 := by
    unfold_abbrev_sides; after_results_simp <;> rfl
  rw [h]
  refine (shapeCast_apply (s := S1024) _ _ _ (ix1 k) ?_).trans (shapeCast_apply (s := S1x1024) _ _ _ _ ?_)
  all_goals rewrite [Shape.rowMajor_val_two, Shape.rowMajor_val_one]; show _ = _; simp

theorem V_v4 (k : Fin 1024) (j : Fin 5632) : V m c main_v4 (ix2 k j) = m (c.tc.loc main_arg2) (ix3 0 k j) := by
  have h : V m c main_v4 = shapeCast S1024x5632 (m (c.tc.loc main_arg2)) shapeCasts_S1x1024x5632_S1024x5632 := by
    unfold_abbrev_sides; after_results_simp <;> rfl
  rw [h]
  refine shapeCast_apply (s := S1x1024x5632) _ _ _ _ ?_
  rewrite [Shape.rowMajor_val_three, Shape.rowMajor_val_two]
  show (0 * 1024 + k.val) * 5632 + j.val = k.val * 5632 + j.val
  omega

theorem V_v6 (j : Fin 2816) (k : Fin 1024) : V m c main_v6 (ix2 j k) = m (c.tc.loc main_arg3) (ix3 0 j k) := by
  have h : V m c main_v6 = shapeCast S2816x1024 (m (c.tc.loc main_arg3)) shapeCasts_S1x2816x1024_S2816x1024 := by
    unfold_abbrev_sides; after_results_simp <;> rfl
  rw [h]
  refine shapeCast_apply (s := S1x2816x1024) _ _ _ _ ?_
  rewrite [Shape.rowMajor_val_three, Shape.rowMajor_val_two]
  show (0 * 2816 + j.val) * 1024 + k.val = j.val * 1024 + k.val
  omega

theorem V_v7 (k : Fin 1024) : V m c main_v7 (ix2 0 k) = m (c.tc.loc main_arg4) (ix1 k) := by
  have h : V m c main_v7 = shapeCast S1x1024 (m (c.tc.loc main_arg4)) shapeCasts_S1024_S1x1024 := by
    unfold_abbrev_sides; after_results_simp <;> rfl
  rw [h]
  refine shapeCast_apply (s := S1024) _ _ _ _ ?_
  rewrite [Shape.rowMajor_val_two, Shape.rowMajor_val_one]; show _ = _; simp

/-! ## The windows' blocks -/

theorem index_eq : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_5.flush t = true :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_5.flush t = true)

theorem blk0 (t : Fin cfg0.N) (r k : Fin 1024) (h : 1024 * t.val + r.val < 16384) :
    iblk m c 0 t (ix2 r k) = V m c main_v0 (ix2 ⟨1024 * t.val + r.val, h⟩ k) := by
  refine congrArg (V m c main_v0) (funext fun a => Fin.ext ?_)
  match a with
  | ⟨0, _⟩ => show win0_0.index t 0 * 1024 + 1 * r.val = 1024 * t.val + r.val; rw [(index_eq t).1]; show t.val * 1024 + 1 * r.val = _; omega
  | ⟨1, _⟩ => show win0_0.index t 1 * 1024 + 1 * k.val = k.val; rw [(index_eq t).1]; show 0 * 1024 + 1 * k.val = _; omega

theorem blk1 (t : Fin cfg0.N) (k : Fin 1024) : iblk m c 1 t (ix2 0 k) = V m c main_v2 (ix2 0 k) := by
  refine congrArg (V m c main_v2) (funext fun a => Fin.ext ?_)
  match a with
  | ⟨0, _⟩ => show win0_1.index t 0 * 1 + 1 * 0 = 0; rw [(index_eq t).2.1]; rfl
  | ⟨1, _⟩ => show win0_1.index t 1 * 1024 + 1 * k.val = k.val; rw [(index_eq t).2.1]; show 0 * 1024 + 1 * k.val = _; omega

theorem blk2 (t : Fin cfg0.N) (k : Fin 1024) (j : Fin 5632) : iblk m c 2 t (ix2 k j) = V m c main_v4 (ix2 k j) := by
  refine congrArg (V m c main_v4) (funext fun a => Fin.ext ?_)
  match a with
  | ⟨0, _⟩ => show win0_2.index t 0 * 1024 + 1 * k.val = k.val; rw [(index_eq t).2.2.1]; show 0 * 1024 + 1 * k.val = _; omega
  | ⟨1, _⟩ => show win0_2.index t 1 * 5632 + 1 * j.val = j.val; rw [(index_eq t).2.2.1]; show 0 * 5632 + 1 * j.val = _; omega

theorem blk3 (t : Fin cfg0.N) (j : Fin 2816) (k : Fin 1024) : iblk m c 3 t (ix2 j k) = V m c main_v6 (ix2 j k) := by
  refine congrArg (V m c main_v6) (funext fun a => Fin.ext ?_)
  match a with
  | ⟨0, _⟩ => show win0_3.index t 0 * 2816 + 1 * j.val = j.val; rw [(index_eq t).2.2.2.1]; show 0 * 2816 + 1 * j.val = _; omega
  | ⟨1, _⟩ => show win0_3.index t 1 * 1024 + 1 * k.val = k.val; rw [(index_eq t).2.2.2.1]; show 0 * 1024 + 1 * k.val = _; omega

theorem blk4 (t : Fin cfg0.N) (k : Fin 1024) : iblk m c 4 t (ix2 0 k) = V m c main_v7 (ix2 0 k) := by
  refine congrArg (V m c main_v7) (funext fun a => Fin.ext ?_)
  match a with
  | ⟨0, _⟩ => show win0_4.index t 0 * 1 + 1 * 0 = 0; rw [(index_eq t).2.2.2.2.1]; rfl
  | ⟨1, _⟩ => show win0_4.index t 1 * 1024 + 1 * k.val = k.val; rw [(index_eq t).2.2.2.2.1]; show 0 * 1024 + 1 * k.val = _; omega

/-! ## The array -/

/-- The kernel's result from the arguments in memory. -/
def result : Buf (Elt Ideal) ((c : Thread nD τ).loc main_v8) :=
  ffnOut siluT (m (c.tc.loc main_arg0)) (m (c.tc.loc main_arg1)) (m (c.tc.loc main_arg2)) (m (c.tc.loc main_arg3)) (m (c.tc.loc main_arg4))

/-- A grid point's block, row by row, is the result's rows. -/
theorem block_eq (t : Fin cfg0.N) (r k : Fin 1024) (h : 1024 * t.val + r.val < 16384) :
    out0_5 (iblk m c 0 t) (iblk m c 1 t) (iblk m c 2 t) (iblk m c 3 t) (iblk m c 4 t) (ix2 r k)
      = result m c (ix2 (⟨1024 * t.val + r.val, h⟩ : Fin 16384) k) := by
  rw [out_apply]
  have e0 : (fun k => iblk m c 0 t (ix2 r k)) = _ := funext fun k => (blk0 m c t r k h).trans (V_v0 m c _ k)
  have e1 : (fun k => iblk m c 1 t (ix2 0 k)) = _ := funext fun k => (blk1 m c t k).trans (V_v2 m c k)
  have e2 : (fun k j => iblk m c 2 t (ix2 k j)) = _ := funext₂ fun k j => (blk2 m c t k j).trans (V_v4 m c k j)
  have e3 : (fun j k => iblk m c 3 t (ix2 j k)) = _ := funext₂ fun j k => (blk3 m c t j k).trans (V_v6 m c j k)
  have e4 : (fun k => iblk m c 4 t (ix2 0 k)) = _ := funext fun k => (blk4 m c t k).trans (V_v7 m c k)
  exact (congr (congr (congr (congr (congrArg (ffnRow siluT) e0) e1) e2) e3) e4 ▸ rfl)

/-- What each grid point writes back is its block of the result. -/
theorem flushed_eq (t : Fin cfg0.N) : (dats m 0 c).flushed 5 t = ((cfg0.win 5).blk t).view.read (Elt Ideal) (result m c) := by
  rw [Value.flushed5]
  have ht : t.val < 16 := t.isLt
  funext y
  have hy : (y 0).val < 1024 := (y 0).isLt
  have he : ((cfg0.win 5).blk t).view.emb y = ix2 (⟨1024 * t.val + (y 0).val, by omega⟩ : Fin 16384) (y 1) := funext fun a => Fin.ext (by
    match a with
    | ⟨0, _⟩ => show win0_5.index t 0 * 1024 + 1 * (y 0).val = 1024 * t.val + (y 0).val; rw [(index_eq t).2.2.2.2.2.1]; show t.val * 1024 + 1 * _ = _; omega
    | ⟨1, _⟩ => show win0_5.index t 1 * 1024 + 1 * (y 1).val = (y 1).val; rw [(index_eq t).2.2.2.2.2.1]; show 0 * 1024 + 1 * (y 1).val = _; omega)
  have hx : (cfg0.win 5).xinj (grid0.coords t) y = ix2 (y 0) (y 1) := funext fun a => Fin.ext (by
    match a with
    | ⟨0, _⟩ => rfl
    | ⟨1, _⟩ => rfl)
  rw [View.read_apply, he]
  refine Eq.trans ?_ (block_eq m c t (y 0) (y 1) _)
  exact congrArg (out0_5 (iblk m c 0 t) (iblk m c 1 t) (iblk m c 2 t) (iblk m c 3 t) (iblk m c 4 t)) hx

theorem mem_blk (t : Fin cfg0.N) (i : S16384x1024.Idx) : i ∈ ((cfg0.win 5).blk t).view.set
    ↔ ∀ a : Fin 2, win0_5.index t a * S1024x1024.size a ≤ (i a).val ∧ (i a).val < win0_5.index t a * S1024x1024.size a + S1024x1024.size a := by
  show i ∈ ((View.whole main_v8).slice (win0_5.rect t)).set ↔ _
  rw [View.set_slice_whole, Rect.mem_set_unit]
  exact Iff.rfl

/-- Every row is in some grid point's block. -/
theorem covered (i : S16384x1024.Idx) : ∃ t : Fin cfg0.N, (cfg0.win 5).flush t = true ∧ i ∈ ((cfg0.win 5).blk t).view.set := by
  have h0 : (i 0).val < 16384 := (i 0).isLt
  have h1 : (i 1).val < 1024 := (i 1).isLt
  refine ⟨⟨(i 0).val / 1024, by show _ < 16; omega⟩, (index_eq _).2.2.2.2.2.2, ?_⟩
  rw [mem_blk]
  intro a
  match a with
  | ⟨0, _⟩ =>
    show win0_5.index _ 0 * 1024 ≤ (i 0).val ∧ (i 0).val < win0_5.index _ 0 * 1024 + 1024
    rw [(index_eq _).2.2.2.2.2.1]; show (i 0).val / 1024 * 1024 ≤ _ ∧ _ < (i 0).val / 1024 * 1024 + 1024; omega
  | ⟨1, _⟩ =>
    show win0_5.index _ 1 * 1024 ≤ (i 1).val ∧ (i 1).val < win0_5.index _ 1 * 1024 + 1024
    rw [(index_eq _).2.2.2.2.2.1]; show 0 * 1024 ≤ _ ∧ _ < 0 * 1024 + 1024; omega

/-- THE ARRAY after the run. -/
theorem final : (dats m 0 c).arrAt 5 cfg0.N = result m c :=
  (dats m 0 c).arrAt_eq_of_cover 5 _ (fun t _ => flushed_eq m c t) (covered)

end Cert.Ffn

end
-- ==== Proof.FfnRef.lean ====
/- The feed-forward reference read at an index: the same row function (`ffnOut`), its activation through the logistic. -/
module

public import proofs.«01_k».proof.Proof.FfnArray
public import proofs.«01_k».proof.Proof.Gen.Reference2Ideal.Read

@[expose] public section

noncomputable section

namespace Cert.Ffn

open Idealize.ShloMosaic Cert.Reference2Ideal Cert.Reference2Ideal.Gen Cert.Reference2Ideal.Read Cert.Math
open scoped BigOperators

variable (x0 : Vec Ideal S8x2048x1024 .f32) (x1 : Vec Ideal S1x1024 .f32) (x2 : Vec Ideal S1x1024x5632 .f32)
  (x3 : Vec Ideal S1x2816x1024 .f32) (x4 : Vec Ideal S1024 .f32)

theorem ref_normed (b : Fin 8) (s : Fin 2048) (k : Fin 1024) :
    val_main_v13 (F := Ideal) x0 x1 (ix3 b s k) = normed (fun k => x0 (ix3 b s k)) (fun k => x1 (ix2 0 k)) k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem ref_proj (b : Fin 8) (s : Fin 2048) (j : Fin 5632) :
    val_main_v15 (F := Ideal) x0 x1 x2 (ix3 b s j)
      = ∑ k : Fin 1024, normed (fun k => x0 (ix3 b s k)) (fun k => x1 (ix2 0 k)) k * x2 (ix3 0 k j) := by
  rw [val_main_v15]
  pointwise [val_main_v14]
  simp only [ref_normed]

theorem ref_hidden (b : Fin 8) (s : Fin 2048) (j : Fin 2816) :
    val_main_v19 (F := Ideal) x0 x1 x2 (ix3 b s j)
      = hidden siluE (normed (fun k => x0 (ix3 b s k)) (fun k => x1 (ix2 0 k))) (fun k j => x2 (ix3 0 k j)) j := by
  pointwise [val_main_v19, val_main_v18, val_main_v17, val_main_v16, val_main_call0_v5, val_main_call0_v4, val_main_call0_v3,
    val_main_call0_v2, val_main_call0_v1, val_main_call0_v0, val_main_call0_cst, val_main_call0_cst_0]
  simp only [ref_proj]
  rfl

theorem ref_mixed (b : Fin 8) (s : Fin 2048) (c : Fin 1024) :
    val_main_v22 (F := Ideal) x0 x1 x2 x3 (ix3 b s c)
      = mixed siluE (fun k => x0 (ix3 b s k)) (fun k => x1 (ix2 0 k)) (fun k j => x2 (ix3 0 k j)) (fun j c => x3 (ix3 0 j c)) c := by
  rw [val_main_v22, val_main_v21]
  pointwise [val_main_v20]
  simp only [ref_hidden]
  rfl

theorem ref_last (b : Fin 8) (s : Fin 2048) (c : Fin 1024) :
    val_main_v35 (F := Ideal) x0 x1 x2 x3 x4 (ix3 b s c)
      = ffnRow siluE (fun k => x0 (ix3 b s k)) (fun k => x1 (ix2 0 k)) (fun k j => x2 (ix3 0 k j)) (fun j c => x3 (ix3 0 j c))
          (fun k => x4 (ix1 k)) c := by
  pointwise [val_main_v35, val_main_v34, val_main_v33, val_main_v32, val_main_v31, val_main_v30, val_main_v29, val_main_v28, val_main_v27,
    val_main_v26, val_main_v25, val_main_v24, val_main_v23, val_main_cst_2, val_main_cst_3, val_main_cst_4]
  simp only [ref_mixed]
  rfl

theorem ref_out (i : S16384x1024.Idx) : val_main_v36 (F := Ideal) x0 x1 x2 x3 x4 i = ffnOut siluE x0 x1 x2 x3 x4 i := by
  have hi0 : (i 0).val < 16384 := (i 0).isLt
  have hi1 : (i 1).val < 1024 := (i 1).isLt
  have he : idx_main_v36 i = ix3 (⟨(i 0).val / 2048, by omega⟩ : Fin 8) (⟨(i 0).val % 2048, by omega⟩ : Fin 2048) (i 1) := funext fun a => Fin.ext (by
    match a with
    | ⟨0, _⟩ => show ((i 0).val * 1024 + (i 1).val) / 2097152 = (i 0).val / 2048; omega
    | ⟨1, _⟩ => show ((i 0).val * 1024 + (i 1).val) / 1024 % 2048 = (i 0).val % 2048; omega
    | ⟨2, _⟩ => show ((i 0).val * 1024 + (i 1).val) % 1024 = (i 1).val; omega)
  rw [val_main_v36_apply, he]
  exact ref_last x0 x1 x2 x3 x4 _ _ (i 1)

end Cert.Ffn

end
-- ==== Proof.Finite.lean ====
/- What a printed precondition says: an array all of whose entries have an absolute value below infinity is an array of
   real numbers. -/
module

public import proofs.«01_k».proof.Proof.Math
public import Idealize.ShloMosaic.Lib.ReduceAll

@[expose] public section

noncomputable section

namespace Cert.Math

open Idealize.ShloMosaic

theorem ofBits_inf : Ideal.ofBits .f32 0x7F800000#32 = ⊤ := by
  simp [Ideal.ofBits, Ideal.ieee]

/-- A conjunction of two bits that is one has both one. -/
theorem andi_one {s : Shape} {a b : IVec s 1} {i : s.Idx} (h : andi a b i = 1#1) : a i = 1#1 ∧ b i = 1#1 := by
  have h' : IntOp.andi (a i) (b i) = 1#1 := h
  revert h'
  generalize a i = p; generalize b i = q
  revert p q
  decide

/-- An absolute value below infinity is a real number's. -/
theorem isReal_of_abs_lt {a : EReal} (h : Ideal.cmp .olt (max a (-a)) (Ideal.ofBits .f32 0x7F800000#32) = 1#1) : IsReal a := by
  rw [ofBits_inf] at h
  have hlt : max a (-a) < ⊤ := by
    by_contra hn
    simp [Ideal.cmp, hn] at h
  refine isReal_of_ne (fun e => ?_) fun e => ?_
  · subst e; simp at hlt
  · subst e; simp at hlt

instance : Subsingleton (⟨0, ![]⟩ : Shape).Idx := ⟨fun a b => funext fun i => i.elim0⟩

/-- The precondition's test of one array: it holds only if every entry is real. -/
theorem all_finite {s u v : Shape} {axes : List (Fin s.rank)} {x : FVec Ideal s .f32} {d : Fin u.rank → Fin s.rank} {hb : u.BroadcastsInDim s d}
    {h : s.ReducesTo axes v} {hu : 0 < v.numel} {init : IVec v 1} {j : v.Idx} [Subsingleton v.Idx]
    (hx : Host.reduce IntOp.andi (cmpf .olt (Host.absf x) (broadcastInDim s d hb (constant (F := Ideal) u .f32 0x7F800000#32))) init h hu j = 1#1)
    (i : s.Idx) : IsReal (x i) :=
  isReal_of_abs_lt (Host.reduce_andi_all _ _ _ _ _ hx i)

end Cert.Math

end
-- ==== Proof.FfnEq.lean ====
/- The feed-forward claim: with real gains and real gate and up weights every gate is real, so the kernel's activation is
   the reference's and the two results are one array. -/
module

public import proofs.«01_k».proof.Defs
public import proofs.«01_k».proof.Proof.FfnRef
public import proofs.«01_k».proof.Proof.Finite
public import proofs.«01_k».proof.Proof.Gen.Reference2Ideal.Run

@[expose] public section

noncomputable section

namespace Cert.Ffn

open Idealize.ShloMosaic Idealize.ShloMosaic.TcCoe Idealize.SL.Sem Cert.Math
open scoped BigOperators

/-- At real gains and gate weights the row is the same through either activation. -/
theorem ffnRow_eq (x g : Fin 1024 → EReal) (w : Fin 1024 → Fin 5632 → EReal) (wd : Fin 2816 → Fin 1024 → EReal) (gf : Fin 1024 → EReal)
    (hg : ∀ k, IsReal (g k)) (hw : ∀ k j, IsReal (w k j)) : ffnRow siluT x g w wd gf = ffnRow siluE x g w wd gf := by
  have h : ∀ j, hidden siluT (normed x g) w j = hidden siluE (normed x g) w j := fun j => by
    unfold hidden
    rw [siluT_eq_siluE _ (isReal_sum _ _ fun k => (normed_isReal x g hg k).mul (hw k _))]
  unfold ffnRow
  refine congrArg (fun y => normed y gf) (funext fun c => ?_)
  unfold mixed
  simp only [h]

theorem ffnOut_eq (x0 : Vec Ideal Kernel2Ideal.S8x2048x1024 .f32) (x1 : Vec Ideal Kernel2Ideal.S1x1024 .f32)
    (x2 : Vec Ideal Kernel2Ideal.S1x1024x5632 .f32) (x3 : Vec Ideal Kernel2Ideal.S1x2816x1024 .f32) (x4 : Vec Ideal Kernel2Ideal.S1024 .f32)
    (h1 : ∀ i, IsReal (x1 i)) (h2 : ∀ i, IsReal (x2 i)) : ffnOut siluT x0 x1 x2 x3 x4 = ffnOut siluE x0 x1 x2 x3 x4 := by
  funext i
  unfold ffnOut
  rw [ffnRow_eq _ _ _ _ _ (fun k => h1 _) (fun k j => h2 _)]

/-- What the precondition says: the feed-forward's gains and its gate and up weights are real. -/
theorem finite_gates [Pre_finite_gates.Facts] (x0 : Vec Ideal Kernel2Ideal.S8x2048x1024 .f32) (x1 : Vec Ideal Kernel2Ideal.S1x1024 .f32)
    (x2 : Vec Ideal Kernel2Ideal.S1x1024x5632 .f32) (x3 : Vec Ideal Kernel2Ideal.S1x2816x1024 .f32) (x4 : Vec Ideal Kernel2Ideal.S1024 .f32)
    (h : Pre_finite_gates.fn (F := Ideal) x0 x1 x2 x3 x4 = fun _ => 1#1) : (∀ i, IsReal (x1 i)) ∧ ∀ i, IsReal (x2 i) := by
  have h0 := congrFun h ix0
  dsimp only [Pre_finite_gates.fn] at h0
  obtain ⟨ha, hb⟩ := andi_one h0
  exact ⟨all_finite ha, all_finite hb⟩

theorem algebraic [Pre_finite_gates.Facts] : Cert.algebraic_Kernel2Ideal_Reference2Ideal_pre_finite_gates := by
  intro m g m' g' hpre hargs
  refine ⟨fun c => result m c, ?_, ?_⟩
  · exact (θ_run _ _ _).mono (fun r h c => ⟨(h c).1.trans (final m c), (h c).2⟩) (Kernel2Ideal.Value.run_blocks m g)
  · refine (θ_run _ _ _).mono (fun r h c => ⟨(h c).1.trans ?_, (h c).2⟩) (Reference2Ideal.Value.run m' g')
    obtain ⟨e0, e1, e2, e3, e4⟩ := hargs c
    obtain ⟨h1, h2⟩ := finite_gates _ _ _ _ _ (hpre c)
    rw [Reference2Ideal.Read.val_main_v36_eq, e0, e1, e2, e3, e4]
    funext i
    exact (ref_out _ _ _ _ _ i).trans (congrFun (ffnOut_eq _ _ _ _ _ h1 h2) i).symm

end Cert.Ffn

end
-- ==== Proof.XattnTile.lean ====
/- The cross-attention kernel's payloads read at an index: the keys and values of one memory, the scaled queries of one
   512-row tile, one head's attention, and the tile's output. -/
module

public import proofs.«01_k».proof.Proof.Math
public import proofs.«01_k».proof.Proof.Gen.KernelIdeal.Frame

@[expose] public section

noncomputable section

namespace Cert.Xattn

open Idealize.ShloMosaic Cert.KernelIdeal Cert.KernelIdeal.Gen Cert.Math
open scoped BigOperators

/-- A vector times a matrix. -/
def proj {K N : ℕ} (n : Fin K → EReal) (w : Fin K → Fin N → EReal) (j : Fin N) : EReal := ∑ k, n k * w k j

/-- The scale of the queries: one sixteenth over the logarithm of two, so that a power of two is an exponential. -/
def qScale : ℝ := 1 / 16 * (Real.log 2)⁻¹

theorem named_scale : (Named.named (F := Ideal) κ "score_scale" 0x3DB8AA3B#32 : Ideal .f32) = ((qScale : ℝ) : EReal) :=
  IdealRules.named_const.ideal_named_scalar _ _ _ _ rfl

/-- The keys and values of a memory, read at an index. -/
theorem pay2_apply (v : Vec Ideal S1x256x1024 .f32) (g : Vec Ideal S1x1024 .f32) (w : Vec Ideal S1024x2048 .bf16) (r : Fin 256) (j : Fin 2048) :
    k0_pay2 v g w (ix2 r j) = proj (normed (fun k => v (ix3 0 r k)) (fun k => g (ix2 0 k))) (fun k j => w (ix2 k j)) j := by
  pointwise [k0_pay2]
  rfl

/-- The scaled queries of a tile, read at an index. -/
theorem pay3_apply (v : Vec Ideal S1x512x1024 .f32) (g : Vec Ideal S1x1024 .f32) (w : Vec Ideal S1024x1024 .bf16) (r : Fin 512) (j : Fin 1024) :
    k0_pay3 v g w (ix2 r j) = proj (normed (fun k => v (ix3 0 r k)) (fun k => g (ix2 0 k))) (fun k j => w (ix2 k j)) j * ((qScale : ℝ) : EReal) := by
  unfold k0_pay3
  rw [named_scale]
  pointwise
  rfl

/-- The largest of a row, from minus infinity. -/
def top {n : ℕ} (s : Fin n → EReal) : EReal := Finset.univ.fold max ⊥ s

/-- A row's weights: powers of two below the largest. -/
def weight {n : ℕ} (s : Fin n → EReal) (m : Fin n) : EReal := Ideal.exp2 (s m - top s)

theorem ofBits_bot : Ideal.ofBits .f32 0xFF800000#32 = ⊥ := by simp [Ideal.ofBits, Ideal.ieee]

theorem pay17_apply (s : FVec Ideal S512x256 .f32) (r : Fin 512) (m : Fin 256) : k0_pay17 s (ix2 r m) = weight (fun m => s (ix2 r m)) m := by
  pointwise [k0_pay17]
  rw [ofBits_bot]
  rfl

theorem pay18_apply (p : FVec Ideal S512x256 .f32) (v : Vec Ideal S256x256 .bf16) (r : Fin 512) (d : Fin 256) :
    k0_pay18 p v (ix2 r d) = Ideal.div (∑ m, p (ix2 r m) * v (ix2 m d)) (∑ m, p (ix2 r m)) := by
  pointwise [k0_pay18]

/-- One head of a tile: its scores, their weights, and the weighted values. -/
def head (q : FVec Ideal S512x1024 .bf16) (o : Fin 2 → ℕ) (ho : S512x1024.Slices o S512x256) (k v : Vec Ideal S256x256 .bf16) : FVec Ideal S512x256 .bf16 :=
  k0_pay18 (k0_pay17 (matmul (φ₂ := .bf16) dot_S512x256_S256x256_S512x256_1_1_0_0_n_n none (extractStridedSlice S512x256 o q ho) k
    (constant S512x256 .f32 0x00000000#32))) v

/-- A tile's output, from its rows, the gains, the two weights and the keys and values of its four heads. -/
def tile (x : Vec Ideal S1x512x1024 .f32) (g : Vec Ideal S1x1024 .f32) (wq : Vec Ideal S1024x1024 .bf16) (k v : Fin 4 → Vec Ideal S256x256 .bf16)
    (wo : Vec Ideal S1024x1024 .bf16) : FVec Ideal S1x512x1024 .f32 :=
  k0_pay1 (k0_pay24 x) (concatenate S512x1024 1
    [⟨S512x256, head (k0_pay3 x g wq) ![0, 0] slices_S512x1024_o0_0_S512x256 (k 0) (v 0)⟩,
     ⟨S512x256, head (k0_pay3 x g wq) ![0, 256] slices_S512x1024_o0_256_S512x256 (k 1) (v 1)⟩,
     ⟨S512x256, head (k0_pay3 x g wq) ![0, 512] slices_S512x1024_o0_512_S512x256 (k 2) (v 2)⟩,
     ⟨S512x256, head (k0_pay3 x g wq) ![0, 768] slices_S512x1024_o0_768_S512x256 (k 3) (v 3)⟩]
    concatenates_S512x256_S512x256_S512x256_S512x256_S512x1024_d1) (k0_pay26 wo)

/-! ## The row function -/

/-- A head's scores of one query against every memory position. The 2048 columns of `kv` are the keys of the four heads,
    256 each, then their values. -/
def scores (q : Fin 1024 → EReal) (kv : Fin 256 → Fin 2048 → EReal) (h : Fin 4) (m : Fin 256) : EReal :=
  ∑ d : Fin 256, q ⟨256 * h.val + d.val, by omega⟩ * kv m ⟨256 * h.val + d.val, by omega⟩

/-- A row plus its attention through the output weight: `att` turns a row of scores and a column of values into one number. -/
def xattnRow (att : (Fin 256 → EReal) → (Fin 256 → EReal) → EReal) (x q : Fin 1024 → EReal) (kv : Fin 256 → Fin 2048 → EReal)
    (wo : Fin 1024 → Fin 1024 → EReal) (c : Fin 1024) : EReal :=
  x c + ∑ j : Fin 1024, att (scores q kv ⟨j.val / 256, by omega⟩) (fun m => kv m ⟨1024 + j.val, by omega⟩) * wo j c

/-- The kernel's weighted mean: the weighted values over the weights. -/
def attT (s v : Fin 256 → EReal) : EReal := Ideal.div (∑ m, weight s m * v m) (∑ m, weight s m)

/-- A row of queries as the kernel scales them. -/
def queriesT (x g : Fin 1024 → EReal) (wq : Fin 1024 → Fin 1024 → EReal) (j : Fin 1024) : EReal :=
  proj (normed x g) wq j * ((qScale : ℝ) : EReal)

/-! ## The tile read at an index -/

theorem head_apply (q : FVec Ideal S512x1024 .bf16) (h : Fin 4) (o : ℕ) (ho : S512x1024.Slices ![0, o] S512x256) (hh : o = 256 * h.val)
    (k v : Vec Ideal S256x256 .bf16) (kv : Fin 256 → Fin 2048 → EReal) (hk : ∀ m (d : Fin 256), k (ix2 m d) = kv m ⟨256 * h.val + d.val, by omega⟩)
    (r : Fin 512) (d : Fin 256) :
    head q ![0, o] ho k v (ix2 r d) = attT (scores (fun j => q (ix2 r j)) kv h) (fun m => v (ix2 m d)) := by
  subst hh
  have hb : 256 * h.val + 256 ≤ 1024 := by omega
  unfold head
  rw [pay18_apply]
  simp only [pay17_apply]
  pointwise
  simp only [hk]
  rfl

theorem pay1_apply (x : FVec Ideal S512x1024 .f32) (a : FVec Ideal S512x1024 .bf16) (w : FVec Ideal S1024x1024 .bf16) (r : Fin 512) (c : Fin 1024) :
    k0_pay1 x a w (ix3 0 r c) = x (ix2 r c) + ∑ j : Fin 1024, a (ix2 r j) * w (ix2 j c) := by
  pointwise [k0_pay1]

theorem pay24_apply (x : Vec Ideal S1x512x1024 .f32) (r : Fin 512) (c : Fin 1024) : k0_pay24 x (ix2 r c) = x (ix3 0 r c) := by
  pointwise [k0_pay24]

theorem pay26_apply (w : Vec Ideal S1024x1024 .bf16) (r c : Fin 1024) : k0_pay26 w (ix2 r c) = w (ix2 r c) := by
  pointwise [k0_pay26]

/-- The four heads side by side, read at a column. -/
theorem cat_apply (f : Fin 4 → FVec Ideal S512x256 .bf16) (r : Fin 512) (j : Fin 1024) : concatenate S512x1024 1
    [⟨S512x256, f 0⟩, ⟨S512x256, f 1⟩, ⟨S512x256, f 2⟩, ⟨S512x256, f 3⟩] concatenates_S512x256_S512x256_S512x256_S512x256_S512x1024_d1 (ix2 r j)
      = f ⟨j.val / 256, by omega⟩ (ix2 r ⟨j.val % 256, by omega⟩) := by
  have key : ∀ (h : Fin 4) (d : Fin 256), j.val = 256 * h.val + d.val → f h (ix2 r d) = f ⟨j.val / 256, by omega⟩ (ix2 r ⟨j.val % 256, by omega⟩) := by
    intro h d e
    have e1 : (⟨j.val / 256, by omega⟩ : Fin 4) = h := Fin.ext (by show j.val / 256 = h.val; omega)
    have e2 : (⟨j.val % 256, by omega⟩ : Fin 256) = d := Fin.ext (by show j.val % 256 = d.val; omega)
    rw [e1, e2]
  pointwise
  by_cases h0 : j.val < 256
  · rw [dif_pos h0]
    exact key 0 _ (by show j.val = 256 * 0 + j.val; omega)
  rw [dif_neg h0]
  by_cases h1 : j.val - 256 < 256
  · rw [dif_pos h1]
    exact key 1 _ (by show j.val = 256 * 1 + (j.val - 256); omega)
  rw [dif_neg h1]
  by_cases h2 : j.val - 256 - 256 < 256
  · rw [dif_pos h2]
    exact key 2 _ (by show j.val = 256 * 2 + (j.val - 256 - 256); omega)
  rw [dif_neg h2]
  exact key 3 _ (by show j.val = 256 * 3 + (j.val - 256 - 256 - 256); omega)

/-- A tile read at an index is the row function, when its keys and values are the columns of `kv`. -/
theorem tile_apply (x : Vec Ideal S1x512x1024 .f32) (g : Vec Ideal S1x1024 .f32) (wq : Vec Ideal S1024x1024 .bf16) (k v : Fin 4 → Vec Ideal S256x256 .bf16)
    (wo : Vec Ideal S1024x1024 .bf16) (kv : Fin 256 → Fin 2048 → EReal)
    (hk : ∀ (h : Fin 4) m (d : Fin 256), k h (ix2 m d) = kv m ⟨256 * h.val + d.val, by omega⟩)
    (hv : ∀ (h : Fin 4) m (d : Fin 256), v h (ix2 m d) = kv m ⟨1024 + (256 * h.val + d.val), by omega⟩) (r : Fin 512) (c : Fin 1024) :
    tile x g wq k v wo (ix3 0 r c)
      = xattnRow attT (fun k => x (ix3 0 r k)) (queriesT (fun k => x (ix3 0 r k)) (fun k => g (ix2 0 k)) (fun k j => wq (ix2 k j))) kv
          (fun j c => wo (ix2 j c)) c := by
  unfold tile xattnRow
  rw [pay1_apply, pay24_apply]
  refine congrArg (x (ix3 0 r c) + ·) (Finset.sum_congr rfl fun j _ => ?_)
  rw [pay26_apply]
  refine congrArg (· * wo (ix2 j c)) ?_
  refine (cat_apply (fun h : Fin 4 => match h with
    | 0 => head (k0_pay3 x g wq) ![0, 0] slices_S512x1024_o0_0_S512x256 (k 0) (v 0)
    | 1 => head (k0_pay3 x g wq) ![0, 256] slices_S512x1024_o0_256_S512x256 (k 1) (v 1)
    | 2 => head (k0_pay3 x g wq) ![0, 512] slices_S512x1024_o0_512_S512x256 (k 2) (v 2)
    | 3 => head (k0_pay3 x g wq) ![0, 768] slices_S512x1024_o0_768_S512x256 (k 3) (v 3)) r j).trans ?_
  have hd : ∀ (h : Fin 4) (d : Fin 256), j.val = 256 * h.val + d.val → (fun m => kv m ⟨1024 + j.val, by omega⟩) = fun m => v h (ix2 m d) := by
    intro h d e
    funext m
    rw [hv]
    exact congrArg (kv m) (Fin.ext (by show 1024 + j.val = 1024 + (256 * h.val + d.val); omega))
  have hq : (fun j => k0_pay3 x g wq (ix2 r j)) = queriesT (fun k => x (ix3 0 r k)) (fun k => g (ix2 0 k)) (fun k j => wq (ix2 k j)) :=
    funext fun j => pay3_apply x g wq r j
  rw [hd ⟨j.val / 256, by omega⟩ ⟨j.val % 256, by omega⟩ (by show j.val = 256 * (j.val / 256) + j.val % 256; omega), ← hq]
  generalize (⟨j.val / 256, by omega⟩ : Fin 4) = h
  generalize (⟨j.val % 256, by omega⟩ : Fin 256) = d
  fin_cases h
  · exact head_apply _ 0 0 _ rfl _ _ kv (hk 0) r d
  · exact head_apply _ 1 256 _ rfl _ _ kv (hk 1) r d
  · exact head_apply _ 2 512 _ rfl _ _ kv (hk 2) r d
  · exact head_apply _ 3 768 _ rfl _ _ kv (hk 3) r d

end Cert.Xattn

end
-- ==== Proof.XattnBlock.lean ====
/- What the cross-attention kernel's body leaves in its 1024-row output block and in the scratch that carries the keys and
   values of one memory from a batch's first grid point to its second: every row of the block is the same function
   (`xattnRow`) of that row of the input block, of the gains, of the weights and of the keys and values. -/
module

public import proofs.«01_k».proof.Proof.XattnTile
public import proofs.«01_k».proof.Proof.Gen.KernelIdeal.Value

@[expose] public section

noncomputable section

namespace Cert.Xattn

open Idealize.ShloMosaic Idealize.ShloMosaic.TcCoe Cert.KernelIdeal Cert.KernelIdeal.Gen Cert.Math
open scoped BigOperators

/-! ## The block as two tiles -/

/-- 256 columns of the keys and values. -/
def cols (kv : Vec Ideal S256x2048 .bf16) (o : ℕ) (h : o + 256 ≤ 2048) : Vec Ideal S256x256 .bf16 :=
  View.ld kv (Rect.unit (s := S256x2048) ![0, o] S256x256.size fun a => match a with
    | ⟨0, _⟩ => (by decide : 0 + 256 ≤ 256)
    | ⟨1, _⟩ => h)

/-- The 512 rows of a block from row `o`. -/
abbrev rows (o : ℕ) (h : o + 512 ≤ 1024) : Rect S1x1024x1024 := Rect.unit (s := S1x1024x1024) ![0, o, 0] S1x512x1024.size fun a => match a with
  | ⟨0, _⟩ => (by decide : 0 + 1 ≤ 1)
  | ⟨1, _⟩ => h
  | ⟨2, _⟩ => (by decide : 0 + 1024 ≤ 1024)

/-- The whole of a matrix, as the body loads it. -/
abbrev all {n k : ℕ} {e : EltTy} (v : Vec Ideal ⟨2, ![n, k]⟩ e) : Vec Ideal ⟨2, ![n, k]⟩ e :=
  View.ld v (Rect.unit (s := ⟨2, ![n, k]⟩) ![0, 0] (Shape.size ⟨2, ![n, k]⟩) fun a => match a with
    | ⟨0, _⟩ => le_of_eq (Nat.zero_add n)
    | ⟨1, _⟩ => le_of_eq (Nat.zero_add k))

/-- The whole of a memory, as the body loads it. -/
abbrev allMem (v : Vec Ideal S1x256x1024 .f32) : Vec Ideal S1x256x1024 .f32 :=
  View.ld v (Rect.unit (s := S1x256x1024) ![0, 0, 0] S1x256x1024.size inb_S1x256x1024_S1x256x1024_0_0_0)

section
variable (x0 : Vec Ideal S1x1024x1024 .f32) (x1 : Vec Ideal S1x1024 .f32) (x2 : Vec Ideal S1024x1024 .bf16) (x3 : Vec Ideal S1x256x1024 .f32)
  (x4 : Vec Ideal S1x1024 .f32) (x5 : Vec Ideal S1024x2048 .bf16) (x6 : Vec Ideal S1024x1024 .bf16) (kv : Vec Ideal S256x2048 .bf16)

/-- The tile of the block's rows from row `o`. -/
def tileOf (o : ℕ) (h : o + 512 ≤ 1024) : FVec Ideal S1x512x1024 .f32 :=
  tile (View.ld x0 (rows o h)) (all x1) (all x2) (fun h => cols kv (256 * h.val) (by omega)) (fun h => cols kv (1024 + 256 * h.val) (by omega)) (all x6)

/-- The block: two tiles of 512 rows. -/
def block : Vec Ideal S1x1024x1024 .f32 :=
  View.canon [⟨rows 512 (by decide), tileOf x0 x1 x2 x6 kv 512 (by decide)⟩, ⟨rows 0 (by decide), tileOf x0 x1 x2 x6 kv 0 (by decide)⟩]

/-- The keys and values as a batch's first grid point computes them. -/
def kvOf : Vec Ideal S256x2048 .bf16 := k0_pay2 (allMem x3) (all x4) (all x5)

/-- A load of some columns of the scratch after a store of the whole of it reads those columns of what was stored. -/
theorem readCov_cols (V : View sig .tc .vmem S256x2048 .bf16) (o : ℕ) (h : o + 256 ≤ 2048) (hb hb') (L : List (View.Piece (Elt Ideal) S256x2048 .bf16)) :
    V.readCov (⟨Rect.unit (s := S256x2048) ![0, 0] S256x2048.size hb, kv⟩ :: L) (Rect.unit (s := S256x2048) ![0, o] S256x256.size hb').toLoadRect = cols kv o h := by
  rw [View.readCov_eq_canon', View.canon_cons_unit_zero (by funext a; fin_cases a <;> rfl)]
  rfl

variable (c : Dev nD) (i : grid0.Coords) (arg2 : Memref sig .tc .vmem S1x1024x1024 .f32) (harg2 : arg2.IsWhole) (arg3 : Memref sig .tc .vmem S1x1024 .f32)
  (harg3 : arg3.IsWhole) (arg4 : Memref sig .tc .vmem S1024x1024 .bf16) (harg4 : arg4.IsWhole) (arg5 : Memref sig .tc .vmem S1x256x1024 .f32)
  (harg5 : arg5.IsWhole) (arg6 : Memref sig .tc .vmem S1x1024 .f32) (harg6 : arg6.IsWhole) (arg7 : Memref sig .tc .vmem S1024x2048 .bf16)
  (harg7 : arg7.IsWhole) (arg8 : Memref sig .tc .vmem S1024x1024 .bf16) (harg8 : arg8.IsWhole) (arg9 : Memref sig .tc .vmem S1x1024x1024 .f32)
  (harg9 : arg9.IsWhole) (arg10 : Memref sig .tc .vmem S256x2048 .bf16) (harg10 : arg10.IsWhole)

/-- At a batch's first point the block is the two tiles over the keys and values just computed. -/
theorem outA (hc0 : cond0_0 i) : out0_A_7 c i arg2 harg2 arg3 harg3 arg4 harg4 arg5 harg5 arg6 harg6 arg7 harg7 arg8 harg8 arg9 harg9 arg10 harg10 hc0 x0 x1 x2 x3 x4 x5 x6
    = block x0 x1 x2 x6 (kvOf x3 x4 x5) := by
  unfold out0_A_7
  rw [View.read_writes_junk_eq_canon]
  unfold kernelRun0_A; dsimp only
  sl_unfold_words
  simp only [View.readAt_eq_ld, harg2.read_unread, harg3.read_unread, harg4.read_unread, harg5.read_unread, harg6.read_unread, harg7.read_unread, harg8.read_unread]
  rw [readCov_cols _ _ 0 (by decide), readCov_cols _ _ 256 (by decide), readCov_cols _ _ 512 (by decide), readCov_cols _ _ 768 (by decide),
    readCov_cols _ _ 1024 (by decide), readCov_cols _ _ 1280 (by decide), readCov_cols _ _ 1536 (by decide), readCov_cols _ _ 1792 (by decide)]
  rfl

/-- … and it leaves them in the scratch. -/
theorem scratchA (hc0 : cond0_0 i) : sout0_A_0 c i arg2 harg2 arg3 harg3 arg4 harg4 arg5 harg5 arg6 harg6 arg7 harg7 arg8 harg8 arg9 harg9 arg10 harg10 hc0 x0 x1 x2 x3 x4 x5 x6
    = kvOf x3 x4 x5 := by
  unfold sout0_A_0
  rw [View.read_writes_junk_eq_canon]
  unfold kernelRun0_A; dsimp only
  sl_unfold_words
  simp only [View.readAt_eq_ld, harg2.read_unread, harg3.read_unread, harg4.read_unread, harg5.read_unread, harg6.read_unread, harg7.read_unread, harg8.read_unread]
  exact View.canon_unit_zero (by funext a; fin_cases a <;> rfl) _ _

/-- At a batch's second point the block is the two tiles over the keys and values found in the scratch. -/
theorem outB (hc0 : ¬cond0_0 i) : out0_B_7 c i arg2 harg2 arg3 harg3 arg4 harg4 arg5 harg5 arg6 harg6 arg7 harg7 arg8 harg8 arg9 harg9 arg10 harg10 hc0 x0 x1 x2 x3 x4 x5 x6 kv
    = block x0 x1 x2 x6 kv := by
  unfold out0_B_7
  rw [View.read_writes_junk_eq_canon]
  unfold kernelRun0_B; dsimp only
  sl_unfold_words
  simp only [View.readAt_eq_ld, harg2.read_unread, harg3.read_unread, harg4.read_unread, harg5.read_unread, harg6.read_unread, harg7.read_unread, harg8.read_unread,
    harg10.read_unread]
  rfl

end

/-! ## The block and the scratch read at an index -/

theorem cols_apply (kv : Vec Ideal S256x2048 .bf16) (o : ℕ) (h : o + 256 ≤ 2048) (m d : Fin 256) :
    cols kv o h (ix2 m d) = kv (ix2 m ⟨o + d.val, by omega⟩) := by
  refine congrArg kv (funext fun a => Fin.ext ?_)
  match a with
  | ⟨0, _⟩ => show 0 + 1 * m.val = m.val; omega
  | ⟨1, _⟩ => show o + 1 * d.val = o + d.val; omega

theorem all_eq {n k : ℕ} {e : EltTy} (v : Vec Ideal ⟨2, ![n, k]⟩ e) (r : Fin n) (j : Fin k) : all v (ix2 r j) = v (ix2 r j) := by
  refine congrArg v (funext fun a => Fin.ext ?_)
  match a with
  | ⟨0, _⟩ => show 0 + 1 * r.val = r.val; omega
  | ⟨1, _⟩ => show 0 + 1 * j.val = j.val; omega

theorem allMem_eq (v : Vec Ideal S1x256x1024 .f32) (r : Fin 256) (k : Fin 1024) : allMem v (ix3 0 r k) = v (ix3 0 r k) := by
  refine congrArg v (funext fun a => Fin.ext ?_)
  match a with
  | ⟨0, _⟩ => rfl
  | ⟨1, _⟩ => show 0 + 1 * r.val = r.val; omega
  | ⟨2, _⟩ => show 0 + 1 * k.val = k.val; omega

theorem rows_apply (x : Vec Ideal S1x1024x1024 .f32) (o : ℕ) (h : o + 512 ≤ 1024) (l : Fin 512) (k : Fin 1024) :
    View.ld x (rows o h) (ix3 0 l k) = x (ix3 0 ⟨o + l.val, by omega⟩ k) := by
  refine congrArg x (funext fun a => Fin.ext ?_)
  match a with
  | ⟨0, _⟩ => rfl
  | ⟨1, _⟩ => show o + 1 * l.val = o + l.val; omega
  | ⟨2, _⟩ => show 0 + 1 * k.val = k.val; omega

/-- The keys and values: the normalised memory through the weight. -/
theorem kvOf_apply (x3 : Vec Ideal S1x256x1024 .f32) (x4 : Vec Ideal S1x1024 .f32) (x5 : Vec Ideal S1024x2048 .bf16) (r : Fin 256) (j : Fin 2048) :
    kvOf x3 x4 x5 (ix2 r j) = proj (normed (fun k => x3 (ix3 0 r k)) (fun k => x4 (ix2 0 k))) (fun k j => x5 (ix2 k j)) j := by
  unfold kvOf
  rw [pay2_apply]
  have e0 : (fun k => allMem x3 (ix3 0 r k)) = _ := funext fun k => allMem_eq x3 r k
  have e1 : (fun k => all x4 (ix2 0 k)) = _ := funext fun k => all_eq x4 0 k
  have e2 : (fun k j => all x5 (ix2 k j)) = _ := funext₂ fun k j => all_eq x5 k j
  exact congrFun (congr (congrArg proj (congr (congrArg normed e0) e1)) e2) j

section
variable (x0 : Vec Ideal S1x1024x1024 .f32) (x1 : Vec Ideal S1x1024 .f32) (x2 : Vec Ideal S1024x1024 .bf16) (x6 : Vec Ideal S1024x1024 .bf16)
  (kv : Vec Ideal S256x2048 .bf16)

theorem tileOf_apply (o : ℕ) (h : o + 512 ≤ 1024) (l : Fin 512) (c : Fin 1024) :
    tileOf x0 x1 x2 x6 kv o h (ix3 0 l c)
      = xattnRow attT (fun k => x0 (ix3 0 ⟨o + l.val, by omega⟩ k))
          (queriesT (fun k => x0 (ix3 0 ⟨o + l.val, by omega⟩ k)) (fun k => x1 (ix2 0 k)) (fun k j => x2 (ix2 k j))) (fun m j => kv (ix2 m j))
          (fun j c => x6 (ix2 j c)) c := by
  unfold tileOf
  rw [tile_apply _ _ _ _ _ _ (fun m j => kv (ix2 m j))]
  · have e0 : (fun k => View.ld x0 (rows o h) (ix3 0 l k)) = _ := funext fun k => rows_apply x0 o h l k
    have e1 : (fun k => all x1 (ix2 0 k)) = _ := funext fun k => all_eq x1 0 k
    have e2 : (fun k j => all x2 (ix2 k j)) = _ := funext₂ fun k j => all_eq x2 k j
    have e6 : (fun k j => all x6 (ix2 k j)) = _ := funext₂ fun k j => all_eq x6 k j
    exact congrFun (congr (congrFun (congr (congrArg (xattnRow attT) e0) (congr (congr (congrArg queriesT e0) e1) e2)) _) e6) c
  · exact fun h m d => cols_apply kv _ _ m d
  · exact fun h m d => (cols_apply kv _ _ m d).trans (congrArg (fun j => kv (ix2 m j)) (Fin.ext (Nat.add_assoc ..)))

/-- A piece that covers the index's row gives it, the row counted from the piece's first. -/
theorem canon_at (o : ℕ) (h : o + 512 ≤ 1024) (p : Vec Ideal S1x512x1024 .f32) (L : List (View.Piece (Elt Ideal) S1x1024x1024 .f32)) (l : Fin 512) (c : Fin 1024) :
    View.canon (⟨rows o h, p⟩ :: L) (ix3 0 ⟨o + l.val, by omega⟩ c) = p (ix3 0 l c) := by
  rw [← View.canon_cons_emb (rows o h) p L (ix3 0 l c)]
  refine congrArg _ (funext fun a => Fin.ext ?_)
  match a with
  | ⟨0, _⟩ => rfl
  | ⟨1, _⟩ => show o + l.val = o + 1 * l.val; omega
  | ⟨2, _⟩ => show c.val = 0 + 1 * c.val; omega

/-- A piece whose rows all lie elsewhere does not. -/
theorem canon_off (o : ℕ) (h : o + 512 ≤ 1024) (p : Vec Ideal S1x512x1024 .f32) (L : List (View.Piece (Elt Ideal) S1x1024x1024 .f32)) (r c : Fin 1024)
    (hr : r.val < o ∨ o + 512 ≤ r.val) : View.canon (⟨rows o h, p⟩ :: L) (ix3 0 r c) = View.canon L (ix3 0 r c) := by
  refine View.canon_cons_of_not_mem _ L fun hm => ?_
  rw [Rect.mem_set_unit] at hm
  have h0 : o ≤ r.val ∧ r.val < o + 512 := hm 1
  omega

theorem row_split (o : ℕ) (ho : o + 512 ≤ 1024) (r : Fin 1024) (h : o ≤ r.val) (h' : r.val < o + 512) : ∃ (l : Fin 512) (hl : o + l.val < 1024), r = ⟨o + l.val, hl⟩ :=
  ⟨⟨r.val - o, by omega⟩, by show o + (r.val - o) < 1024; omega, Fin.ext (by show r.val = o + (r.val - o); omega)⟩

/-- THE BLOCK, row by row. -/
theorem block_apply (r c : Fin 1024) :
    block x0 x1 x2 x6 kv (ix3 0 r c)
      = xattnRow attT (fun k => x0 (ix3 0 r k)) (queriesT (fun k => x0 (ix3 0 r k)) (fun k => x1 (ix2 0 k)) (fun k j => x2 (ix2 k j)))
          (fun m j => kv (ix2 m j)) (fun j c => x6 (ix2 j c)) c := by
  unfold block
  by_cases h : 512 ≤ r.val
  · obtain ⟨l, hl, rfl⟩ := row_split 512 (by decide) r h (by omega)
    exact (canon_at 512 _ _ _ l c).trans (tileOf_apply x0 x1 x2 x6 kv 512 _ l c)
  rw [canon_off 512 _ _ _ r c (by omega)]
  obtain ⟨l, hl, rfl⟩ := row_split 0 (by decide) r (by omega) (by omega)
  exact (canon_at 0 _ _ _ l c).trans (tileOf_apply x0 x1 x2 x6 kv 0 _ l c)

end

end Cert.Xattn

end
-- ==== Proof.XattnArray.lean ====
/- The cross-attention kernel's whole result: every row of the eight sequences is `xattnRow` of that row of the input, of the
   memory of its batch and of the weights as the caller passes them. -/
module

public import proofs.«01_k».proof.Proof.XattnBlock

@[expose] public section

noncomputable section

namespace Cert.Xattn

open Idealize.ShloMosaic Idealize.ShloMosaic.TcCoe Idealize.SL.Sem Cert.KernelIdeal Cert.KernelIdeal.Gen Cert.Math
open Idealize.ShloMosaic.StableHlo
open scoped BigOperators

/-- The keys and values of one batch, from the memory, its gains and the weight. -/
def kvRows (mem : Vec Ideal S8x256x1024 .f32) (g : Vec Ideal S1x1024 .f32) (w : Vec Ideal S1x1024x2048 .f32) (b : Fin 8) (r : Fin 256) (j : Fin 2048) : EReal :=
  proj (normed (fun k => mem (ix3 b r k)) (fun k => g (ix2 0 k))) (fun k j => w (ix3 0 k j)) j

/-- The whole result from the seven arguments. -/
def xattnOut (x : Vec Ideal S8x2048x1024 .f32) (mem : Vec Ideal S8x256x1024 .f32) (gx gm : Vec Ideal S1x1024 .f32) (wq : Vec Ideal S1x1024x1024 .f32)
    (wkv : Vec Ideal S1x1024x2048 .f32) (wo : Vec Ideal S1x1024x1024 .f32) (b : Fin 8) (s : Fin 2048) (c : Fin 1024) : EReal :=
  xattnRow attT (fun k => x (ix3 b s k)) (queriesT (fun k => x (ix3 b s k)) (fun k => gx (ix2 0 k)) (fun k j => wq (ix3 0 k j))) (kvRows mem gm wkv b)
    (fun j c => wo (ix3 0 j c)) c

variable (m : (ℓ : Loc nD τ sig) → Buf (Elt Ideal) ℓ) (c : Dev nD)

/-! ## The arrays as the launch finds them: the caller's, reshaped -/

theorem V_v1 (k : Fin 1024) : V m c main_v1 (ix2 0 k) = m (c.tc.loc main_arg2) (ix2 0 k) := by
  have h : V m c main_v1 = shapeCast S1x1024 (shapeCast S1024 (m (c.tc.loc main_arg2)) shapeCasts_S1x1024_S1024) shapeCasts_S1024_S1x1024 := by
    unfold_abbrev_sides; after_results_simp <;> rfl
  rw [h]
  refine (shapeCast_apply (s := S1024) _ _ _ (ix1 k) ?_).trans (shapeCast_apply (s := S1x1024) _ _ _ _ ?_)
  all_goals rewrite [Shape.rowMajor_val_two, Shape.rowMajor_val_one]; show _ = _; simp

theorem V_v3 (k : Fin 1024) (j : Fin 1024) : V m c main_v3 (ix2 k j) = m (c.tc.loc main_arg4) (ix3 0 k j) := by
  have h : V m c main_v3 = shapeCast S1024x1024 (m (c.tc.loc main_arg4)) shapeCasts_S1x1024x1024_S1024x1024 := by
    unfold_abbrev_sides; after_results_simp <;> rfl
  rw [h]
  refine shapeCast_apply (s := S1x1024x1024) _ _ _ _ ?_
  rewrite [Shape.rowMajor_val_three, Shape.rowMajor_val_two]
  show (0 * 1024 + k.val) * 1024 + j.val = k.val * 1024 + j.val
  omega

theorem V_v5 (k : Fin 1024) : V m c main_v5 (ix2 0 k) = m (c.tc.loc main_arg3) (ix2 0 k) := by
  have h : V m c main_v5 = shapeCast S1x1024 (shapeCast S1024 (m (c.tc.loc main_arg3)) shapeCasts_S1x1024_S1024) shapeCasts_S1024_S1x1024 := by
    unfold_abbrev_sides; after_results_simp <;> rfl
  rw [h]
  refine (shapeCast_apply (s := S1024) _ _ _ (ix1 k) ?_).trans (shapeCast_apply (s := S1x1024) _ _ _ _ ?_)
  all_goals rewrite [Shape.rowMajor_val_two, Shape.rowMajor_val_one]; show _ = _; simp

theorem V_v7 (k : Fin 1024) (j : Fin 2048) : V m c main_v7 (ix2 k j) = m (c.tc.loc main_arg5) (ix3 0 k j) := by
  have h : V m c main_v7 = shapeCast S1024x2048 (m (c.tc.loc main_arg5)) shapeCasts_S1x1024x2048_S1024x2048 := by
    unfold_abbrev_sides; after_results_simp <;> rfl
  rw [h]
  refine shapeCast_apply (s := S1x1024x2048) _ _ _ _ ?_
  rewrite [Shape.rowMajor_val_three, Shape.rowMajor_val_two]
  show (0 * 1024 + k.val) * 2048 + j.val = k.val * 2048 + j.val
  omega

theorem V_v9 (k : Fin 1024) (j : Fin 1024) : V m c main_v9 (ix2 k j) = m (c.tc.loc main_arg6) (ix3 0 k j) := by
  have h : V m c main_v9 = shapeCast S1024x1024 (m (c.tc.loc main_arg6)) shapeCasts_S1x1024x1024_S1024x1024 := by
    unfold_abbrev_sides; after_results_simp <;> rfl
  rw [h]
  refine shapeCast_apply (s := S1x1024x1024) _ _ _ _ ?_
  rewrite [Shape.rowMajor_val_three, Shape.rowMajor_val_two]
  show (0 * 1024 + k.val) * 1024 + j.val = k.val * 1024 + j.val
  omega

theorem V_arg0 : V m c main_arg0 = m (c.tc.loc main_arg0) := V_main_arg0 m c

theorem V_arg1 : V m c main_arg1 = m (c.tc.loc main_arg1) := V_main_arg1 m c

/-! ## The windows' blocks -/

theorem index_eq : ∀ t : Fin cfg0.N, win0_0.index t = ![t.val / 2, t.val % 2, 0] ∧ win0_1.index t = ![0, 0] ∧ win0_2.index t = ![0, 0]
    ∧ win0_3.index t = ![t.val / 2, 0, 0] ∧ win0_4.index t = ![0, 0] ∧ win0_5.index t = ![0, 0] ∧ win0_6.index t = ![0, 0]
    ∧ win0_7.index t = ![t.val / 2, t.val % 2, 0] ∧ win0_7.flush t = true :=
  (by decide +kernel : ∀ t : Fin grid0.N, win0_0.index t = ![t.val / 2, t.val % 2, 0] ∧ win0_1.index t = ![0, 0] ∧ win0_2.index t = ![0, 0]
    ∧ win0_3.index t = ![t.val / 2, 0, 0] ∧ win0_4.index t = ![0, 0] ∧ win0_5.index t = ![0, 0] ∧ win0_6.index t = ![0, 0]
    ∧ win0_7.index t = ![t.val / 2, t.val % 2, 0] ∧ win0_7.flush t = true)

/-- A grid point's batch. -/
abbrev batch (t : Fin cfg0.N) : Fin 8 := ⟨t.val / 2, by have : t.val < 16 := t.isLt; omega⟩

/-- A row of a grid point's block, in its sequence. -/
abbrev seqRow (t : Fin cfg0.N) (r : Fin 1024) : Fin 2048 := ⟨1024 * (t.val % 2) + r.val, by omega⟩

theorem blk0 (t : Fin cfg0.N) (r k : Fin 1024) : iblk m c 0 t (ix3 0 r k) = m (c.tc.loc main_arg0) (ix3 (batch t) (seqRow t r) k) := by
  refine Eq.trans (congrArg (V m c main_arg0) (funext fun a => Fin.ext ?_)) (congrFun (V_arg0 m c) _)
  match a with
  | ⟨0, _⟩ => show win0_0.index t 0 * 1 + 1 * 0 = t.val / 2; rw [(index_eq t).1]; show t.val / 2 * 1 + 1 * 0 = _; omega
  | ⟨1, _⟩ => show win0_0.index t 1 * 1024 + 1 * r.val = 1024 * (t.val % 2) + r.val; rw [(index_eq t).1]; show t.val % 2 * 1024 + 1 * r.val = _; omega
  | ⟨2, _⟩ => show win0_0.index t 2 * 1024 + 1 * k.val = k.val; rw [(index_eq t).1]; show 0 * 1024 + 1 * k.val = _; omega

theorem blk3 (t : Fin cfg0.N) (r : Fin 256) (k : Fin 1024) : iblk m c 3 t (ix3 0 r k) = m (c.tc.loc main_arg1) (ix3 (batch t) r k) := by
  refine Eq.trans (congrArg (V m c main_arg1) (funext fun a => Fin.ext ?_)) (congrFun (V_arg1 m c) _)
  match a with
  | ⟨0, _⟩ => show win0_3.index t 0 * 1 + 1 * 0 = t.val / 2; rw [(index_eq t).2.2.2.1]; show t.val / 2 * 1 + 1 * 0 = _; omega
  | ⟨1, _⟩ => show win0_3.index t 1 * 256 + 1 * r.val = r.val; rw [(index_eq t).2.2.2.1]; show 0 * 256 + 1 * r.val = _; omega
  | ⟨2, _⟩ => show win0_3.index t 2 * 1024 + 1 * k.val = k.val; rw [(index_eq t).2.2.2.1]; show 0 * 1024 + 1 * k.val = _; omega

theorem blk1 (t : Fin cfg0.N) (k : Fin 1024) : iblk m c 1 t (ix2 0 k) = m (c.tc.loc main_arg2) (ix2 0 k) := by
  refine Eq.trans (congrArg (V m c main_v1) (funext fun a => Fin.ext ?_)) (V_v1 m c k)
  match a with
  | ⟨0, _⟩ => show win0_1.index t 0 * 1 + 1 * 0 = 0; rw [(index_eq t).2.1]; rfl
  | ⟨1, _⟩ => show win0_1.index t 1 * 1024 + 1 * k.val = k.val; rw [(index_eq t).2.1]; show 0 * 1024 + 1 * k.val = _; omega

theorem blk4 (t : Fin cfg0.N) (k : Fin 1024) : iblk m c 4 t (ix2 0 k) = m (c.tc.loc main_arg3) (ix2 0 k) := by
  refine Eq.trans (congrArg (V m c main_v5) (funext fun a => Fin.ext ?_)) (V_v5 m c k)
  match a with
  | ⟨0, _⟩ => show win0_4.index t 0 * 1 + 1 * 0 = 0; rw [(index_eq t).2.2.2.2.1]; rfl
  | ⟨1, _⟩ => show win0_4.index t 1 * 1024 + 1 * k.val = k.val; rw [(index_eq t).2.2.2.2.1]; show 0 * 1024 + 1 * k.val = _; omega

theorem blk2 (t : Fin cfg0.N) (k : Fin 1024) (j : Fin 1024) : iblk m c 2 t (ix2 k j) = m (c.tc.loc main_arg4) (ix3 0 k j) := by
  refine Eq.trans (congrArg (V m c main_v3) (funext fun a => Fin.ext ?_)) (V_v3 m c k j)
  match a with
  | ⟨0, _⟩ => show win0_2.index t 0 * 1024 + 1 * k.val = k.val; rw [(index_eq t).2.2.1]; show 0 * 1024 + 1 * k.val = _; omega
  | ⟨1, _⟩ => show win0_2.index t 1 * 1024 + 1 * j.val = j.val; rw [(index_eq t).2.2.1]; show 0 * 1024 + 1 * j.val = _; omega

theorem blk5 (t : Fin cfg0.N) (k : Fin 1024) (j : Fin 2048) : iblk m c 5 t (ix2 k j) = m (c.tc.loc main_arg5) (ix3 0 k j) := by
  refine Eq.trans (congrArg (V m c main_v7) (funext fun a => Fin.ext ?_)) (V_v7 m c k j)
  match a with
  | ⟨0, _⟩ => show win0_5.index t 0 * 1024 + 1 * k.val = k.val; rw [(index_eq t).2.2.2.2.2.1]; show 0 * 1024 + 1 * k.val = _; omega
  | ⟨1, _⟩ => show win0_5.index t 1 * 2048 + 1 * j.val = j.val; rw [(index_eq t).2.2.2.2.2.1]; show 0 * 2048 + 1 * j.val = _; omega

theorem blk6 (t : Fin cfg0.N) (k : Fin 1024) (j : Fin 1024) : iblk m c 6 t (ix2 k j) = m (c.tc.loc main_arg6) (ix3 0 k j) := by
  refine Eq.trans (congrArg (V m c main_v9) (funext fun a => Fin.ext ?_)) (V_v9 m c k j)
  match a with
  | ⟨0, _⟩ => show win0_6.index t 0 * 1024 + 1 * k.val = k.val; rw [(index_eq t).2.2.2.2.2.2.1]; show 0 * 1024 + 1 * k.val = _; omega
  | ⟨1, _⟩ => show win0_6.index t 1 * 1024 + 1 * j.val = j.val; rw [(index_eq t).2.2.2.2.2.2.1]; show 0 * 1024 + 1 * j.val = _; omega

/-! ## The scratch and the output block after each grid point -/

theorem kv_point (t : Fin cfg0.N) (r : Fin 256) (j : Fin 2048) : kvOf (iblk m c 3 t) (iblk m c 4 t) (iblk m c 5 t) (ix2 r j)
    = kvRows (m (c.tc.loc main_arg1)) (m (c.tc.loc main_arg3)) (m (c.tc.loc main_arg5)) (batch t) r j := by
  rw [kvOf_apply]
  have e0 : (fun k => iblk m c 3 t (ix3 0 r k)) = _ := funext fun k => blk3 m c t r k
  have e1 : (fun k => iblk m c 4 t (ix2 0 k)) = _ := funext fun k => blk4 m c t k
  have e2 : (fun k j => iblk m c 5 t (ix2 k j)) = _ := funext₂ fun k j => blk5 m c t k j
  exact congrFun (congr (congrArg proj (congr (congrArg normed e0) e1)) e2) j

/-- After either point of a batch the scratch holds the batch's keys and values. -/
theorem scratch (t : Fin cfg0.N) (r : Fin 256) (j : Fin 2048) : (outsAt0 m c t.val t.isLt).2 (ix2 r j)
    = kvRows (m (c.tc.loc main_arg1)) (m (c.tc.loc main_arg3)) (m (c.tc.loc main_arg5)) (batch t) r j := by
  have even : ∀ t : Fin cfg0.N, t.val % 2 = 0 → (outsAt0 m c t.val t.isLt).2 (ix2 r j)
      = kvRows (m (c.tc.loc main_arg1)) (m (c.tc.loc main_arg3)) (m (c.tc.loc main_arg5)) (batch t) r j := by
    intro t h0
    rw [outsAt0_A m c t h0]
    dsimp only
    rw [scratchA]
    exact kv_point m c t r j
  by_cases h0 : t.val % 2 = 0
  · exact even t h0
  · have hs : (outsAt0 m c t.val t.isLt).2 = (outsAt0 m c (t.val - 1) (Nat.lt_of_le_of_lt (Nat.sub_le _ _) t.isLt)).2 := by
      rw [outsAt0_B m c t h0]
      dsimp only [sout0_B_0]
    have ht : t.val < 16 := t.isLt
    have hb : batch ⟨t.val - 1, Nat.lt_of_le_of_lt (Nat.sub_le _ _) t.isLt⟩ = batch t := Fin.ext (by show (t.val - 1) / 2 = t.val / 2; omega)
    rw [hs]
    exact (even ⟨t.val - 1, Nat.lt_of_le_of_lt (Nat.sub_le _ _) t.isLt⟩ (by show (t.val - 1) % 2 = 0; omega)).trans (by rw [hb])

/-- The kernel's result from the arguments in memory. -/
def result : Buf (Elt Ideal) ((c : Thread nD τ).loc main_v10) := fun i =>
  xattnOut (m (c.tc.loc main_arg0)) (m (c.tc.loc main_arg1)) (m (c.tc.loc main_arg2)) (m (c.tc.loc main_arg3)) (m (c.tc.loc main_arg4))
    (m (c.tc.loc main_arg5)) (m (c.tc.loc main_arg6)) (i 0) (i 1) (i 2)

/-- Two tiles over keys and values that are the batch's are the result's rows. -/
theorem block_point (t : Fin cfg0.N) (kv : Vec Ideal S256x2048 .bf16)
    (hkv : ∀ r j, kv (ix2 r j) = kvRows (m (c.tc.loc main_arg1)) (m (c.tc.loc main_arg3)) (m (c.tc.loc main_arg5)) (batch t) r j) (r k : Fin 1024) :
    block (iblk m c 0 t) (iblk m c 1 t) (iblk m c 2 t) (iblk m c 6 t) kv (ix3 0 r k) = result m c (ix3 (batch t) (seqRow t r) k) := by
  rw [block_apply]
  have e0 : (fun k => iblk m c 0 t (ix3 0 r k)) = _ := funext fun k => blk0 m c t r k
  have e1 : (fun k => iblk m c 1 t (ix2 0 k)) = _ := funext fun k => blk1 m c t k
  have e2 : (fun k j => iblk m c 2 t (ix2 k j)) = _ := funext₂ fun k j => blk2 m c t k j
  have e3 : (fun r j => kv (ix2 r j)) = _ := funext₂ fun r j => hkv r j
  have e6 : (fun k j => iblk m c 6 t (ix2 k j)) = _ := funext₂ fun k j => blk6 m c t k j
  exact congrFun (congr (congr (congr (congrArg (xattnRow attT) e0) (congr (congr (congrArg queriesT e0) e1) e2)) e3) e6) k

/-- A grid point's block, row by row, is the result's rows. -/
theorem block_eq (t : Fin cfg0.N) (r k : Fin 1024) : (outsAt0 m c t.val t.isLt).1 (ix3 0 r k) = result m c (ix3 (batch t) (seqRow t r) k) := by
  by_cases h0 : t.val % 2 = 0
  · rw [outsAt0_A m c t h0]
    dsimp only
    rw [outA]
    exact block_point m c t _ (fun r j => kv_point m c t r j) r k
  · rw [outsAt0_B m c t h0]
    dsimp only
    rw [outB]
    have ht : t.val < 16 := t.isLt
    have hb : batch ⟨t.val - 1, Nat.lt_of_le_of_lt (Nat.sub_le _ _) t.isLt⟩ = batch t := Fin.ext (by show (t.val - 1) / 2 = t.val / 2; omega)
    exact block_point m c t _ (fun r j => (scratch m c ⟨t.val - 1, Nat.lt_of_le_of_lt (Nat.sub_le _ _) t.isLt⟩ r j).trans (by rw [hb])) r k

/-! ## The array -/

/-- What each grid point writes back is its block of the result. -/
theorem flushed_eq (t : Fin cfg0.N) : (dats m 0 c).flushed 7 t = ((cfg0.win 7).blk t).view.read (Elt Ideal) (result m c) := by
  rw [Value.flushed7]
  funext y
  have hy0 : (y 0).val < 1 := (y 0).isLt
  have hy1 : (y 1).val < 1024 := (y 1).isLt
  have he : ((cfg0.win 7).blk t).view.emb y = ix3 (batch t) (seqRow t ⟨(y 1).val, hy1⟩) (y 2) := funext fun a => Fin.ext (by
    match a with
    | ⟨0, _⟩ => show win0_7.index t 0 * 1 + 1 * (y 0).val = t.val / 2; rw [(index_eq t).2.2.2.2.2.2.2.1]; show t.val / 2 * 1 + 1 * _ = _; omega
    | ⟨1, _⟩ => show win0_7.index t 1 * 1024 + 1 * (y 1).val = 1024 * (t.val % 2) + (y 1).val; rw [(index_eq t).2.2.2.2.2.2.2.1]; show t.val % 2 * 1024 + 1 * _ = _; omega
    | ⟨2, _⟩ => show win0_7.index t 2 * 1024 + 1 * (y 2).val = (y 2).val; rw [(index_eq t).2.2.2.2.2.2.2.1]; show 0 * 1024 + 1 * (y 2).val = _; omega)
  have hx : (cfg0.win 7).xinj (grid0.coords t) y = ix3 0 ⟨(y 1).val, hy1⟩ (y 2) := funext fun a => Fin.ext (by
    match a with
    | ⟨0, _⟩ => show (y 0).val = 0; omega
    | ⟨1, _⟩ => rfl
    | ⟨2, _⟩ => rfl)
  rw [View.read_apply, he]
  refine Eq.trans ?_ (block_eq m c t ⟨(y 1).val, hy1⟩ (y 2))
  exact congrArg (outsAt0 m c t.val t.isLt).1 hx

theorem mem_blk (t : Fin cfg0.N) (i : S8x2048x1024.Idx) : i ∈ ((cfg0.win 7).blk t).view.set
    ↔ ∀ a : Fin 3, win0_7.index t a * S1x1024x1024.size a ≤ (i a).val ∧ (i a).val < win0_7.index t a * S1x1024x1024.size a + S1x1024x1024.size a := by
  show i ∈ ((View.whole main_v10).slice (win0_7.rect t)).set ↔ _
  rw [View.set_slice_whole, Rect.mem_set_unit]
  exact Iff.rfl

/-- Every row is in some grid point's block. -/
theorem covered (i : S8x2048x1024.Idx) : ∃ t : Fin cfg0.N, (cfg0.win 7).flush t = true ∧ i ∈ ((cfg0.win 7).blk t).view.set := by
  have h0 : (i 0).val < 8 := (i 0).isLt
  have h1 : (i 1).val < 2048 := (i 1).isLt
  have h2 : (i 2).val < 1024 := (i 2).isLt
  refine ⟨⟨2 * (i 0).val + (i 1).val / 1024, by show _ < 16; omega⟩, (index_eq _).2.2.2.2.2.2.2.2, ?_⟩
  rw [mem_blk]
  intro a
  match a with
  | ⟨0, _⟩ =>
    show win0_7.index _ 0 * 1 ≤ (i 0).val ∧ (i 0).val < win0_7.index _ 0 * 1 + 1
    rw [(index_eq _).2.2.2.2.2.2.2.1]
    show (2 * (i 0).val + (i 1).val / 1024) / 2 * 1 ≤ _ ∧ _ < (2 * (i 0).val + (i 1).val / 1024) / 2 * 1 + 1; omega
  | ⟨1, _⟩ =>
    show win0_7.index _ 1 * 1024 ≤ (i 1).val ∧ (i 1).val < win0_7.index _ 1 * 1024 + 1024
    rw [(index_eq _).2.2.2.2.2.2.2.1]
    show (2 * (i 0).val + (i 1).val / 1024) % 2 * 1024 ≤ _ ∧ _ < (2 * (i 0).val + (i 1).val / 1024) % 2 * 1024 + 1024; omega
  | ⟨2, _⟩ =>
    show win0_7.index _ 2 * 1024 ≤ (i 2).val ∧ (i 2).val < win0_7.index _ 2 * 1024 + 1024
    rw [(index_eq _).2.2.2.2.2.2.2.1]; show 0 * 1024 ≤ _ ∧ _ < 0 * 1024 + 1024; omega

/-- THE ARRAY after the run. -/
theorem final : (dats m 0 c).arrAt 7 cfg0.N = result m c :=
  (dats m 0 c).arrAt_eq_of_cover 7 _ (fun t _ => flushed_eq m c t) (covered)

end Cert.Xattn

end
-- ==== Proof.XattnRef.lean ====
/- The cross-attention reference read at an index: `xattnRow` again, its softmax through `exp` and normalised before the values are
   weighted. -/
module

public import proofs.«01_k».proof.Proof.XattnArray
public import proofs.«01_k».proof.Proof.Gen.ReferenceIdeal.Read

@[expose] public section

noncomputable section

namespace Cert.Xattn

open Idealize.ShloMosaic Cert.ReferenceIdeal Cert.ReferenceIdeal.Gen Cert.ReferenceIdeal.Read Cert.Math
open scoped BigOperators

/-- The reference's scale of the scores: its literal for 1/16. -/
def sixteenth : EReal := FloatOps.ofBits (F := Ideal) .f32 0x3D800000#32

/-- A softmax of the scaled scores, with the weights in base e. -/
def weightE (s : Fin 256 → EReal) (m : Fin 256) : EReal := Ideal.exp (s m * sixteenth - top fun m => s m * sixteenth)

/-- The reference's attention of one row and head. -/
def attE (s v : Fin 256 → EReal) : EReal := ∑ m : Fin 256, v m * Ideal.div (weightE s m) (∑ m : Fin 256, weightE s m)

variable (x0 : Vec Ideal S8x2048x1024 .f32) (x1 : Vec Ideal S8x256x1024 .f32) (x2 x3 : Vec Ideal S1x1024 .f32)
  (x4 : Vec Ideal S1x1024x1024 .f32) (x5 : Vec Ideal S1x1024x2048 .f32) (x6 : Vec Ideal S1x1024x1024 .f32)

theorem ref_normed (b : Fin 8) (s : Fin 2048) (k : Fin 1024) :
    val_main_v13 (F := Ideal) x0 x2 (ix3 b s k) = normed (fun k => x0 (ix3 b s k)) (fun k => x2 (ix2 0 k)) k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem ref_mem (b : Fin 8) (r : Fin 256) (k : Fin 1024) :
    val_main_v27 (F := Ideal) x1 x3 (ix3 b r k) = normed (fun k => x1 (ix3 b r k)) (fun k => x3 (ix2 0 k)) k := by
  pointwise [val_main_v27, val_main_v26, val_main_v25, val_main_v24, val_main_v23, val_main_v22, val_main_v21, val_main_v20, val_main_v19,
    val_main_v18, val_main_v17, val_main_v16, val_main_v15, val_main_v14, val_main_cst_2, val_main_cst_3, val_main_cst_4]
  rfl

theorem ref_queries (b : Fin 8) (s : Fin 2048) (j : Fin 1024) :
    val_main_v29 (F := Ideal) x0 x2 x4 (ix3 b s j) = proj (normed (fun k => x0 (ix3 b s k)) (fun k => x2 (ix2 0 k))) (fun k j => x4 (ix3 0 k j)) j := by
  rw [val_main_v29]
  pointwise [val_main_v28]
  simp only [ref_normed]
  rfl

theorem ref_kv (b : Fin 8) (r : Fin 256) (j : Fin 2048) : val_main_v32 (F := Ideal) x1 x3 x5 (ix3 b r j) = kvRows x1 x3 x5 b r j := by
  rw [val_main_v32]
  pointwise [val_main_v31]
  simp only [ref_mem]
  rfl

theorem ref_q (b : Fin 8) (s : Fin 2048) (h : Fin 4) (d : Fin 256) : val_main_v30 (F := Ideal) x0 x2 x4 (ix4 b s h d)
    = proj (normed (fun k => x0 (ix3 b s k)) (fun k => x2 (ix2 0 k))) (fun k j => x4 (ix3 0 k j)) ⟨256 * h.val + d.val, by omega⟩ := by
  have he : idx_main_v30 (ix4 b s h d) = ix3 b s (⟨256 * h.val + d.val, by omega⟩ : Fin 1024) := funext fun a => Fin.ext (by
    match a with
    | ⟨0, _⟩ => show (((b.val * 2048 + s.val) * 4 + h.val) * 256 + d.val) / 2097152 = b.val; omega
    | ⟨1, _⟩ => show (((b.val * 2048 + s.val) * 4 + h.val) * 256 + d.val) / 1024 % 2048 = s.val; omega
    | ⟨2, _⟩ => show (((b.val * 2048 + s.val) * 4 + h.val) * 256 + d.val) % 1024 = 256 * h.val + d.val; omega)
  rw [val_main_v30_apply, he]
  exact ref_queries x0 x2 x4 b s _

theorem ref_k (b : Fin 8) (m : Fin 256) (h : Fin 4) (d : Fin 256) : val_main_v35 (F := Ideal) x1 x3 x5 (ix4 b m h d)
    = kvRows x1 x3 x5 b m ⟨256 * h.val + d.val, by omega⟩ := by
  have he : idx_main_v33 (idx_main_v35 (ix4 b m h d)) = ix3 b m (⟨256 * h.val + d.val, by omega⟩ : Fin 2048) := funext fun a => Fin.ext (by
    match a with
    | ⟨0, _⟩ => show (((b.val * 256 + m.val) * 4 + h.val) * 256 + d.val) / 262144 = b.val; omega
    | ⟨1, _⟩ => show (((b.val * 256 + m.val) * 4 + h.val) * 256 + d.val) / 1024 % 256 = m.val; omega
    | ⟨2, _⟩ => show (((b.val * 256 + m.val) * 4 + h.val) * 256 + d.val) % 1024 = 256 * h.val + d.val; omega)
  rw [val_main_v35_apply, val_main_v33_apply, he]
  exact ref_kv x1 x3 x5 b m _

theorem ref_v (b : Fin 8) (m : Fin 256) (h : Fin 4) (d : Fin 256) : val_main_v36 (F := Ideal) x1 x3 x5 (ix4 b m h d)
    = kvRows x1 x3 x5 b m ⟨1024 + (256 * h.val + d.val), by omega⟩ := by
  have he : idx_main_v34 (idx_main_v36 (ix4 b m h d)) = ix3 b m (⟨1024 + (256 * h.val + d.val), by omega⟩ : Fin 2048) := funext fun a => Fin.ext (by
    match a with
    | ⟨0, _⟩ => show (((b.val * 256 + m.val) * 4 + h.val) * 256 + d.val) / 262144 = b.val; omega
    | ⟨1, _⟩ => show (((b.val * 256 + m.val) * 4 + h.val) * 256 + d.val) / 1024 % 256 = m.val; omega
    | ⟨2, _⟩ => show 1024 + (((b.val * 256 + m.val) * 4 + h.val) * 256 + d.val) % 1024 = 1024 + (256 * h.val + d.val); omega)
  rw [val_main_v36_apply, val_main_v34_apply, he]
  exact ref_kv x1 x3 x5 b m _

/-- The reference's raw scores of one row and head. -/
abbrev refScores (b : Fin 8) (s : Fin 2048) (h : Fin 4) : Fin 256 → EReal :=
  scores (proj (normed (fun k => x0 (ix3 b s k)) (fun k => x2 (ix2 0 k))) (fun k j => x4 (ix3 0 k j))) (kvRows x1 x3 x5 b) h

theorem ref_scores (b : Fin 8) (h : Fin 4) (s : Fin 2048) (m : Fin 256) :
    val_main_v39 (F := Ideal) x0 x1 x2 x3 x4 x5 (ix4 b h s m) = refScores x0 x1 x2 x3 x4 x5 b s h m * sixteenth := by
  rw [val_main_v39, val_main_v37]
  pointwise [val_main_v38, val_main_cst_5]
  simp only [ref_q, ref_k]
  rfl

/-- The row maximum. -/
theorem reduce_top (y : FVec Ideal S8x4x2048x256 .f32) (z : FVec Ideal S_ .f32) (b : Fin 8) (h : Fin 4) (s : Fin 2048) :
    (Host.reduce FloatOps.maximumf y z reducesTo_S8x4x2048x256_S8x4x2048_d3 h_S_ : FVec Ideal S8x4x2048 .f32) (ix3 b h s)
      = Finset.univ.fold max (z (Shape.Idx.first h_S_)) fun m : Fin 256 => y (ix4 b h s m) := by
  pointwise []

theorem ref_top (b : Fin 8) (h : Fin 4) (s : Fin 2048) :
    val_main_v40 (F := Ideal) x0 x1 x2 x3 x4 x5 (ix3 b h s) = top fun m => val_main_v39 (F := Ideal) x0 x1 x2 x3 x4 x5 (ix4 b h s m) := by
  unfold val_main_v40
  generalize val_main_v39 (F := Ideal) x0 x1 x2 x3 x4 x5 = y
  refine (reduce_top y _ b h s).trans ?_
  rw [show val_main_cst_6 (F := Ideal) (Shape.Idx.first h_S_) = ⊥ from ofBits_bot]
  rfl

theorem ref_exp (b : Fin 8) (h : Fin 4) (s : Fin 2048) (m : Fin 256) :
    val_main_v46 (F := Ideal) x0 x1 x2 x3 x4 x5 (ix4 b h s m)
     = Ideal.exp (val_main_v39 (F := Ideal) x0 x1 x2 x3 x4 x5 (ix4 b h s m) - top fun m => val_main_v39 (F := Ideal) x0 x1 x2 x3 x4 x5 (ix4 b h s m)) := by
  have h42 : val_main_v42 (F := Ideal) x0 x1 x2 x3 x4 x5 (ix3 b h s) = val_main_v40 (F := Ideal) x0 x1 x2 x3 x4 x5 (ix3 b h s) := by
    rw [val_main_v42_apply, val_main_v41_apply]
    generalize val_main_v40 (F := Ideal) x0 x1 x2 x3 x4 x5 = y
    refine Eq.trans (congrArg (fun z => max z _) ?_) (bot_sup_eq _)
    exact ofBits_bot
  rw [val_main_v46_apply, val_main_v45_apply, val_main_v44_apply, val_main_v43_apply, ← ref_top, ← h42]
  generalize val_main_v39 (F := Ideal) x0 x1 x2 x3 x4 x5 = y
  generalize val_main_v42 (F := Ideal) x0 x1 x2 x3 x4 x5 = z
  have he : idx_main_v43 (idx_main_v44 (ix4 b h s m)) = ix3 b h s := funext fun a => Fin.ext (by
    match a with
    | ⟨0, _⟩ => rfl
    | ⟨1, _⟩ => rfl
    | ⟨2, _⟩ => rfl)
  rw [he]
  rfl

theorem ref_weight (b : Fin 8) (h : Fin 4) (s : Fin 2048) (m : Fin 256) :
    val_main_v46 (F := Ideal) x0 x1 x2 x3 x4 x5 (ix4 b h s m) = weightE (refScores x0 x1 x2 x3 x4 x5 b s h) m := by
  rw [ref_exp]
  simp only [ref_scores]
  rfl

theorem ref_prob (b : Fin 8) (h : Fin 4) (s : Fin 2048) (m : Fin 256) :
    val_main_v50 (F := Ideal) x0 x1 x2 x3 x4 x5 (ix4 b h s m)
      = Ideal.div (weightE (refScores x0 x1 x2 x3 x4 x5 b s h) m) (∑ m : Fin 256, weightE (refScores x0 x1 x2 x3 x4 x5 b s h) m) := by
  pointwise [val_main_v50, val_main_v49, val_main_v48, val_main_v47, val_main_cst_8]
  simp only [ref_weight]

theorem ref_att (b : Fin 8) (h : Fin 4) (d : Fin 256) (s : Fin 2048) :
    val_main_v51 (F := Ideal) x0 x1 x2 x3 x4 x5 (ix4 b h d s)
      = attE (refScores x0 x1 x2 x3 x4 x5 b s h) (fun m => kvRows x1 x3 x5 b m ⟨1024 + (256 * h.val + d.val), by omega⟩) := by
  rw [val_main_v51]
  pointwise []
  simp only [ref_v, ref_prob]
  rfl

theorem ref_ctx (b : Fin 8) (s : Fin 2048) (j : Fin 1024) :
    val_main_v53 (F := Ideal) x0 x1 x2 x3 x4 x5 (ix3 b s j)
      = attE (refScores x0 x1 x2 x3 x4 x5 b s ⟨j.val / 256, by omega⟩) (fun m => kvRows x1 x3 x5 b m ⟨1024 + j.val, by omega⟩) := by
  have he : idx_main_v52 (idx_main_v53 (ix3 b s j)) = ix4 b (⟨j.val / 256, by omega⟩ : Fin 4) (⟨j.val % 256, by omega⟩ : Fin 256) s := funext fun a => Fin.ext (by
    match a with
    | ⟨0, _⟩ => show ((b.val * 2048 + s.val) * 1024 + j.val) / 2097152 = b.val; omega
    | ⟨1, _⟩ => show ((b.val * 2048 + s.val) * 1024 + j.val) / 256 % 4 = j.val / 256; omega
    | ⟨2, _⟩ => show ((b.val * 2048 + s.val) * 1024 + j.val) % 256 = j.val % 256; omega
    | ⟨3, _⟩ => show ((b.val * 2048 + s.val) * 1024 + j.val) / 1024 % 2048 = s.val; omega)
  rw [val_main_v53_apply, val_main_v52_apply, he, ref_att]
  have hj : (⟨1024 + (256 * (j.val / 256) + j.val % 256), by omega⟩ : Fin 2048) = ⟨1024 + j.val, by omega⟩ := Fin.ext (by show _ + (_ + _) = _ + j.val; omega)
  exact congrArg (attE _) (funext fun m => congrArg (kvRows x1 x3 x5 b m) hj)

theorem ref_last (b : Fin 8) (s : Fin 2048) (c : Fin 1024) :
    val_main_v56 (F := Ideal) x0 x1 x2 x3 x4 x5 x6 (ix3 b s c)
      = xattnRow attE (fun k => x0 (ix3 b s k)) (proj (normed (fun k => x0 (ix3 b s k)) (fun k => x2 (ix2 0 k))) (fun k j => x4 (ix3 0 k j)))
          (kvRows x1 x3 x5 b) (fun j c => x6 (ix3 0 j c)) c := by
  rw [val_main_v56, val_main_v55]
  pointwise [val_main_v54]
  simp only [ref_ctx]
  rfl

end Cert.Xattn

end
-- ==== Proof.XattnEq.lean ====
/- The cross-attention claim: with real gains and real query, key and value weights every score is real, so the kernel's softmax
   in base 2 over scores scaled by (1/16)/log 2 is the reference's in base e over scores scaled by 1/16, and dividing after the
   values are weighted is dividing before. -/
module

public import proofs.«01_k».proof.Defs
public import proofs.«01_k».proof.Proof.XattnRef
public import proofs.«01_k».proof.Proof.Finite
public import proofs.«01_k».proof.Proof.Gen.ReferenceIdeal.Run

@[expose] public section

noncomputable section

namespace Cert.Xattn

open Idealize.ShloMosaic Idealize.ShloMosaic.TcCoe Idealize.SL.Sem Cert.Math
open scoped BigOperators

theorem sixteenth_eq : sixteenth = ((1 / 16 : ℝ) : EReal) := by
  show Ideal.ofBits .f32 0x3D800000#32 = _
  simp [Ideal.ofBits, Ideal.ieee, -EReal.coe_mul]; norm_num

/-- A row's maximum is its greatest entry. -/
theorem top_eq (a : Fin 256 → ℝ) (k : Fin 256) (hk : ∀ m, a m ≤ a k) : (top fun m => (a m : EReal)) = (a k : EReal) := by
  refine le_antisymm ?_ ?_
  · exact (Finset.fold_max_le _).mpr ⟨bot_le, fun m _ => EReal.coe_le_coe_iff.mpr (hk m)⟩
  · exact (Finset.le_fold_max _).mpr (Or.inr ⟨k, Finset.mem_univ _, le_rfl⟩)

/-- Real scores scaled by a positive real: the maximum is scaled with them. -/
theorem top_scaled (σ : Fin 256 → ℝ) (k : Fin 256) (hk : ∀ m, σ m ≤ σ k) (c : ℝ) (hc : 0 < c) :
    (top fun m => ((σ m * c : ℝ) : EReal)) = ((σ k * c : ℝ) : EReal) :=
  top_eq (fun m => σ m * c) k fun m => mul_le_mul_of_nonneg_right (hk m) hc.le

theorem log2_pos : 0 < Real.log 2 := Real.log_pos (by norm_num)

theorem qScale_pos : 0 < qScale := mul_pos (by norm_num) (inv_pos.mpr log2_pos)

/-- The kernel's weight of real scores, -/
theorem weight_eq (σ : Fin 256 → ℝ) (k : Fin 256) (hk : ∀ m, σ m ≤ σ k) (m : Fin 256) :
    weight (fun m => ((σ m * qScale : ℝ) : EReal)) m = ((Real.exp ((σ m - σ k) * (1 / 16)) : ℝ) : EReal) := by
  unfold weight
  rw [top_scaled σ k hk _ qScale_pos, ← EReal.coe_sub, Ideal.exp2_coe]
  refine congrArg _ ?_
  show (2 : ℝ) ^ (σ m * qScale - σ k * qScale) = _
  rw [Real.rpow_def_of_pos (by norm_num)]
  refine congrArg _ ?_
  unfold qScale
  have := log2_pos.ne'
  field_simp

/-- and the reference's. -/
theorem weightE_eq (σ : Fin 256 → ℝ) (k : Fin 256) (hk : ∀ m, σ m ≤ σ k) (m : Fin 256) :
    weightE (fun m => (σ m : EReal)) m = ((Real.exp ((σ m - σ k) * (1 / 16)) : ℝ) : EReal) := by
  unfold weightE
  rw [sixteenth_eq]
  simp only [← EReal.coe_mul]
  rw [top_scaled σ k hk _ (by norm_num), ← EReal.coe_sub, Ideal.exp_coe, sub_mul]

/-- The two attentions of one row and head, at real scores and values. -/
theorem att_eq (σ v : Fin 256 → ℝ) : attT (fun m => ((σ m * qScale : ℝ) : EReal)) (fun m => (v m : EReal))
    = attE (fun m => (σ m : EReal)) (fun m => (v m : EReal)) := by
  obtain ⟨k, hk⟩ := Finite.exists_max σ
  unfold attT attE
  simp only [weight_eq σ k hk, weightE_eq σ k hk, sum_coe]
  have hS : (∑ m : Fin 256, Real.exp ((σ m - σ k) * (1 / 16))) ≠ 0 := (Finset.sum_pos (fun m _ => Real.exp_pos _) Finset.univ_nonempty).ne'
  simp only [Ideal.div_coe hS, ← EReal.coe_mul, sum_coe]
  refine congrArg _ ?_
  rw [Finset.sum_mul]
  exact Finset.sum_congr rfl fun m _ => by ring

theorem proj_isReal {N : ℕ} (n : Fin 1024 → EReal) (w : Fin 1024 → Fin N → EReal) (hn : ∀ k, IsReal (n k)) (hw : ∀ k j, IsReal (w k j)) (j : Fin N) :
    IsReal (proj n w j) := isReal_sum _ _ fun k => (hn k).mul (hw k j)

/-- The row is the same through either attention. -/
theorem xattnRow_eq (x g : Fin 1024 → EReal) (wq : Fin 1024 → Fin 1024 → EReal) (kv : Fin 256 → Fin 2048 → EReal) (wo : Fin 1024 → Fin 1024 → EReal)
    (hg : ∀ k, IsReal (g k)) (hq : ∀ k j, IsReal (wq k j)) (hkv : ∀ m j, IsReal (kv m j)) :
    xattnRow attT x (queriesT x g wq) kv wo = xattnRow attE x (proj (normed x g) wq) kv wo := by
  choose q hq using proj_isReal (normed x g) wq (normed_isReal x g hg) hq
  choose κ hκ using hkv
  have ht (h : Fin 4) : scores (queriesT x g wq) kv h
      = fun m => (((∑ d : Fin 256, q ⟨256 * h.val + d.val, by omega⟩ * κ m ⟨256 * h.val + d.val, by omega⟩) * qScale : ℝ) : EReal) := by
    funext m
    unfold scores queriesT
    simp only [hq, hκ, ← EReal.coe_mul, sum_coe]
    refine congrArg _ ?_
    rw [Finset.sum_mul]
    exact Finset.sum_congr rfl fun d _ => by ring
  have he (h : Fin 4) : scores (proj (normed x g) wq) kv h
      = fun m => ((∑ d : Fin 256, q ⟨256 * h.val + d.val, by omega⟩ * κ m ⟨256 * h.val + d.val, by omega⟩ : ℝ) : EReal) := by
    funext m
    unfold scores
    simp only [hq, hκ, ← EReal.coe_mul, sum_coe]
  funext c
  unfold xattnRow
  simp only [ht, he, hκ, att_eq]

/-- What the precondition says: the two normalisations' gains and the query, key and value weights are real. -/
theorem finite_scores [Pre_finite_scores.Facts] (x0 : Vec Ideal KernelIdeal.S8x2048x1024 .f32) (x1 : Vec Ideal KernelIdeal.S8x256x1024 .f32)
    (x2 x3 : Vec Ideal KernelIdeal.S1x1024 .f32) (x4 : Vec Ideal KernelIdeal.S1x1024x1024 .f32) (x5 : Vec Ideal KernelIdeal.S1x1024x2048 .f32)
    (x6 : Vec Ideal KernelIdeal.S1x1024x1024 .f32) (h : Pre_finite_scores.fn (F := Ideal) x0 x1 x2 x3 x4 x5 x6 = fun _ => 1#1) :
    (∀ i, IsReal (x2 i)) ∧ (∀ i, IsReal (x3 i)) ∧ (∀ i, IsReal (x4 i)) ∧ ∀ i, IsReal (x5 i) := by
  have h0 := congrFun h ix0
  dsimp only [Pre_finite_scores.fn, Pre_finite_scores.fn_part1] at h0
  obtain ⟨h0, hd⟩ := andi_one h0
  obtain ⟨h0, hc⟩ := andi_one h0
  obtain ⟨ha, hb⟩ := andi_one h0
  exact ⟨all_finite ha, all_finite hb, all_finite hc, all_finite hd⟩

/-- THE CROSS-ATTENTION CLAIM. -/
theorem algebraic [Pre_finite_scores.Facts] : Cert.algebraic_KernelIdeal_ReferenceIdeal_pre_finite_scores := by
  intro m g m' g' hpre hargs
  refine ⟨fun c => result m c, ?_, ?_⟩
  · exact (θ_run _ _ _).mono (fun r h c => ⟨(h c).1.trans (final m c), (h c).2⟩) (KernelIdeal.Value.run_blocks m g)
  · refine (θ_run _ _ _).mono (fun r h c => ⟨(h c).1.trans ?_, (h c).2⟩) (ReferenceIdeal.Value.run m' g')
    obtain ⟨e0, e1, e2, e3, e4, e5, e6⟩ := hargs c
    obtain ⟨h2, h3, h4, h5⟩ := finite_scores _ _ _ _ _ _ _ (hpre c)
    rw [ReferenceIdeal.Read.val_main_v56_eq, e0, e1, e2, e3, e4, e5, e6]
    funext i
    have hi : i = ix3 (i 0) (i 1) (i 2) := by
      funext a
      match a with
      | ⟨0, _⟩ => rfl
      | ⟨1, _⟩ => rfl
      | ⟨2, _⟩ => rfl
    refine (congrArg _ hi).trans ((ref_last _ _ _ _ _ _ _ (i 0) (i 1) (i 2)).trans ?_)
    exact (congrFun (xattnRow_eq _ _ _ _ _ (fun k => h2 _) (fun k j => h4 _)
      (fun r j => proj_isReal _ _ (normed_isReal _ _ fun k => h3 _) (fun k j => h5 _) j)) (i 2)).symm

end Cert.Xattn

end
-- ==== Proof.MixerKeeps.lean ====
module

public import Idealize.ShloMosaic.Lib.Transfers
public import Idealize.ShloMosaic.Lib.Pipeline.FrameBody
public import Idealize.ShloMosaic.Lib.Tactic
public import Idealize.ShloMosaic.Lib.Ring

/-!
A core that runs a table of copies side by side. Every channel of the table has a
counter, a source and a destination; the state of the table says which
channels have a copy under way. A body is stepped by its effect on that state alone: what its loads
read and what its stores write is not followed, so the rules here say what a body leaves in the
core's hands and nothing about the numbers.
-/

@[expose] public section

noncomputable section

namespace Cert.Mixer

open Idealize.ShloMosaic
open Idealize.SL Idealize.SL.RA Idealize.SL.BI
open Idealize.SL.BI (sProp Storable)
open scoped Idealize.SL.BI
open Idealize.SL.BI.BIBase Idealize.SL.BI.Laws Idealize.SL.ProofMode Idealize.SL.Sem

variable {nD : Nat} {τ : Topo} {sig : RefSig} {Val : EltTy → Type} {Λ : Labels}

variable {defs : Defs nD τ sig Val Λ} {d : Dev nD} {α β : Type} {X Y : sProp (MT nD τ sig Unit Val ℕ (Pipeline.UD sig nD τ) ℕ)}
  {Q : α → sProp (MT nD τ sig Unit Val ℕ (Pipeline.UD sig nD τ) ℕ)}

/-- From `X` the program `p` runs to its end and leaves what `Q` says of its result. -/
def Runs (defs : Defs nD τ sig Val Λ) (d : Dev nD) (X : sProp (MT nD τ sig Unit Val ℕ (Pipeline.UD sig nD τ) ℕ)) (p : Prog (TpuEff nD τ sig Val Λ .tc) α) (Q : α → sProp (MT nD τ sig Unit Val ℕ (Pipeline.UD sig nD τ) ℕ)) : Prop :=
  X ⊢ wp frame (wpE defs Variants.none d.tc none) Set.univ p Q

theorem Runs.ret (a : α) (h : X ⊢ Q a) : Runs defs d X (.ret a : Prog (TpuEff nD τ sig Val Λ .tc) α) Q :=
  h.trans (le_wp_ret frame (wpE defs Variants.none d.tc none) Set.univ a Q)

theorem Runs.pure (a : α) : Runs defs d X (pure a : Prog (TpuEff nD τ sig Val Λ .tc) α) fun _ => X := Runs.ret a .rfl

theorem Runs.bindTo {p : Prog (TpuEff nD τ sig Val Λ .tc) β} {k : β → Prog (TpuEff nD τ sig Val Λ .tc) α} {P : β → sProp (MT nD τ sig Unit Val ℕ (Pipeline.UD sig nD τ) ℕ)}
    (hp : Runs defs d X p P) (hk : ∀ a, Runs defs d (P a) (k a) Q) : Runs defs d X (p >>= k) Q := by
  unfold Runs
  rw [wp_bind]
  exact hp.trans (wp_mono frame _ _ hk)

theorem Runs.bind {p : Prog (TpuEff nD τ sig Val Λ .tc) β} {k : β → Prog (TpuEff nD τ sig Val Λ .tc) α}
    (hp : Runs defs d X p fun _ => Y) (hk : ∀ a, Runs defs d Y (k a) Q) : Runs defs d X (p >>= k) Q := .bindTo hp hk

/-- A step whose result is known. -/
theorem Runs.bindEq {p : Prog (TpuEff nD τ sig Val Λ .tc) β} {k : β → Prog (TpuEff nD τ sig Val Λ .tc) α} (b : β)
    (hp : Runs defs d X p fun a => iprop(⌜a = b⌝ ∗ Y)) (hk : Runs defs d Y (k b) Q) : Runs defs d X (p >>= k) Q := by
  refine .bindTo hp fun a => ?_
  unfold Runs
  iintro ⟨%h, HY⟩
  subst h
  iapply (show Y ⊢ _ from hk) $$ HY

theorem Runs.pureEq (a : α) : Runs defs d X (Pure.pure a : Prog (TpuEff nD τ sig Val Λ .tc) α) fun b => iprop(⌜b = a⌝ ∗ X) := by
  refine .ret a ?_
  iintro HX
  isplitr; · ipureintro; rfl
  iexact HX

/-- The same state under another name. -/
theorem Runs.conv {p : Prog (TpuEff nD τ sig Val Λ .tc) α} (e : X = Y) (h : Runs defs d Y p Q) : Runs defs d X p Q := e ▸ h

/-- The buffer elements `A` of a memref, out of `X` and back into it at whatever they then hold. -/
def Acc (d : Dev nD) (X : sProp (MT nD τ sig Unit Val ℕ (Pipeline.UD sig nD τ) ℕ)) {sp : Space} {s : Shape} {e : EltTy} (m : Memref sig .tc sp s e)
    (A : Finset (Idx (m.view.loc (d.tc : Thread nD τ)))) : Prop :=
  X ⊢ iprop(∃ f : Buf Val (m.view.loc (d.tc : Thread nD τ)), (m.view.loc d.tc ↦[A]{fullShare} f)
    ∗ ((∃ g : Buf Val (m.view.loc (d.tc : Thread nD τ)), m.view.loc d.tc ↦[A]{fullShare} g) -∗ X))

theorem Acc.sep_left {R : sProp (MT nD τ sig Unit Val ℕ (Pipeline.UD sig nD τ) ℕ)} {sp : Space} {s : Shape} {e : EltTy} {m : Memref sig .tc sp s e}
    {A : Finset (Idx (m.view.loc (d.tc : Thread nD τ)))} (h : Acc d X m A) : Acc d iprop(X ∗ R) m A := by
  unfold Acc
  iintro ⟨HX, HR⟩
  ihave H := (show X ⊢ _ from h) $$ HX
  icases H with ⟨%f, Hf, Hb⟩
  iexists f
  isplitl [Hf]; · iexact Hf
  iintro Hg
  isplitl [Hg Hb]
  · iapply Hb $$ Hg
  · iexact HR

theorem Acc.sep_right {R : sProp (MT nD τ sig Unit Val ℕ (Pipeline.UD sig nD τ) ℕ)} {sp : Space} {s : Shape} {e : EltTy} {m : Memref sig .tc sp s e}
    {A : Finset (Idx (m.view.loc (d.tc : Thread nD τ)))} (h : Acc d X m A) : Acc d iprop(R ∗ X) m A := by
  unfold Acc
  iintro ⟨HR, HX⟩
  ihave H := (show X ⊢ _ from h) $$ HX
  icases H with ⟨%f, Hf, Hb⟩
  iexists f
  isplitl [Hf]; · iexact Hf
  iintro Hg
  isplitl [HR]; · iexact HR
  iapply Hb $$ Hg

theorem Acc.owned {sp : Space} {s : Shape} {e : EltTy} {m : Memref sig .tc sp s e}
    {A : Finset (Idx (m.view.loc (d.tc : Thread nD τ)))} :
    Acc d iprop(∃ g : Buf Val (m.view.loc (d.tc : Thread nD τ)), m.view.loc d.tc ↦[A]{fullShare} g) m A := by
  unfold Acc
  iintro ⟨%f, Hf⟩
  iexists f
  isplitl [Hf]; · iexact Hf
  iintro Hg
  iexact Hg

/-- The part of a held region. -/
theorem Acc.mono {sp : Space} {s : Shape} {e : EltTy} {m : Memref sig .tc sp s e}
    {A B : Finset (Idx (m.view.loc (d.tc : Thread nD τ)))} (hAB : B ⊆ A) (h : Acc d X m A) : Acc d X m B := by
  unfold Acc
  iintro HX
  ihave H := (show X ⊢ _ from h) $$ HX
  icases H with ⟨%f, Hf, Hb⟩
  ihave H := (pointsTo_split_subset hAB).1 $$ Hf
  icases H with ⟨Hi, Hr⟩
  iexists f
  isplitl [Hi]; · iexact Hi
  iintro ⟨%g, Hg⟩
  iapply Hb
  iexists (B.piecewise g f)
  iapply (pointsTo_join_subset hAB)
  isplitl [Hg] <;> iassumption

theorem Runs.loadOn {cs : CoreSpace} {s : Shape} {e : EltTy} {m : Memref sig .tc cs s e} {r : LoadRect s} {hl}
    {k : _ → Prog (TpuEff nD τ sig Val Λ .tc) α} (A : Finset (Idx (m.view.loc (d.tc : Thread nD τ))))
    (h : Acc d X m A) (hS : m.view.setOn r.set ⊆ A)
    (hk : ∀ v, Runs defs d X (k v) Q) : Runs defs d X (Prog.lift (.load m r hl) >>= k) Q := by
  unfold Runs
  iintro HX
  ihave H := (show X ⊢ _ from h) $$ HX
  icases H with ⟨%f, Hf, Hb⟩
  iapply (wp_load Variants.none d.tc none Set.univ hS) $$ Hf
  iintro Hf
  iapply (show X ⊢ _ from hk _)
  iapply Hb
  iexists f
  iexact Hf

theorem Runs.load {cs : CoreSpace} {s : Shape} {e : EltTy} {m : Memref sig .tc cs s e} {r : LoadRect s} {hl}
    {k : _ → Prog (TpuEff nD τ sig Val Λ .tc) α} (h : Acc d X m m.view.set)
    (hk : ∀ v, Runs defs d X (k v) Q) : Runs defs d X (Prog.lift (.load m r hl) >>= k) Q :=
  .loadOn _ h (View.setOn_subset_set _ _) hk

theorem Runs.storeOn {cs : CoreSpace} {s : Shape} {e : EltTy} {m : Memref sig .tc cs s e} {r : Rect s} {w Mk h1 h2}
    {k : _ → Prog (TpuEff nD τ sig Val Λ .tc) α} (A : Finset (Idx (m.view.loc (d.tc : Thread nD τ))))
    (h : Acc d X m A) (hS : (m.access r).setOn Mk ⊆ A)
    (hk : Runs defs d X (k ⟨⟩) Q) : Runs defs d X (Prog.lift (.store m r w Mk h1 h2) >>= k) Q := by
  unfold Runs
  iintro HX
  ihave H := (show X ⊢ _ from h) $$ HX
  icases H with ⟨%f, Hf, Hb⟩
  iapply (wp_store Variants.none d.tc none Set.univ hS) $$ Hf
  iintro Hf
  iapply (show X ⊢ _ from hk)
  iapply Hb
  iexists _
  iexact Hf

theorem Runs.store {cs : CoreSpace} {s : Shape} {e : EltTy} {m : Memref sig .tc cs s e} {r : Rect s} {w Mk h1 h2}
    {k : _ → Prog (TpuEff nD τ sig Val Λ .tc) α} (h : Acc d X m m.view.set)
    (hk : Runs defs d X (k ⟨⟩) Q) : Runs defs d X (Prog.lift (.store m r w Mk h1 h2) >>= k) Q :=
  .storeOn _ h ((View.setOn_subset_set _ _).trans (View.set_slice_subset _ _)) hk

theorem Runs.smemLoad {s : Shape} {e : EltTy} {m : Memref sig .tc .smem s e} {r : Rect s} {h1 : r.shape.numel = 1} {hp : e.packing = 1}
    (h : Acc d X m m.view.set) : Runs defs d X (Idealize.ShloMosaic.smemLoad (nD := nD) (τ := τ) (Val := Val) (Λ := Λ) (p := .tc) m r h1 hp) fun _ => X := by
  unfold Idealize.ShloMosaic.smemLoad smemLoadElt
  exact .load h fun v => .ret _ .rfl

/-! ### The table -/

/-- One channel: where its copies come from and go to, the elements of the two that it keeps for itself, the share of
    the source, what is known of the source, and the credit of one copy. -/
structure Chan (nD : Nat) (τ : Topo) (sig : RefSig) (Val : EltTy → Type) where
  lA : Loc nD τ sig
  lB : Loc nD τ sig
  SA : Finset (Idx lA)
  SB : Finset (Idx lB)
  qA : PosShare TreeShare
  φ : Buf Val lA → Prop
  N : ℕ

/-- What a channel at rest holds. -/
def Pair (D : Chan nD τ sig Val) : sProp (MT nD τ sig Unit Val ℕ (Pipeline.UD sig nD τ) ℕ) :=
  iprop((∃ f : Buf Val D.lA, ⌜D.φ f⌝ ∗ (D.lA ↦[D.SA]{D.qA} f)) ∗ ∃ g : Buf Val D.lB, (D.lB ↦[D.SB]{fullShare} g))

/-- A channel, at rest or with a copy under way. -/
def Cell (d : Dev nD) (sm : SemLoc sig) (D : Chan nD τ sig Val) : Bool → sProp (MT nD τ sig Unit Val ℕ (Pipeline.UD sig nD τ) ℕ)
  | true => iprop(∃ R : sProp (MT nD τ sig Unit Val ℕ (Pipeline.UD sig nD τ) ℕ), Transfers.Flight (countersEmb (U := Pipeline.UD sig nD τ)) d.tc sm () D.N R ∗ (R -∗ Pair D))
  | false => iprop(semVal (d.tc, sm) 0 ∗ Pair D)

variable {n : ℕ} {sm : Fin n → SemLoc sig} {D : Fin n → Chan nD τ sig Val} {R : sProp (MT nD τ sig Unit Val ℕ (Pipeline.UD sig nD τ) ℕ)} {σ σ' : Fin n → Bool}

/-- The state `σ` with channel `ch` set to `b`. -/
def put (σ : Fin n → Bool) (ch : Fin n) (b : Bool) : Fin n → Bool := fun c => if c = ch then b else σ c

theorem put_self (ch : Fin n) (b : Bool) : put σ ch b ch = b := if_pos rfl

theorem put_of_ne {c ch : Fin n} {b : Bool} (h : c ≠ ch) : put σ ch b c = σ c := if_neg h

theorem put_eq_self {ch : Fin n} {b : Bool} (h : σ ch = b) : put σ ch b = σ :=
  funext fun c => by
    by_cases e : c = ch
    · rw [e, put_self, h]
    · exact put_of_ne e

/-- The whole table beside `R`, the copies under way where `σ` says so. -/
def St (d : Dev nD) (sm : Fin n → SemLoc sig) (D : Fin n → Chan nD τ sig Val) (R : sProp (MT nD τ sig Unit Val ℕ (Pipeline.UD sig nD τ) ℕ)) (σ : Fin n → Bool) : sProp (MT nD τ sig Unit Val ℕ (Pipeline.UD sig nD τ) ℕ) :=
  iprop((R ∗ ∃ W : Waits sig Unit, owes d.tc 0 W) ∗ bigSep Finset.univ fun ch => Cell d (sm ch) (D ch) (σ ch))

theorem St.acc {sp : Space} {s : Shape} {e : EltTy} {m : Memref sig .tc sp s e}
    {A : Finset (Idx (m.view.loc (d.tc : Thread nD τ)))} (h : Acc d R m A) : Acc d (St d sm D R σ) m A :=
  Acc.sep_left (Acc.sep_left h)

theorem bigSep_take {Φ : Fin n → sProp (MT nD τ sig Unit Val ℕ (Pipeline.UD sig nD τ) ℕ)} (ch : Fin n) :
    bigSep Finset.univ Φ = iprop(Φ ch ∗ bigSep (Finset.univ.erase ch) Φ) :=
  bigSep_erase (Finset.mem_univ ch)

/-- One channel out of the table and back in another state. -/
theorem cells_take (ch : Fin n) (b : Bool) :
    (bigSep Finset.univ fun c => Cell d (sm c) (D c) (σ c)) ⊢ iprop(Cell d (sm ch) (D ch) (σ ch)
      ∗ (Cell d (sm ch) (D ch) b -∗ (bigSep Finset.univ fun c => Cell d (sm c) (D c) (put σ ch b c) : sProp (MT nD τ sig Unit Val ℕ (Pipeline.UD sig nD τ) ℕ)))) := by
  classical
  rw [bigSep_take ch]
  iintro ⟨Hc, Hr⟩
  isplitl [Hc]; · iexact Hc
  iintro Hn
  rw [bigSep_take ch (Φ := fun c => Cell d (sm c) (D c) (put σ ch b c)), put_self]
  isplitl [Hn]; · iexact Hn
  have e : (bigSep (Finset.univ.erase ch) fun c => (Cell d (sm c) (D c) (put σ ch b c) : sProp (MT nD τ sig Unit Val ℕ (Pipeline.UD sig nD τ) ℕ)))
      = bigSep (Finset.univ.erase ch) fun c => Cell d (sm c) (D c) (σ c) := bigSep_congr fun c hc => by
    rw [put_of_ne (Finset.ne_of_mem_erase hc)]
  rw [e]
  iexact Hr

/-- What a channel at rest must offer a copy from `src` to `dst`. -/
def CanCopy (d : Dev nD) (P : sProp (MT nD τ sig Unit Val ℕ (Pipeline.UD sig nD τ) ℕ)) {sp sp' : Space} {s s' : Shape} {e e' : EltTy}
    (src : Memref sig .tc sp s e) (dst : Memref sig .tc sp' s' e') : Prop :=
  P ⊢ iprop(∃ (q : PosShare TreeShare) (fs : Buf Val (src.view.loc (d.tc : Thread nD τ))) (Sd : Finset (Idx (dst.view.loc (d.tc : Thread nD τ))))
      (fd : Buf Val (dst.view.loc (d.tc : Thread nD τ))), ⌜dst.view.set ⊆ Sd⌝
    ∗ (src.view.loc d.tc ↦[src.view.set]{q} fs) ∗ (dst.view.loc d.tc ↦[Sd]{fullShare} fd)
    ∗ (((∃ g : Buf Val (dst.view.loc (d.tc : Thread nD τ)), dst.view.loc d.tc ↦[Sd]{fullShare} g) ∗ (src.view.loc d.tc ↦[src.view.set]{q} fs)) -∗ P))

theorem CanCopy.pair {sp sp' : Space} {s s' : Shape} {e e' : EltTy} {src : Memref sig .tc sp s e} {dst : Memref sig .tc sp' s' e'}
    {SA : Finset (Idx (src.view.loc (d.tc : Thread nD τ)))} {SB : Finset (Idx (dst.view.loc (d.tc : Thread nD τ)))} {q : PosShare TreeShare}
    {φ : Buf Val (src.view.loc (d.tc : Thread nD τ)) → Prop} {N : ℕ} (hA : src.view.set ⊆ SA) (hB : dst.view.set ⊆ SB) :
    CanCopy d (Pair ⟨src.view.loc d.tc, dst.view.loc d.tc, SA, SB, q, φ, N⟩) src dst := by
  unfold CanCopy Pair
  iintro ⟨⟨%f, %hf, Hf⟩, ⟨%g, Hg⟩⟩
  ihave H := (pointsTo_split_subset hA).1 $$ Hf
  icases H with ⟨Hi, Hr⟩
  iexists q, f, SB, g
  isplitr; · ipureintro; exact hB
  isplitl [Hi]; · iexact Hi
  isplitl [Hg]; · iexact Hg
  iintro ⟨Hg, Hi⟩
  isplitl [Hi Hr]
  · iexists f
    isplitr; · ipureintro; exact hf
    iapply (pointsTo_split_subset hA).2
    isplitl [Hi] <;> iassumption
  · iexact Hg

theorem Acc.pairDst {sp : Space} {s : Shape} {e : EltTy} {m : Memref sig .tc sp s e} {lA : Loc nD τ sig} {SA : Finset (Idx lA)}
    {SB : Finset (Idx (m.view.loc (d.tc : Thread nD τ)))} {q : PosShare TreeShare} {φ : Buf Val lA → Prop} {N : ℕ} :
    Acc d (Pair ⟨lA, m.view.loc d.tc, SA, SB, q, φ, N⟩) m SB := by
  unfold Pair
  exact Acc.sep_right Acc.owned

theorem Acc.pairSrc {sp : Space} {s : Shape} {e : EltTy} {m : Memref sig .tc sp s e} {lB : Loc nD τ sig} {SB : Finset (Idx lB)}
    {SA : Finset (Idx (m.view.loc (d.tc : Thread nD τ)))} {N : ℕ} :
    Acc d (Pair ⟨m.view.loc d.tc, lB, SA, SB, fullShare, fun _ : Buf Val (m.view.loc (d.tc : Thread nD τ)) => True, N⟩) m SA := by
  unfold Pair
  refine Acc.sep_left ?_
  unfold Acc
  iintro ⟨%f, %_, Hf⟩
  iexists f
  isplitl [Hf]; · iexact Hf
  iintro ⟨%g, Hg⟩
  iexists g
  isplitr; · ipureintro; trivial
  iexact Hg

/-- The buffers of a channel at rest are at the body's hands. -/
theorem St.accOn {sp : Space} {s : Shape} {e : EltTy} {m : Memref sig .tc sp s e}
    {A : Finset (Idx (m.view.loc (d.tc : Thread nD τ)))} (ch : Fin n) (hσ : σ ch = false) (h : Acc d (Pair (D ch)) m A) :
    Acc d (St d sm D R σ) m A := by
  refine Acc.sep_right ?_
  unfold Acc
  iintro H
  ihave H := (cells_take (d := d) (sm := sm) (D := D) (σ := σ) ch false) $$ H
  rw [hσ, put_eq_self hσ]
  unfold Cell
  icases H with ⟨⟨Hv, HP⟩, Hb⟩
  ihave H := (show Pair (D ch) ⊢ _ from h) $$ HP
  icases H with ⟨%f, Hf, HP⟩
  iexists f
  isplitl [Hf]; · iexact Hf
  iintro Hg
  iapply Hb
  isplitl [Hv]; · iexact Hv
  iapply HP $$ Hg

theorem Runs.issue (ch : Fin n) (hN0 : 0 < (D ch).N) {sp sp' : Space} {s : Shape} {e : EltTy} {src : Memref sig .tc sp s e} {dst : Memref sig .tc sp' s e}
    {s₀ : SemLoc sig} {hsrc : src.view.WordExact} {hdst : dst.view.WordExact} {hsem : DmaTarget.Typed (nD := nD) (τ := τ) sp s₀ (DmaTarget.here (nD := nD) (p := (.tc : Proc τ)) dst)}
    {k : PUnit → Prog (TpuEff nD τ sig Val Λ .tc) α} (hs : s₀ = sm ch) (hN : dst.view.amount s₀ = (D ch).N) (hσ : σ ch = false)
    (hc : CanCopy d (Pair (D ch)) src dst) (hk : Runs defs d (St d sm D R (put σ ch true)) (k ⟨⟩) Q) :
    Runs defs d (St d sm D R σ) (Prog.lift (.enqueueDmaAs src (DmaTarget.here (nD := nD) (p := (.tc : Proc τ)) dst) .same s₀ hsrc hdst hsem) >>= k) Q := by
  subst hs
  unfold Runs St
  iintro ⟨HR, H⟩
  ihave H := (cells_take (d := d) (sm := sm) (D := D) (σ := σ) ch true) $$ H
  rw [hσ]
  unfold Cell
  icases H with ⟨⟨Hv, HP⟩, Hb⟩
  ihave H := (show Pair (D ch) ⊢ _ from hc) $$ HP
  icases H with ⟨%q, %fs, %Sd, %fd, %hSd, Hs, Hd, HP⟩
  iapply (Transfers.wp_dmaLocal (countersEmb (U := Pipeline.UD sig nD τ)) Variants.none d.tc none () (D ch).N hN hN0 hSd) $$ [Hs Hd Hv]
  · isplitl [Hs]; · iexact Hs
    isplitl [Hd] <;> iassumption
  iintro Hf
  iapply (show St d sm D R (put σ ch true) ⊢ _ from hk)
  unfold St
  isplitl [HR]; · iexact HR
  iapply Hb
  iexists _
  isplitl [Hf]; · iexact Hf
  iintro ⟨Hd, Hs⟩
  iapply HP
  isplitl [Hd]
  · iexists _; iexact Hd
  · iexact Hs

theorem Runs.wait (ch : Fin n) {sp sp' : Space} {s s' : Shape} {e e' : EltTy} {src : Memref sig .tc sp' s' e'} {dst : Memref sig .tc sp s e}
    {s₀ : DmaSem sig} {hsrc : src.view.WordExact} {hdst : dst.view.WordExact}
    {k : PUnit → Prog (TpuEff nD τ sig Val Λ .tc) α} (hs : .dma s₀ = sm ch) (hN : dst.view.dmaCredit = (D ch).N) (hσ : σ ch = true)
    (hk : Runs defs d (St d sm D R (put σ ch false)) (k ⟨⟩) Q) :
    Runs defs d (St d sm D R σ) (Prog.lift (.waitDma2 s₀ src dst hsrc hdst) >>= k) Q := by
  unfold Runs St
  iintro ⟨⟨HR, ⟨%W, HW⟩⟩, H⟩
  ihave H := (cells_take (d := d) (sm := sm) (D := D) (σ := σ) ch false) $$ H
  rw [hσ, ← hs]
  unfold Cell
  icases H with ⟨⟨%B, Hf, HB⟩, Hb⟩
  iapply (Transfers.wp_waitLocal (countersEmb (U := Pipeline.UD sig nD τ)) Variants.none d.tc none () hN) $$ [Hf HW]
  · isplitl [Hf] <;> iassumption
  iintro ⟨HD, Hv, HW⟩
  iapply (show St d sm D R (put σ ch false) ⊢ _ from hk)
  unfold St
  isplitl [HR HW]
  · isplitl [HR]; · iexact HR
    iexists _; iexact HW
  iapply Hb
  isplitl [Hv]; · iexact Hv
  iapply HB $$ HD

/-- A guarded stretch: the state after it is the stretch's own where the guard holds, the old one where not. -/
theorem Runs.guard {c : Prop} [Decidable c] {p : c → Prog (TpuEff nD τ sig Val Λ .tc) α} {q : Prog (TpuEff nD τ sig Val Λ .tc) α}
    (Y : sProp (MT nD τ sig Unit Val ℕ (Pipeline.UD sig nD τ) ℕ)) (hn : ¬c → X = Y) (hp : ∀ h : c, Runs defs d Y q Q → Runs defs d X (p h) Q) (hq : Runs defs d Y q Q) :
    Runs defs d X (dite c p fun _ => q) Q := by
  by_cases h : c
  · rw [dif_pos h]; exact hp h hq
  · rw [dif_neg h, hn h]; exact hq

end Cert.Mixer
-- ==== Proof.MixerStepsA.lean ====
module

public import proofs.«01_k».proof.Kernel3Ideal.P04
public import proofs.«01_k».proof.Proof.MixerKeeps

@[expose] public section

noncomputable section

namespace Cert.Kernel3Ideal

open Idealize.ShloMosaic
open Idealize.SL Idealize.SL.RA Idealize.SL.BI
open Cert.Mixer

variable {F : FTy → Type} [FloatOps F] [Facts] {defs : Defs nD τ sig (Elt F) Λ₀} {d : Dev nD}
  {X : sProp (MT nD τ sig Unit (Elt F) ℕ (Pipeline.UD sig nD τ) ℕ)}

set_option maxHeartbeats 0
variable {i : grid0.Coords} {arg2 : Memref sig .tc .smem S8 .f32} {harg2 : arg2.IsWhole} {arg3 : Memref sig .tc .vmem S1x1024x1024 .f32} {harg3 : arg3.IsWhole} {arg4 : Memref sig .tc .vmem S1x1024 .f32} {harg4 : arg4.IsWhole} {arg5 : Memref sig .tc .hbm S1024x2816 .f32} {harg5 : arg5.IsWhole} {arg6 : Memref sig .tc .vmem S1x1x1024 .i32} {harg6 : arg6.IsWhole} {arg7 : Memref sig .tc .vmem S8x256 .f32} {harg7 : arg7.IsWhole} {arg8 : Memref sig .tc .vmem S32x128 .bf16} {harg8 : arg8.IsWhole} {arg9 : Memref sig .tc .vmem S16x128 .bf16} {harg9 : arg9.IsWhole} {arg10 : Memref sig .tc .hbm S1024x1024 .f32} {harg10 : arg10.IsWhole} {arg11 : Memref sig .tc .vmem S1x512 .f32} {harg11 : arg11.IsWhole} {arg12 : Memref sig .tc .vmem S2x512 .f32} {harg12 : arg12.IsWhole} {arg13 : Memref sig .tc .vmem S1x512 .f32} {harg13 : arg13.IsWhole} {arg14 : Memref sig .tc .vmem S256x256 .bf16} {harg14 : arg14.IsWhole} {arg15 : Memref sig .tc .vmem S896x128 .f32} {harg15 : arg15.IsWhole} {arg16 : Memref sig .tc .vmem S2x256x256 .f32} {harg16 : arg16.IsWhole} {arg17 : Memref sig .tc .hbm S1024x2048 .f32} {harg17 : arg17.IsWhole} {arg18 : Memref sig .tc .hbm S1024x1024 .f32} {harg18 : arg18.IsWhole} {arg19 : Memref sig .tc .hbm S1024x1024 .f32} {harg19 : arg19.IsWhole} {arg20 : Memref sig .tc .hbm S1024x5632 .f32} {harg20 : arg20.IsWhole} {arg21 : Memref sig .tc .hbm S2816x1024 .f32} {harg21 : arg21.IsWhole} {arg22 : Memref sig .tc .vmem S1x1024x1024 .f32} {harg22 : arg22.IsWhole} {arg23 : Memref sig .tc .hbm S1024x2048 .bf16} {harg23 : arg23.IsWhole} {arg24 : Memref sig .tc .hbm S1024x1024 .bf16} {harg24 : arg24.IsWhole} {arg25 : Memref sig .tc .hbm S1024x1024 .bf16} {harg25 : arg25.IsWhole} {arg26 : Memref sig .tc .hbm S1024x5632 .bf16} {harg26 : arg26.IsWhole} {arg27 : Memref sig .tc .hbm S2816x1024 .bf16} {harg27 : arg27.IsWhole} {arg28 : Memref sig .tc .vmem S4x128x128 .f32} {harg28 : arg28.IsWhole} {arg29 : Memref sig .tc .vmem S128x1024 .bf16} {harg29 : arg29.IsWhole} {arg30 : Memref sig .tc .vmem S1024x2816 .bf16} {harg30 : arg30.IsWhole} {arg31 : Memref sig .tc .vmem S1024x1024 .bf16} {harg31 : arg31.IsWhole} {arg32 : Memref sig .tc .vmem S2x128x2816 .f32} {harg32 : arg32.IsWhole} {arg33 : Memref sig .tc .vmem S2x128x1024 .f32} {harg33 : arg33.IsWhole} {arg34 : DmaSems sig S2} {arg35 : DmaSems sig S2} {arg36 : Memref sig .tc .vmem S2x64x2048 .f32} {harg36 : arg36.IsWhole} {arg37 : Memref sig .tc .vmem S2x64x2048 .bf16} {harg37 : arg37.IsWhole} {arg38 : DmaSems sig S2} {arg39 : DmaSems sig S2} {arg40 : Memref sig .tc .vmem S2x64x1024 .f32} {harg40 : arg40.IsWhole} {arg41 : Memref sig .tc .vmem S2x64x1024 .bf16} {harg41 : arg41.IsWhole} {arg42 : DmaSems sig S2} {arg43 : DmaSems sig S2} {arg44 : Memref sig .tc .vmem S2x64x1024 .f32} {harg44 : arg44.IsWhole} {arg45 : Memref sig .tc .vmem S2x64x1024 .bf16} {harg45 : arg45.IsWhole} {arg46 : DmaSems sig S2} {arg47 : DmaSems sig S2} {arg48 : Memref sig .tc .vmem S2x64x5632 .f32} {harg48 : arg48.IsWhole} {arg49 : Memref sig .tc .vmem S2x64x5632 .bf16} {harg49 : arg49.IsWhole} {arg50 : DmaSems sig S2} {arg51 : DmaSems sig S2} {arg52 : Memref sig .tc .vmem S2x176x1024 .f32} {harg52 : arg52.IsWhole} {arg53 : Memref sig .tc .vmem S2x176x1024 .bf16} {harg53 : arg53.IsWhole} {arg54 : DmaSems sig S2} {arg55 : DmaSems sig S2}

theorem run_part424 {Z : sProp (MT nD τ sig Unit (Elt F) ℕ (Pipeline.UD sig nD τ) ℕ)} (hp : Runs defs d Z (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 arg35 arg36 harg36 arg37 harg37 arg38 arg39 arg40 harg40 arg41 harg41 arg42 arg43 arg44 harg44 arg45 harg45 arg46 arg47 arg48 harg48 arg49 harg49 arg50 arg51 arg52 harg52 arg53 harg53 arg54 arg55) fun _ => X) (h2 : Acc d X arg2 arg2.view.set) (h6 : Acc d X arg6 arg6.view.set) (h8 : Acc d X arg8 arg8.view.set) (h9 : Acc d X arg9 arg9.view.set) (h12 : Acc d X arg12 arg12.view.set) (h14 : Acc d X arg14 arg14.view.set) (h15 : Acc d X arg15 arg15.view.set) (h16 : Acc d X arg16 arg16.view.set) (h28 : Acc d X arg28 arg28.view.set) (h29 : Acc d X arg29 arg29.view.set) (h30 : Acc d X arg30 arg30.view.set) :
    Runs defs d Z (k0_part424 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 arg35 arg36 harg36 arg37 harg37 arg38 arg39 arg40 harg40 arg41 harg41 arg42 arg43 arg44 harg44 arg45 harg45 arg46 arg47 arg48 harg48 arg49 harg49 arg50 arg51 arg52 harg52 arg53 harg53 arg54 arg55 ) (fun _ => X) := by
  unfold k0_part424
  refine .bind (Y := X) hp ?_
  rintro ⟨_, _, _, _⟩
  refine .bind (Y := X) ?_ ?_
  · unfold k0_part13
    (try extract_lets -underBinder); refine .load h6 fun _ => ?_
    (try extract_lets -underBinder); refine .load h8 fun _ => ?_
    (try extract_lets -underBinder); refine .load h9 fun _ => ?_
    (try extract_lets -underBinder); refine .load h30 fun _ => ?_
    (try extract_lets -underBinder)
    exact .pure _
  rintro ⟨_, _, _, _, _, _⟩
  refine .bind (Y := X) ?_ ?_
  · unfold k0_part14
    (try extract_lets -underBinder); refine .load h30 fun _ => ?_
    (try extract_lets -underBinder)
    exact .pure _
  rintro ⟨_, _, _, _, _, _, _, _, _, _⟩
  refine .bind (Y := X) ?_ ?_
  · unfold k0_part15
    iterate 9 ((try extract_lets -underBinder); refine .load h29 fun _ => ?_)
    (try extract_lets -underBinder); refine .store h29 ?_
    (try extract_lets -underBinder)
    exact .pure _
  rintro ⟨_, _, _, _, _, _, _, _, _, _, _, _, _, _, _⟩
  refine .bind (Y := X) ?_ ?_
  · unfold k0_part16
    (try extract_lets -underBinder); refine .load h29 fun _ => ?_
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    iterate 3 ((try extract_lets -underBinder); refine .load h30 fun _ => ?_)
    (try extract_lets -underBinder)
    exact .pure _
  rintro ⟨_, _, _⟩
  refine .bind (Y := X) ?_ ?_
  · unfold k0_part17
    (try extract_lets -underBinder); refine .load h30 fun _ => ?_
    (try extract_lets -underBinder); refine .load h16 fun _ => ?_
    iterate 2 ((try extract_lets -underBinder); refine .bind (.smemLoad h2) fun _ => ?_)
    (try extract_lets -underBinder)
    exact .pure _
  rintro ⟨_, _, _, _, _, _, _, _, _, _, _, _, _⟩
  refine .bind (Y := X) ?_ ?_
  · unfold k0_part18
    iterate 2 ((try extract_lets -underBinder); refine .bind (.smemLoad h2) fun _ => ?_)
    (try extract_lets -underBinder)
    exact .pure _
  rintro ⟨_, _, _⟩
  refine .bind (Y := X) ?_ ?_
  · unfold k0_part19
    (try extract_lets -underBinder); refine .load h16 fun _ => ?_
    iterate 4 ((try extract_lets -underBinder); refine .bind (.smemLoad h2) fun _ => ?_)
    (try extract_lets -underBinder)
    exact .pure _
  rintro ⟨_, _, _, _, _, _, _⟩
  refine .bind (Y := X) ?_ ?_
  · unfold k0_part20
    (try extract_lets -underBinder); refine .load h16 fun _ => ?_
    (try extract_lets -underBinder)
    exact .pure _
  rintro ⟨_, _, _, _, _, _⟩
  refine .bind (Y := X) ?_ ?_
  · unfold k0_part21
    iterate 4 ((try extract_lets -underBinder); refine .bind (.smemLoad h2) fun _ => ?_)
    (try extract_lets -underBinder)
    exact .pure _
  rintro ⟨_, _, _, _, _, _⟩
  refine .bind (Y := X) ?_ ?_
  · unfold k0_part22
    (try extract_lets -underBinder); refine .load h16 fun _ => ?_
    iterate 2 ((try extract_lets -underBinder); refine .bind (.smemLoad h2) fun _ => ?_)
    (try extract_lets -underBinder)
    exact .pure _
  rintro ⟨_, _, _, _, _, _, _, _⟩
  refine .bind (Y := X) ?_ ?_
  · unfold k0_part23
    iterate 2 ((try extract_lets -underBinder); refine .bind (.smemLoad h2) fun _ => ?_)
    (try extract_lets -underBinder)
    exact .pure _
  rintro ⟨_, _⟩
  refine .bind (Y := X) ?_ ?_
  · unfold k0_part24
    (try extract_lets -underBinder); refine .load h12 fun _ => ?_
    (try extract_lets -underBinder)
    exact .pure _
  rintro ⟨_, _, _⟩
  refine .bind (Y := X) ?_ ?_
  · unfold k0_part25
    (try extract_lets -underBinder); refine .load h14 fun _ => ?_
    (try extract_lets -underBinder); refine .load h28 fun _ => ?_
    (try extract_lets -underBinder)
    exact .pure _
  rintro ⟨_, _, _, _, _, _, _, _, _, _, _⟩
  refine .bind (Y := X) ?_ ?_
  · unfold k0_part26
    (try extract_lets -underBinder); refine .load h28 fun _ => ?_
    (try extract_lets -underBinder); refine .store h28 ?_
    (try extract_lets -underBinder); refine .load h28 fun _ => ?_
    (try extract_lets -underBinder)
    exact .pure _
  rintro ⟨_, _, _, _, _, _, _, _⟩
  refine .bind (Y := X) ?_ ?_
  · unfold k0_part27
    (try extract_lets -underBinder); refine .load h28 fun _ => ?_
    (try extract_lets -underBinder); refine .store h28 ?_
    (try extract_lets -underBinder); refine .load h15 fun _ => ?_
    (try extract_lets -underBinder)
    exact .pure _
  rintro ⟨_, _, _, _, _, _⟩
  refine .bind (Y := X) ?_ ?_
  · unfold k0_part28
    iterate 9 ((try extract_lets -underBinder); refine .load h15 fun _ => ?_)
    (try extract_lets -underBinder)
    exact .pure _
  rintro ⟨_, _, _, _, _, _, _, _, _, _, _, _⟩
  refine .bind (Y := X) ?_ ?_
  · unfold k0_part29
    iterate 6 ((try extract_lets -underBinder); refine .load h15 fun _ => ?_)
    (try extract_lets -underBinder)
    exact .pure _
  rintro ⟨_, _, _, _, _, _, _, _, _⟩
  refine .bind (Y := X) ?_ ?_
  · unfold k0_part30
    iterate 8 ((try extract_lets -underBinder); refine .load h15 fun _ => ?_)
    (try extract_lets -underBinder)
    exact .pure _
  rintro ⟨_, _, _, _, _, _, _, _, _, _, _⟩
  refine .bind (Y := X) ?_ ?_
  · unfold k0_part31
    iterate 8 ((try extract_lets -underBinder); refine .load h15 fun _ => ?_)
    (try extract_lets -underBinder)
    exact .pure _
  rintro ⟨_, _, _, _, _, _, _, _, _, _, _, _, _, _, _, _, _, _, _, _, _, _, _⟩
  refine .bind (Y := X) ?_ ?_
  · unfold k0_part32
    iterate 6 ((try extract_lets -underBinder); refine .load h15 fun _ => ?_)
    (try extract_lets -underBinder)
    exact .pure _
  rintro ⟨_, _, _, _, _, _, _, _, _, _⟩
  refine .bind (Y := X) ?_ ?_
  · unfold k0_part33
    iterate 8 ((try extract_lets -underBinder); refine .load h15 fun _ => ?_)
    (try extract_lets -underBinder)
    exact .pure _
  rintro ⟨_, _, _, _, _, _, _, _, _, _⟩
  refine .bind (Y := X) ?_ ?_
  · unfold k0_part34
    iterate 2 ((try extract_lets -underBinder); refine .load h15 fun _ => ?_)
    (try extract_lets -underBinder)
    exact .pure _
  rintro ⟨_, _, _, _, _, _⟩
  refine .bind (Y := X) ?_ ?_
  · unfold k0_part35
    iterate 8 ((try extract_lets -underBinder); refine .load h15 fun _ => ?_)
    (try extract_lets -underBinder)
    exact .pure _
  rintro ⟨_, _, _, _, _, _, _, _, _⟩
  refine .bind (Y := X) ?_ ?_
  · unfold k0_part36
    iterate 8 ((try extract_lets -underBinder); refine .load h15 fun _ => ?_)
    (try extract_lets -underBinder)
    exact .pure _
  rintro ⟨_, _, _, _, _, _, _, _, _⟩
  refine .bind (Y := X) ?_ ?_
  · unfold k0_part37
    iterate 6 ((try extract_lets -underBinder); refine .load h15 fun _ => ?_)
    (try extract_lets -underBinder)
    exact .pure _
  rintro ⟨_, _, _, _, _, _, _, _, _⟩
  refine .bind (Y := X) ?_ ?_
  · unfold k0_part38
    iterate 10 ((try extract_lets -underBinder); refine .load h15 fun _ => ?_)
    (try extract_lets -underBinder)
    exact .pure _
  rintro ⟨_, _, _, _, _, _, _, _, _, _, _, _, _⟩
  refine .bind (Y := X) ?_ ?_
  · unfold k0_part39
    iterate 10 ((try extract_lets -underBinder); refine .load h15 fun _ => ?_)
    (try extract_lets -underBinder)
    exact .pure _
  rintro ⟨_, _, _, _, _, _, _, _, _, _, _⟩
  refine .bind (Y := X) ?_ ?_
  · unfold k0_part40
    iterate 6 ((try extract_lets -underBinder); refine .load h15 fun _ => ?_)
    (try extract_lets -underBinder)
    exact .pure _
  rintro ⟨_, _, _, _, _, _, _, _, _, _, _, _⟩
  refine .bind (Y := X) ?_ ?_
  · unfold k0_part41
    iterate 8 ((try extract_lets -underBinder); refine .load h15 fun _ => ?_)
    (try extract_lets -underBinder)
    exact .pure _
  rintro ⟨_, _, _, _, _, _, _, _, _, _, _⟩
  refine .bind (Y := X) ?_ ?_
  · unfold k0_part42
    iterate 9 ((try extract_lets -underBinder); refine .load h15 fun _ => ?_)
    (try extract_lets -underBinder)
    exact .pure _
  rintro ⟨_, _, _, _, _, _, _, _, _, _, _⟩
  refine .bind (Y := X) ?_ ?_
  · unfold k0_part43
    iterate 10 ((try extract_lets -underBinder); refine .load h15 fun _ => ?_)
    (try extract_lets -underBinder)
    exact .pure _
  rintro ⟨_, _, _, _, _, _, _, _, _, _, _⟩
  refine .bind (Y := X) ?_ ?_
  · unfold k0_part44
    iterate 7 ((try extract_lets -underBinder); refine .load h15 fun _ => ?_)
    (try extract_lets -underBinder)
    exact .pure _
  rintro ⟨_, _, _, _, _, _, _, _, _⟩
  refine .bind (Y := X) ?_ ?_
  · unfold k0_part45
    iterate 10 ((try extract_lets -underBinder); refine .load h15 fun _ => ?_)
    (try extract_lets -underBinder)
    exact .pure _
  rintro ⟨_, _, _, _, _, _, _, _, _, _, _⟩
  refine .bind (Y := X) ?_ ?_
  · unfold k0_part46
    iterate 9 ((try extract_lets -underBinder); refine .load h15 fun _ => ?_)
    (try extract_lets -underBinder)
    exact .pure _
  rintro ⟨_, _, _, _, _, _, _, _, _, _, _, _⟩
  refine .bind (Y := X) ?_ ?_
  · unfold k0_part47
    iterate 10 ((try extract_lets -underBinder); refine .load h15 fun _ => ?_)
    (try extract_lets -underBinder)
    exact .pure _
  rintro ⟨_, _, _, _, _, _, _, _, _, _, _⟩
  refine .bind (Y := X) ?_ ?_
  · unfold k0_part48
    (try extract_lets -underBinder); refine .load h15 fun _ => ?_
    iterate 2 ((try extract_lets -underBinder); refine .load h28 fun _ => ?_)
    (try extract_lets -underBinder); refine .store h28 ?_
    (try extract_lets -underBinder)
    exact .pure _
  rintro ⟨_, _, _, _, _, _, _, _, _, _, _, _⟩
  refine .bind (Y := X) ?_ ?_
  · unfold k0_part49
    iterate 3 ((try extract_lets -underBinder); refine .load h15 fun _ => ?_)
    (try extract_lets -underBinder)
    exact .pure _
  rintro ⟨_, _, _, _, _, _, _⟩
  refine .bind (Y := X) ?_ ?_
  · unfold k0_part50
    iterate 9 ((try extract_lets -underBinder); refine .load h15 fun _ => ?_)
    (try extract_lets -underBinder)
    exact .pure _
  rintro ⟨_, _, _, _, _, _, _, _, _, _, _⟩
  refine .bind (Y := X) ?_ ?_
  · unfold k0_part51
    iterate 5 ((try extract_lets -underBinder); refine .load h15 fun _ => ?_)
    (try extract_lets -underBinder)
    exact .pure _
  rintro ⟨_, _, _, _, _, _, _, _, _⟩
  refine .bind (Y := X) ?_ ?_
  · unfold k0_part52
    iterate 9 ((try extract_lets -underBinder); refine .load h15 fun _ => ?_)
    (try extract_lets -underBinder)
    exact .pure _
  rintro ⟨_, _, _, _, _, _, _, _, _, _⟩
  refine .bind (Y := X) ?_ ?_
  · unfold k0_part53
    iterate 6 ((try extract_lets -underBinder); refine .load h15 fun _ => ?_)
    (try extract_lets -underBinder)
    exact .pure _
  rintro ⟨_, _, _, _, _, _, _, _⟩
  refine .bind (Y := X) ?_ ?_
  · unfold k0_part54
    iterate 7 ((try extract_lets -underBinder); refine .load h15 fun _ => ?_)
    (try extract_lets -underBinder)
    exact .pure _
  rintro ⟨_, _, _, _, _, _, _, _, _, _⟩
  refine .bind (Y := X) ?_ ?_
  · unfold k0_part55
    iterate 9 ((try extract_lets -underBinder); refine .load h15 fun _ => ?_)
    (try extract_lets -underBinder)
    exact .pure _
  rintro ⟨_, _, _, _, _, _, _, _, _, _⟩
  refine .bind (Y := X) ?_ ?_
  · unfold k0_part56
    (try extract_lets -underBinder)
    exact .pure _
  rintro ⟨_, _, _, _, _, _⟩
  refine .bind (Y := X) ?_ ?_
  · unfold k0_part57
    iterate 8 ((try extract_lets -underBinder); refine .load h15 fun _ => ?_)
    (try extract_lets -underBinder)
    exact .pure _
  rintro ⟨_, _, _, _, _, _, _, _, _, _, _⟩
  refine .bind (Y := X) ?_ ?_
  · unfold k0_part58
    iterate 8 ((try extract_lets -underBinder); refine .load h15 fun _ => ?_)
    (try extract_lets -underBinder)
    exact .pure _
  rintro ⟨_, _, _, _, _, _, _, _, _, _⟩
  refine .bind (Y := X) ?_ ?_
  · unfold k0_part59
    iterate 8 ((try extract_lets -underBinder); refine .load h15 fun _ => ?_)
    (try extract_lets -underBinder)
    exact .pure _
  rintro ⟨_, _, _, _, _, _, _, _, _, _, _⟩
  refine .bind (Y := X) ?_ ?_
  · unfold k0_part60
    iterate 10 ((try extract_lets -underBinder); refine .load h15 fun _ => ?_)
    (try extract_lets -underBinder)
    exact .pure _
  rintro ⟨_, _, _, _, _, _, _, _, _, _, _⟩
  refine .bind (Y := X) ?_ ?_
  · unfold k0_part61
    iterate 10 ((try extract_lets -underBinder); refine .load h15 fun _ => ?_)
    (try extract_lets -underBinder)
    exact .pure _
  rintro ⟨_, _, _, _, _, _, _, _, _, _, _⟩
  refine .bind (Y := X) ?_ ?_
  · unfold k0_part62
    iterate 4 ((try extract_lets -underBinder); refine .load h15 fun _ => ?_)
    (try extract_lets -underBinder)
    exact .pure _
  rintro ⟨_, _, _, _, _, _, _⟩
  refine .bind (Y := X) ?_ ?_
  · unfold k0_part63
    iterate 10 ((try extract_lets -underBinder); refine .load h15 fun _ => ?_)
    (try extract_lets -underBinder)
    exact .pure _
  rintro ⟨_, _, _, _, _, _, _, _, _, _⟩
  refine .bind (Y := X) ?_ ?_
  · unfold k0_part64
    iterate 9 ((try extract_lets -underBinder); refine .load h15 fun _ => ?_)
    (try extract_lets -underBinder)
    exact .pure _
  rintro ⟨_, _, _, _, _, _, _, _, _, _, _⟩
  refine .bind (Y := X) ?_ ?_
  · unfold k0_part65
    iterate 10 ((try extract_lets -underBinder); refine .load h15 fun _ => ?_)
    (try extract_lets -underBinder)
    exact .pure _
  rintro ⟨_, _, _, _, _, _, _, _, _, _, _⟩
  refine .bind (Y := X) ?_ ?_
  · unfold k0_part66
    iterate 7 ((try extract_lets -underBinder); refine .load h15 fun _ => ?_)
    (try extract_lets -underBinder)
    exact .pure _
  rintro ⟨_, _, _, _, _, _, _, _, _, _⟩
  refine .bind (Y := X) ?_ ?_
  · unfold k0_part67
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part68
    iterate 9 ((try extract_lets -underBinder); refine .load h15 fun _ => ?_)
    (try extract_lets -underBinder)
    exact .pure _
  rintro ⟨_, _, _, _, _, _, _, _, _, _, _⟩
  refine .bind (Y := X) ?_ ?_
  · unfold k0_part69
    iterate 9 ((try extract_lets -underBinder); refine .load h15 fun _ => ?_)
    (try extract_lets -underBinder)
    exact .pure _
  rintro ⟨_, _, _⟩
  refine .bind (Y := X) ?_ ?_
  · unfold k0_part70
    iterate 2 ((try extract_lets -underBinder); refine .load h28 fun _ => ?_)
    (try extract_lets -underBinder); refine .store h28 ?_
    (try extract_lets -underBinder)
    exact .pure _
  rintro ⟨_, _, _, _, _, _, _⟩
  refine .bind (Y := X) ?_ ?_
  · unfold k0_part71
    iterate 5 ((try extract_lets -underBinder); refine .load h15 fun _ => ?_)
    (try extract_lets -underBinder)
    exact .pure _
  rintro ⟨_, _, _, _, _, _, _, _, _, _⟩
  (try extract_lets -underBinder)
  exact .pure _

theorem run_part425 {v15 v188 v190 v572 v584 v613 v619 v621 v632 v646 v652 v654 v665 v1585 v1588 v1589 v1590 v1592 v1598 v1600 v1611 v2531 v2534 v2535 v2536 v2538 v2544 v2546 v2557 v2586 v2603 v2604 v2616 v2619 v2622 v2625 v2628 v2631 v2632} (h2 : Acc d X arg2 arg2.view.set) (h3 : Acc d X arg3 arg3.view.set) (h4 : Acc d X arg4 arg4.view.set) (h6 : Acc d X arg6 arg6.view.set) (h7 : Acc d X arg7 arg7.view.set) (h8 : Acc d X arg8 arg8.view.set) (h9 : Acc d X arg9 arg9.view.set) (h11 : Acc d X arg11 arg11.view.set) (h12 : Acc d X arg12 arg12.view.set) (h13 : Acc d X arg13 arg13.view.set) (h14 : Acc d X arg14 arg14.view.set) (h15 : Acc d X arg15 arg15.view.set) (h16 : Acc d X arg16 arg16.view.set) (h22 : Acc d X arg22 arg22.view.set) (h28 : Acc d X arg28 arg28.view.set) (h29 : Acc d X arg29 arg29.view.set) (h30 : Acc d X arg30 arg30.view.set) (h31 : Acc d X arg31 arg31.view.set) :
    Runs defs d X (k0_part425 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 arg35 arg36 harg36 arg37 harg37 arg38 arg39 arg40 harg40 arg41 harg41 arg42 arg43 arg44 harg44 arg45 harg45 arg46 arg47 arg48 harg48 arg49 harg49 arg50 arg51 arg52 harg52 arg53 harg53 arg54 arg55 v15 v188 v190 v572 v584 v613 v619 v621 v632 v646 v652 v654 v665 v1585 v1588 v1589 v1590 v1592 v1598 v1600 v1611 v2531 v2534 v2535 v2536 v2538 v2544 v2546 v2557 v2586 v2603 v2604 v2616 v2619 v2622 v2625 v2628 v2631 v2632) (fun _ => X) := by
  unfold k0_part425
  refine .bind (Y := X) ?_ ?_
  · unfold k0_part72
    iterate 9 ((try extract_lets -underBinder); refine .load h15 fun _ => ?_)
    (try extract_lets -underBinder)
    exact .pure _
  rintro ⟨_, _, _, _, _, _, _, _, _, _, _⟩
  refine .bind (Y := X) ?_ ?_
  · unfold k0_part73
    iterate 5 ((try extract_lets -underBinder); refine .load h15 fun _ => ?_)
    (try extract_lets -underBinder)
    exact .pure _
  rintro ⟨_, _, _, _, _, _, _, _, _⟩
  refine .bind (Y := X) ?_ ?_
  · unfold k0_part74
    iterate 9 ((try extract_lets -underBinder); refine .load h15 fun _ => ?_)
    (try extract_lets -underBinder)
    exact .pure _
  rintro ⟨_, _, _, _, _, _, _, _, _, _, _⟩
  refine .bind (Y := X) ?_ ?_
  · unfold k0_part75
    iterate 4 ((try extract_lets -underBinder); refine .load h15 fun _ => ?_)
    (try extract_lets -underBinder)
    exact .pure _
  rintro ⟨_, _, _, _, _, _, _, _, _, _, _, _, _⟩
  refine .bind (Y := X) ?_ ?_
  · unfold k0_part76
    iterate 8 ((try extract_lets -underBinder); refine .load h15 fun _ => ?_)
    (try extract_lets -underBinder)
    exact .pure _
  rintro ⟨_, _, _, _, _, _, _, _, _, _, _, _, _, _, _, _⟩
  refine .bind (Y := X) ?_ ?_
  · unfold k0_part77
    iterate 8 ((try extract_lets -underBinder); refine .load h15 fun _ => ?_)
    (try extract_lets -underBinder)
    exact .pure _
  rintro ⟨_, _, _, _, _, _, _, _, _, _, _, _, _, _, _, _, _⟩
  refine .bind (Y := X) ?_ ?_
  · unfold k0_part78
    iterate 2 ((try extract_lets -underBinder); refine .load h15 fun _ => ?_)
    (try extract_lets -underBinder)
    exact .pure _
  rintro ⟨_, _, _, _, _⟩
  refine .bind (Y := X) ?_ ?_
  · unfold k0_part79
    iterate 8 ((try extract_lets -underBinder); refine .load h15 fun _ => ?_)
    (try extract_lets -underBinder)
    exact .pure _
  rintro ⟨_, _, _, _, _, _, _, _, _, _⟩
  refine .bind (Y := X) ?_ ?_
  · unfold k0_part80
    iterate 6 ((try extract_lets -underBinder); refine .load h15 fun _ => ?_)
    (try extract_lets -underBinder)
    exact .pure _
  rintro ⟨_, _, _, _, _, _, _, _, _⟩
  refine .bind (Y := X) ?_ ?_
  · unfold k0_part81
    iterate 10 ((try extract_lets -underBinder); refine .load h15 fun _ => ?_)
    (try extract_lets -underBinder)
    exact .pure _
  rintro ⟨_, _, _, _, _, _, _, _, _, _, _⟩
  refine .bind (Y := X) ?_ ?_
  · unfold k0_part82
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part83
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part84
    iterate 4 ((try extract_lets -underBinder); refine .load h15 fun _ => ?_)
    (try extract_lets -underBinder)
    exact .pure _
  rintro ⟨_, _, _, _, _, _, _⟩
  refine .bind (Y := X) ?_ ?_
  · unfold k0_part85
    iterate 10 ((try extract_lets -underBinder); refine .load h15 fun _ => ?_)
    (try extract_lets -underBinder)
    exact .pure _
  rintro ⟨_, _, _, _, _, _, _, _, _, _, _⟩
  refine .bind (Y := X) ?_ ?_
  · unfold k0_part86
    iterate 9 ((try extract_lets -underBinder); refine .load h15 fun _ => ?_)
    (try extract_lets -underBinder)
    exact .pure _
  rintro ⟨_, _, _, _, _, _, _, _, _, _, _, _⟩
  refine .bind (Y := X) ?_ ?_
  · unfold k0_part87
    iterate 10 ((try extract_lets -underBinder); refine .load h15 fun _ => ?_)
    (try extract_lets -underBinder)
    exact .pure _
  rintro ⟨_, _, _, _, _, _, _, _, _, _, _⟩
  refine .bind (Y := X) ?_ ?_
  · unfold k0_part88
    iterate 6 ((try extract_lets -underBinder); refine .load h15 fun _ => ?_)
    (try extract_lets -underBinder)
    exact .pure _
  rintro ⟨_, _, _, _, _, _, _, _, _⟩
  refine .bind (Y := X) ?_ ?_
  · unfold k0_part89
    iterate 10 ((try extract_lets -underBinder); refine .load h15 fun _ => ?_)
    (try extract_lets -underBinder)
    exact .pure _
  rintro ⟨_, _, _, _, _, _, _, _, _, _, _⟩
  refine .bind (Y := X) ?_ ?_
  · unfold k0_part90
    iterate 10 ((try extract_lets -underBinder); refine .load h15 fun _ => ?_)
    (try extract_lets -underBinder)
    exact .pure _
  rintro ⟨_, _, _, _, _, _, _, _, _, _, _⟩
  refine .bind (Y := X) ?_ ?_
  · unfold k0_part91
    iterate 7 ((try extract_lets -underBinder); refine .load h15 fun _ => ?_)
    (try extract_lets -underBinder)
    exact .pure _
  rintro ⟨_, _, _, _, _⟩
  refine .bind (Y := X) ?_ ?_
  · unfold k0_part92
    (try extract_lets -underBinder)
    exact .pure _
  rintro ⟨_, _, _, _, _, _, _, _, _, _⟩
  refine .bind (Y := X) ?_ ?_
  · unfold k0_part93
    iterate 8 ((try extract_lets -underBinder); refine .load h15 fun _ => ?_)
    (try extract_lets -underBinder)
    exact .pure _
  rintro ⟨_, _, _, _, _, _, _, _, _⟩
  refine .bind (Y := X) ?_ ?_
  · unfold k0_part94
    iterate 8 ((try extract_lets -underBinder); refine .load h15 fun _ => ?_)
    (try extract_lets -underBinder)
    exact .pure _
  rintro ⟨_, _, _, _, _, _, _, _, _, _⟩
  refine .bind (Y := X) ?_ ?_
  · unfold k0_part95
    iterate 8 ((try extract_lets -underBinder); refine .load h15 fun _ => ?_)
    (try extract_lets -underBinder)
    exact .pure _
  rintro ⟨_, _, _, _, _, _, _, _, _, _, _⟩
  refine .bind (Y := X) ?_ ?_
  · unfold k0_part96
    iterate 8 ((try extract_lets -underBinder); refine .load h15 fun _ => ?_)
    (try extract_lets -underBinder)
    exact .pure _
  rintro ⟨_, _, _, _, _, _, _, _, _, _, _, _⟩
  refine .bind (Y := X) ?_ ?_
  · unfold k0_part97
    iterate 4 ((try extract_lets -underBinder); refine .load h15 fun _ => ?_)
    (try extract_lets -underBinder)
    exact .pure _
  rintro ⟨_, _, _, _, _, _, _⟩
  refine .bind (Y := X) ?_ ?_
  · unfold k0_part98
    iterate 8 ((try extract_lets -underBinder); refine .load h15 fun _ => ?_)
    (try extract_lets -underBinder)
    exact .pure _
  rintro ⟨_, _, _, _, _, _, _, _, _, _⟩
  refine .bind (Y := X) ?_ ?_
  · unfold k0_part99
    iterate 4 ((try extract_lets -underBinder); refine .load h15 fun _ => ?_)
    (try extract_lets -underBinder)
    exact .pure _
  rintro ⟨_, _, _, _, _, _, _, _⟩
  refine .bind (Y := X) ?_ ?_
  · unfold k0_part100
    iterate 6 ((try extract_lets -underBinder); refine .load h15 fun _ => ?_)
    (try extract_lets -underBinder)
    exact .pure _
  rintro ⟨_, _, _, _, _, _, _, _, _, _⟩
  refine .bind (Y := X) ?_ ?_
  · unfold k0_part101
    iterate 8 ((try extract_lets -underBinder); refine .load h15 fun _ => ?_)
    (try extract_lets -underBinder)
    exact .pure _
  rintro ⟨_, _, _, _, _, _, _, _, _, _⟩
  refine .bind (Y := X) ?_ ?_
  · unfold k0_part102
    iterate 7 ((try extract_lets -underBinder); refine .load h15 fun _ => ?_)
    (try extract_lets -underBinder)
    exact .pure _
  rintro ⟨_, _, _, _, _, _, _, _, _, _⟩
  refine .bind (Y := X) ?_ ?_
  · unfold k0_part103
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part104
    iterate 9 ((try extract_lets -underBinder); refine .load h15 fun _ => ?_)
    (try extract_lets -underBinder)
    exact .pure _
  rintro ⟨_, _, _, _, _, _, _, _, _, _, _, _⟩
  refine .bind (Y := X) ?_ ?_
  · unfold k0_part105
    iterate 8 ((try extract_lets -underBinder); refine .load h15 fun _ => ?_)
    (try extract_lets -underBinder)
    exact .pure _
  rintro ⟨_, _, _, _, _, _, _, _, _, _, _, _⟩
  refine .bind (Y := X) ?_ ?_
  · unfold k0_part106
    iterate 6 ((try extract_lets -underBinder); refine .load h15 fun _ => ?_)
    (try extract_lets -underBinder)
    exact .pure _
  rintro ⟨_, _, _, _, _, _, _, _, _⟩
  refine .bind (Y := X) ?_ ?_
  · unfold k0_part107
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part108
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part109
    iterate 6 ((try extract_lets -underBinder); refine .load h15 fun _ => ?_)
    (try extract_lets -underBinder)
    exact .pure _
  rintro ⟨_, _, _, _, _, _, _, _, _⟩
  refine .bind (Y := X) ?_ ?_
  · unfold k0_part110
    iterate 10 ((try extract_lets -underBinder); refine .load h15 fun _ => ?_)
    (try extract_lets -underBinder)
    exact .pure _
  rintro ⟨_, _, _, _, _, _, _, _, _, _⟩
  refine .bind (Y := X) ?_ ?_
  · unfold k0_part111
    iterate 9 ((try extract_lets -underBinder); refine .load h15 fun _ => ?_)
    (try extract_lets -underBinder)
    exact .pure _
  rintro ⟨_, _, _, _, _, _, _, _, _, _, _⟩
  refine .bind (Y := X) ?_ ?_
  · unfold k0_part112
    iterate 10 ((try extract_lets -underBinder); refine .load h15 fun _ => ?_)
    (try extract_lets -underBinder)
    exact .pure _
  rintro ⟨_, _, _, _, _, _, _, _, _, _, _⟩
  refine .bind (Y := X) ?_ ?_
  · unfold k0_part113
    iterate 3 ((try extract_lets -underBinder); refine .load h15 fun _ => ?_)
    (try extract_lets -underBinder)
    exact .pure _
  rintro ⟨_, _, _, _, _⟩
  refine .bind (Y := X) ?_ ?_
  · unfold k0_part114
    (try extract_lets -underBinder); refine .load h13 fun _ => ?_
    (try extract_lets -underBinder)
    exact .pure _
  rintro _
  refine .bind (Y := X) ?_ ?_
  · unfold k0_part115
    (try extract_lets -underBinder); refine .load h3 fun _ => ?_
    (try extract_lets -underBinder); refine .load h4 fun _ => ?_
    (try extract_lets -underBinder); refine .load h7 fun _ => ?_
    (try extract_lets -underBinder); refine .load h6 fun _ => ?_
    (try extract_lets -underBinder); refine .load h8 fun _ => ?_
    (try extract_lets -underBinder)
    exact .pure _
  rintro ⟨_, _, _, _⟩
  refine .bind (Y := X) ?_ ?_
  · unfold k0_part116
    (try extract_lets -underBinder); refine .load h9 fun _ => ?_
    (try extract_lets -underBinder); refine .load h30 fun _ => ?_
    (try extract_lets -underBinder)
    exact .pure _
  rintro ⟨_, _, _, _, _, _, _, _⟩
  refine .bind (Y := X) ?_ ?_
  · unfold k0_part117
    (try extract_lets -underBinder); refine .load h30 fun _ => ?_
    iterate 3 ((try extract_lets -underBinder); refine .load h29 fun _ => ?_)
    (try extract_lets -underBinder)
    exact .pure _
  rintro ⟨_, _, _, _, _, _, _, _, _, _, _, _⟩
  refine .bind (Y := X) ?_ ?_
  · unfold k0_part118
    iterate 6 ((try extract_lets -underBinder); refine .load h29 fun _ => ?_)
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    (try extract_lets -underBinder); refine .load h29 fun _ => ?_
    (try extract_lets -underBinder)
    exact .pure _
  rintro ⟨_, _, _, _, _, _, _, _⟩
  refine .bind (Y := X) ?_ ?_
  · unfold k0_part119
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    iterate 4 ((try extract_lets -underBinder); refine .load h30 fun _ => ?_)
    (try extract_lets -underBinder); refine .load h11 fun _ => ?_
    (try extract_lets -underBinder)
    exact .pure _
  rintro ⟨_, _, _, _, _⟩
  refine .bind (Y := X) ?_ ?_
  · unfold k0_part120
    (try extract_lets -underBinder); refine .load h31 fun _ => ?_
    (try extract_lets -underBinder); refine .load h22 fun _ => ?_
    (try extract_lets -underBinder); refine .store h22 ?_
    (try extract_lets -underBinder); refine .load h16 fun _ => ?_
    (try extract_lets -underBinder)
    exact .pure _
  rintro ⟨_, _, _, _, _, _, _, _, _⟩
  refine .bind (Y := X) ?_ ?_
  · unfold k0_part121
    iterate 4 ((try extract_lets -underBinder); refine .bind (.smemLoad h2) fun _ => ?_)
    (try extract_lets -underBinder)
    exact .pure _
  rintro ⟨_, _, _, _⟩
  refine .bind (Y := X) ?_ ?_
  · unfold k0_part122
    (try extract_lets -underBinder); refine .load h16 fun _ => ?_
    iterate 2 ((try extract_lets -underBinder); refine .bind (.smemLoad h2) fun _ => ?_)
    (try extract_lets -underBinder)
    exact .pure _
  rintro ⟨_, _, _, _, _⟩
  refine .bind (Y := X) ?_ ?_
  · unfold k0_part123
    iterate 2 ((try extract_lets -underBinder); refine .bind (.smemLoad h2) fun _ => ?_)
    (try extract_lets -underBinder); refine .load h16 fun _ => ?_
    (try extract_lets -underBinder)
    exact .pure _
  rintro ⟨_, _, _, _, _⟩
  refine .bind (Y := X) ?_ ?_
  · unfold k0_part124
    iterate 4 ((try extract_lets -underBinder); refine .bind (.smemLoad h2) fun _ => ?_)
    (try extract_lets -underBinder)
    exact .pure _
  rintro ⟨_, _, _, _, _⟩
  refine .bind (Y := X) ?_ ?_
  · unfold k0_part125
    (try extract_lets -underBinder); refine .load h16 fun _ => ?_
    iterate 2 ((try extract_lets -underBinder); refine .bind (.smemLoad h2) fun _ => ?_)
    (try extract_lets -underBinder)
    exact .pure _
  rintro ⟨_, _, _, _, _, _, _, _⟩
  refine .bind (Y := X) ?_ ?_
  · unfold k0_part126
    iterate 2 ((try extract_lets -underBinder); refine .bind (.smemLoad h2) fun _ => ?_)
    (try extract_lets -underBinder)
    exact .pure _
  rintro ⟨_, _, _⟩
  refine .bind (Y := X) ?_ ?_
  · unfold k0_part127
    (try extract_lets -underBinder); refine .load h12 fun _ => ?_
    (try extract_lets -underBinder)
    exact .pure _
  rintro ⟨_, _⟩
  refine .bind (Y := X) ?_ ?_
  · unfold k0_part128
    (try extract_lets -underBinder); refine .load h14 fun _ => ?_
    (try extract_lets -underBinder)
    exact .pure _
  rintro ⟨_, _, _, _, _, _, _, _, _, _⟩
  refine .bind (Y := X) ?_ ?_
  · unfold k0_part129
    iterate 2 ((try extract_lets -underBinder); refine .load h28 fun _ => ?_)
    (try extract_lets -underBinder); refine .store h28 ?_
    (try extract_lets -underBinder); refine .load h28 fun _ => ?_
    (try extract_lets -underBinder)
    exact .pure _
  rintro ⟨_, _, _, _, _, _, _, _, _, _⟩
  refine .bind (Y := X) ?_ ?_
  · unfold k0_part130
    (try extract_lets -underBinder); refine .load h28 fun _ => ?_
    (try extract_lets -underBinder); refine .store h28 ?_
    (try extract_lets -underBinder)
    exact .pure _
  rintro ⟨_, _, _, _⟩
  refine .bind (Y := X) ?_ ?_
  · unfold k0_part131
    iterate 9 ((try extract_lets -underBinder); refine .load h15 fun _ => ?_)
    (try extract_lets -underBinder)
    exact .pure _
  rintro ⟨_, _, _, _, _, _, _, _, _, _, _⟩
  (try extract_lets -underBinder)
  exact .pure _

theorem run_part426 {v4664 v4668 v5084 v5097 v5109 v5110 v5111 v5113 v5119 v5143 v5144 v5146 v5152 v5194 v5227 v5230 v5233 v5236 v5239 v5242 v5245 v5248 v5260 v5263 v5264} (h15 : Acc d X arg15 arg15.view.set) (h28 : Acc d X arg28 arg28.view.set) :
    Runs defs d X (k0_part426 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 arg35 arg36 harg36 arg37 harg37 arg38 arg39 arg40 harg40 arg41 harg41 arg42 arg43 arg44 harg44 arg45 harg45 arg46 arg47 arg48 harg48 arg49 harg49 arg50 arg51 arg52 harg52 arg53 harg53 arg54 arg55 v4664 v4668 v5084 v5097 v5109 v5110 v5111 v5113 v5119 v5143 v5144 v5146 v5152 v5194 v5227 v5230 v5233 v5236 v5239 v5242 v5245 v5248 v5260 v5263 v5264) (fun _ => X) := by
  unfold k0_part426
  refine .bind (Y := X) ?_ ?_
  · unfold k0_part132
    iterate 7 ((try extract_lets -underBinder); refine .load h15 fun _ => ?_)
    (try extract_lets -underBinder)
    exact .pure _
  rintro ⟨_, _, _, _, _, _, _, _, _, _, _, _, _, _⟩
  refine .bind (Y := X) ?_ ?_
  · unfold k0_part133
    iterate 8 ((try extract_lets -underBinder); refine .load h15 fun _ => ?_)
    (try extract_lets -underBinder)
    exact .pure _
  rintro ⟨_, _, _, _, _, _, _, _, _, _, _, _, _, _, _, _⟩
  refine .bind (Y := X) ?_ ?_
  · unfold k0_part134
    iterate 8 ((try extract_lets -underBinder); refine .load h15 fun _ => ?_)
    (try extract_lets -underBinder)
    exact .pure _
  rintro ⟨_, _, _, _, _, _, _, _, _, _, _, _, _, _, _, _, _, _, _⟩
  refine .bind (Y := X) ?_ ?_
  · unfold k0_part135
    iterate 5 ((try extract_lets -underBinder); refine .load h15 fun _ => ?_)
    (try extract_lets -underBinder)
    exact .pure _
  rintro ⟨_, _, _, _, _, _, _, _⟩
  refine .bind (Y := X) ?_ ?_
  · unfold k0_part136
    iterate 8 ((try extract_lets -underBinder); refine .load h15 fun _ => ?_)
    (try extract_lets -underBinder)
    exact .pure _
  rintro ⟨_, _, _, _, _, _, _, _, _, _⟩
  refine .bind (Y := X) ?_ ?_
  · unfold k0_part137
    iterate 3 ((try extract_lets -underBinder); refine .load h15 fun _ => ?_)
    (try extract_lets -underBinder)
    exact .pure _
  rintro ⟨_, _, _, _, _⟩
  refine .bind (Y := X) ?_ ?_
  · unfold k0_part138
    iterate 7 ((try extract_lets -underBinder); refine .load h15 fun _ => ?_)
    (try extract_lets -underBinder)
    exact .pure _
  rintro ⟨_, _, _, _, _, _, _, _, _, _⟩
  refine .bind (Y := X) ?_ ?_
  · unfold k0_part139
    iterate 8 ((try extract_lets -underBinder); refine .load h15 fun _ => ?_)
    (try extract_lets -underBinder)
    exact .pure _
  rintro ⟨_, _, _, _, _, _, _, _, _⟩
  refine .bind (Y := X) ?_ ?_
  · unfold k0_part140
    iterate 7 ((try extract_lets -underBinder); refine .load h15 fun _ => ?_)
    (try extract_lets -underBinder)
    exact .pure _
  rintro ⟨_, _, _, _, _, _, _, _, _⟩
  refine .bind (Y := X) ?_ ?_
  · unfold k0_part141
    iterate 10 ((try extract_lets -underBinder); refine .load h15 fun _ => ?_)
    (try extract_lets -underBinder)
    exact .pure _
  rintro ⟨_, _, _, _, _, _, _, _, _, _, _⟩
  refine .bind (Y := X) ?_ ?_
  · unfold k0_part142
    iterate 9 ((try extract_lets -underBinder); refine .load h15 fun _ => ?_)
    (try extract_lets -underBinder)
    exact .pure _
  rintro ⟨_, _, _, _, _, _, _, _, _, _, _, _⟩
  refine .bind (Y := X) ?_ ?_
  · unfold k0_part143
    iterate 7 ((try extract_lets -underBinder); refine .load h15 fun _ => ?_)
    (try extract_lets -underBinder)
    exact .pure _
  rintro ⟨_, _, _, _, _, _, _, _, _, _, _, _, _⟩
  refine .bind (Y := X) ?_ ?_
  · unfold k0_part144
    iterate 7 ((try extract_lets -underBinder); refine .load h15 fun _ => ?_)
    (try extract_lets -underBinder)
    exact .pure _
  rintro ⟨_, _, _, _, _, _, _, _, _, _⟩
  refine .bind (Y := X) ?_ ?_
  · unfold k0_part145
    iterate 10 ((try extract_lets -underBinder); refine .load h15 fun _ => ?_)
    (try extract_lets -underBinder)
    exact .pure _
  rintro ⟨_, _, _, _, _, _, _, _, _, _, _⟩
  refine .bind (Y := X) ?_ ?_
  · unfold k0_part146
    iterate 10 ((try extract_lets -underBinder); refine .load h15 fun _ => ?_)
    (try extract_lets -underBinder)
    exact .pure _
  rintro ⟨_, _, _, _, _, _, _, _, _, _, _⟩
  refine .bind (Y := X) ?_ ?_
  · unfold k0_part147
    iterate 6 ((try extract_lets -underBinder); refine .load h15 fun _ => ?_)
    (try extract_lets -underBinder)
    exact .pure _
  rintro ⟨_, _, _, _, _, _, _, _, _, _⟩
  refine .bind (Y := X) ?_ ?_
  · unfold k0_part148
    iterate 10 ((try extract_lets -underBinder); refine .load h15 fun _ => ?_)
    (try extract_lets -underBinder)
    exact .pure _
  rintro ⟨_, _, _, _, _, _, _, _, _, _, _⟩
  refine .bind (Y := X) ?_ ?_
  · unfold k0_part149
    iterate 9 ((try extract_lets -underBinder); refine .load h15 fun _ => ?_)
    (try extract_lets -underBinder)
    exact .pure _
  rintro ⟨_, _, _, _, _, _, _, _, _, _, _⟩
  refine .bind (Y := X) ?_ ?_
  · unfold k0_part150
    iterate 10 ((try extract_lets -underBinder); refine .load h15 fun _ => ?_)
    (try extract_lets -underBinder)
    exact .pure _
  rintro ⟨_, _, _, _, _, _, _, _, _, _, _⟩
  refine .bind (Y := X) ?_ ?_
  · unfold k0_part151
    iterate 2 ((try extract_lets -underBinder); refine .load h15 fun _ => ?_)
    iterate 2 ((try extract_lets -underBinder); refine .load h28 fun _ => ?_)
    (try extract_lets -underBinder); refine .store h28 ?_
    (try extract_lets -underBinder)
    exact .pure _
  rintro ⟨_, _, _, _, _, _, _, _, _, _⟩
  refine .bind (Y := X) ?_ ?_
  · unfold k0_part152
    iterate 2 ((try extract_lets -underBinder); refine .load h15 fun _ => ?_)
    (try extract_lets -underBinder)
    exact .pure _
  rintro ⟨_, _, _, _, _, _, _⟩
  refine .bind (Y := X) ?_ ?_
  · unfold k0_part153
    iterate 9 ((try extract_lets -underBinder); refine .load h15 fun _ => ?_)
    (try extract_lets -underBinder)
    exact .pure _
  rintro ⟨_, _, _, _, _, _, _, _, _, _, _⟩
  refine .bind (Y := X) ?_ ?_
  · unfold k0_part154
    iterate 5 ((try extract_lets -underBinder); refine .load h15 fun _ => ?_)
    (try extract_lets -underBinder)
    exact .pure _
  rintro ⟨_, _, _, _, _, _, _, _, _⟩
  refine .bind (Y := X) ?_ ?_
  · unfold k0_part155
    iterate 9 ((try extract_lets -underBinder); refine .load h15 fun _ => ?_)
    (try extract_lets -underBinder)
    exact .pure _
  rintro ⟨_, _, _, _, _, _, _, _, _, _, _⟩
  refine .bind (Y := X) ?_ ?_
  · unfold k0_part156
    iterate 7 ((try extract_lets -underBinder); refine .load h15 fun _ => ?_)
    (try extract_lets -underBinder)
    exact .pure _
  rintro ⟨_, _, _, _, _, _, _, _, _, _, _⟩
  refine .bind (Y := X) ?_ ?_
  · unfold k0_part157
    iterate 7 ((try extract_lets -underBinder); refine .load h15 fun _ => ?_)
    (try extract_lets -underBinder)
    exact .pure _
  rintro ⟨_, _, _, _, _, _, _, _, _, _⟩
  refine .bind (Y := X) ?_ ?_
  · unfold k0_part158
    iterate 8 ((try extract_lets -underBinder); refine .load h15 fun _ => ?_)
    (try extract_lets -underBinder)
    exact .pure _
  rintro ⟨_, _, _, _, _, _, _, _, _, _⟩
  refine .bind (Y := X) ?_ ?_
  · unfold k0_part159
    (try extract_lets -underBinder); refine .load h15 fun _ => ?_
    (try extract_lets -underBinder)
    exact .pure _
  rintro ⟨_, _, _, _, _, _, _, _, _, _, _⟩
  refine .bind (Y := X) ?_ ?_
  · unfold k0_part160
    iterate 8 ((try extract_lets -underBinder); refine .load h15 fun _ => ?_)
    (try extract_lets -underBinder)
    exact .pure _
  rintro ⟨_, _, _, _, _, _, _, _, _, _, _, _, _, _, _, _⟩
  refine .bind (Y := X) ?_ ?_
  · unfold k0_part161
    iterate 8 ((try extract_lets -underBinder); refine .load h15 fun _ => ?_)
    (try extract_lets -underBinder)
    exact .pure _
  rintro ⟨_, _, _, _, _, _, _, _, _, _⟩
  refine .bind (Y := X) ?_ ?_
  · unfold k0_part162
    iterate 8 ((try extract_lets -underBinder); refine .load h15 fun _ => ?_)
    (try extract_lets -underBinder)
    exact .pure _
  rintro ⟨_, _, _, _, _, _, _, _, _, _, _⟩
  refine .bind (Y := X) ?_ ?_
  · unfold k0_part163
    iterate 9 ((try extract_lets -underBinder); refine .load h15 fun _ => ?_)
    (try extract_lets -underBinder)
    exact .pure _
  rintro ⟨_, _, _, _, _, _, _, _, _, _, _, _⟩
  refine .bind (Y := X) ?_ ?_
  · unfold k0_part164
    iterate 10 ((try extract_lets -underBinder); refine .load h15 fun _ => ?_)
    (try extract_lets -underBinder)
    exact .pure _
  rintro ⟨_, _, _, _, _, _, _, _, _, _, _⟩
  refine .bind (Y := X) ?_ ?_
  · unfold k0_part165
    iterate 5 ((try extract_lets -underBinder); refine .load h15 fun _ => ?_)
    (try extract_lets -underBinder)
    exact .pure _
  rintro ⟨_, _, _, _, _, _⟩
  refine .bind (Y := X) ?_ ?_
  · unfold k0_part166
    iterate 9 ((try extract_lets -underBinder); refine .load h15 fun _ => ?_)
    (try extract_lets -underBinder)
    exact .pure _
  rintro ⟨_, _, _, _, _, _, _, _, _, _, _⟩
  refine .bind (Y := X) ?_ ?_
  · unfold k0_part167
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part168
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part169
    iterate 6 ((try extract_lets -underBinder); refine .load h15 fun _ => ?_)
    (try extract_lets -underBinder)
    exact .pure _
  rintro ⟨_, _, _, _, _, _, _, _, _⟩
  refine .bind (Y := X) ?_ ?_
  · unfold k0_part170
    iterate 10 ((try extract_lets -underBinder); refine .load h15 fun _ => ?_)
    (try extract_lets -underBinder)
    exact .pure _
  rintro ⟨_, _, _, _, _, _, _, _, _, _⟩
  refine .bind (Y := X) ?_ ?_
  · unfold k0_part171
    iterate 9 ((try extract_lets -underBinder); refine .load h15 fun _ => ?_)
    (try extract_lets -underBinder)
    exact .pure _
  rintro ⟨_, _, _, _, _, _, _, _, _, _, _⟩
  refine .bind (Y := X) ?_ ?_
  · unfold k0_part172
    iterate 10 ((try extract_lets -underBinder); refine .load h15 fun _ => ?_)
    (try extract_lets -underBinder)
    exact .pure _
  rintro ⟨_, _, _, _, _, _, _, _, _, _, _⟩
  refine .bind (Y := X) ?_ ?_
  · unfold k0_part173
    iterate 2 ((try extract_lets -underBinder); refine .load h28 fun _ => ?_)
    (try extract_lets -underBinder); refine .store h28 ?_
    (try extract_lets -underBinder)
    exact .pure _
  rintro ⟨_, _, _, _, _, _, _, _, _⟩
  refine .bind (Y := X) ?_ ?_
  · unfold k0_part174
    iterate 4 ((try extract_lets -underBinder); refine .load h15 fun _ => ?_)
    (try extract_lets -underBinder)
    exact .pure _
  rintro ⟨_, _, _, _, _, _, _, _, _⟩
  refine .bind (Y := X) ?_ ?_
  · unfold k0_part175
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part176
    iterate 5 ((try extract_lets -underBinder); refine .load h15 fun _ => ?_)
    (try extract_lets -underBinder)
    exact .pure _
  rintro ⟨_, _, _, _, _, _, _, _, _, _⟩
  refine .bind (Y := X) ?_ ?_
  · unfold k0_part177
    iterate 8 ((try extract_lets -underBinder); refine .load h15 fun _ => ?_)
    (try extract_lets -underBinder)
    exact .pure _
  rintro ⟨_, _, _, _, _, _, _, _, _, _, _⟩
  refine .bind (Y := X) ?_ ?_
  · unfold k0_part178
    iterate 5 ((try extract_lets -underBinder); refine .load h15 fun _ => ?_)
    (try extract_lets -underBinder)
    exact .pure _
  rintro ⟨_, _, _, _, _, _, _, _, _, _⟩
  refine .bind (Y := X) ?_ ?_
  · unfold k0_part179
    iterate 8 ((try extract_lets -underBinder); refine .load h15 fun _ => ?_)
    (try extract_lets -underBinder)
    exact .pure _
  rintro ⟨_, _, _, _, _, _, _, _, _, _, _, _⟩
  refine .bind (Y := X) ?_ ?_
  · unfold k0_part180
    iterate 8 ((try extract_lets -underBinder); refine .load h15 fun _ => ?_)
    (try extract_lets -underBinder)
    exact .pure _
  rintro ⟨_, _, _, _, _, _, _, _, _, _, _, _, _⟩
  refine .bind (Y := X) ?_ ?_
  · unfold k0_part181
    (try extract_lets -underBinder); refine .load h15 fun _ => ?_
    (try extract_lets -underBinder)
    exact .pure _
  rintro ⟨_, _, _, _, _⟩
  refine .bind (Y := X) ?_ ?_
  · unfold k0_part182
    iterate 8 ((try extract_lets -underBinder); refine .load h15 fun _ => ?_)
    (try extract_lets -underBinder)
    exact .pure _
  rintro ⟨_, _, _, _, _, _, _, _, _, _⟩
  refine .bind (Y := X) ?_ ?_
  · unfold k0_part183
    iterate 7 ((try extract_lets -underBinder); refine .load h15 fun _ => ?_)
    (try extract_lets -underBinder)
    exact .pure _
  rintro ⟨_, _, _, _, _, _, _, _⟩
  refine .bind (Y := X) ?_ ?_
  · unfold k0_part184
    iterate 9 ((try extract_lets -underBinder); refine .load h15 fun _ => ?_)
    (try extract_lets -underBinder)
    exact .pure _
  rintro ⟨_, _, _, _, _, _, _, _, _, _, _⟩
  refine .bind (Y := X) ?_ ?_
  · unfold k0_part185
    iterate 10 ((try extract_lets -underBinder); refine .load h15 fun _ => ?_)
    (try extract_lets -underBinder)
    exact .pure _
  rintro ⟨_, _, _, _, _, _, _, _, _, _, _⟩
  refine .bind (Y := X) ?_ ?_
  · unfold k0_part186
    iterate 10 ((try extract_lets -underBinder); refine .load h15 fun _ => ?_)
    (try extract_lets -underBinder)
    exact .pure _
  rintro ⟨_, _, _, _, _, _, _, _, _, _⟩
  refine .bind (Y := X) ?_ ?_
  · unfold k0_part187
    iterate 4 ((try extract_lets -underBinder); refine .load h15 fun _ => ?_)
    (try extract_lets -underBinder)
    exact .pure _
  rintro ⟨_, _, _, _, _, _, _⟩
  refine .bind (Y := X) ?_ ?_
  · unfold k0_part188
    iterate 10 ((try extract_lets -underBinder); refine .load h15 fun _ => ?_)
    (try extract_lets -underBinder)
    exact .pure _
  rintro ⟨_, _, _, _, _, _, _, _, _, _, _⟩
  refine .bind (Y := X) ?_ ?_
  · unfold k0_part189
    iterate 9 ((try extract_lets -underBinder); refine .load h15 fun _ => ?_)
    (try extract_lets -underBinder)
    exact .pure _
  rintro ⟨_, _, _, _, _, _, _, _, _, _, _⟩
  refine .bind (Y := X) ?_ ?_
  · unfold k0_part190
    iterate 10 ((try extract_lets -underBinder); refine .load h15 fun _ => ?_)
    (try extract_lets -underBinder)
    exact .pure _
  rintro ⟨_, _, _, _, _, _, _, _, _, _, _⟩
  refine .bind (Y := X) ?_ ?_
  · unfold k0_part191
    iterate 7 ((try extract_lets -underBinder); refine .load h15 fun _ => ?_)
    (try extract_lets -underBinder)
    exact .pure _
  rintro ⟨_, _, _, _, _, _, _, _, _⟩
  (try extract_lets -underBinder)
  exact .pure _

theorem run_part427 {v4495 v4668 v4670 v5072 v5084 v5113 v5119 v5121 v5132 v5146 v5152 v5154 v5165 v6085 v6088 v6092 v6098 v6100 v6111 v7031 v7034 v7035 v7036 v7038 v7044 v7046 v7057 v7086 v7717 v7721 v7725 v7729 v7733 v7737 v7741 v7745 v7749 v7753 v7757 v7761 v7768 v7772 v7776 v7780 v7784 v7788 v7792 v7796 v7800 v7804 v7808 v7812 v7816 v7820 v7824 v7828 v7841 v7844 v7848 v7852 v7856 v7860 v7863} (h2 : Acc d X arg2 arg2.view.set) (h3 : Acc d X arg3 arg3.view.set) (h4 : Acc d X arg4 arg4.view.set) (h6 : Acc d X arg6 arg6.view.set) (h7 : Acc d X arg7 arg7.view.set) (h8 : Acc d X arg8 arg8.view.set) (h9 : Acc d X arg9 arg9.view.set) (h11 : Acc d X arg11 arg11.view.set) (h12 : Acc d X arg12 arg12.view.set) (h13 : Acc d X arg13 arg13.view.set) (h14 : Acc d X arg14 arg14.view.set) (h15 : Acc d X arg15 arg15.view.set) (h16 : Acc d X arg16 arg16.view.set) (h22 : Acc d X arg22 arg22.view.set) (h28 : Acc d X arg28 arg28.view.set) (h29 : Acc d X arg29 arg29.view.set) (h30 : Acc d X arg30 arg30.view.set) (h31 : Acc d X arg31 arg31.view.set) :
    Runs defs d X (k0_part427 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 arg35 arg36 harg36 arg37 harg37 arg38 arg39 arg40 harg40 arg41 harg41 arg42 arg43 arg44 harg44 arg45 harg45 arg46 arg47 arg48 harg48 arg49 harg49 arg50 arg51 arg52 harg52 arg53 harg53 arg54 arg55 v4495 v4668 v4670 v5072 v5084 v5113 v5119 v5121 v5132 v5146 v5152 v5154 v5165 v6085 v6088 v6092 v6098 v6100 v6111 v7031 v7034 v7035 v7036 v7038 v7044 v7046 v7057 v7086 v7717 v7721 v7725 v7729 v7733 v7737 v7741 v7745 v7749 v7753 v7757 v7761 v7768 v7772 v7776 v7780 v7784 v7788 v7792 v7796 v7800 v7804 v7808 v7812 v7816 v7820 v7824 v7828 v7841 v7844 v7848 v7852 v7856 v7860 v7863) (fun _ => X) := by
  unfold k0_part427
  refine .bind (Y := X) ?_ ?_
  · unfold k0_part192
    iterate 10 ((try extract_lets -underBinder); refine .load h15 fun _ => ?_)
    (try extract_lets -underBinder)
    exact .pure _
  rintro ⟨_, _, _, _, _, _, _, _, _, _, _⟩
  refine .bind (Y := X) ?_ ?_
  · unfold k0_part193
    iterate 9 ((try extract_lets -underBinder); refine .load h15 fun _ => ?_)
    (try extract_lets -underBinder)
    exact .pure _
  rintro ⟨_, _, _, _, _, _, _, _, _, _, _, _⟩
  refine .bind (Y := X) ?_ ?_
  · unfold k0_part194
    iterate 8 ((try extract_lets -underBinder); refine .load h15 fun _ => ?_)
    (try extract_lets -underBinder)
    exact .pure _
  rintro ⟨_, _, _, _, _⟩
  refine .bind (Y := X) ?_ ?_
  · unfold k0_part195
    (try extract_lets -underBinder)
    exact .pure _
  rintro ⟨_, _, _, _, _, _⟩
  refine .bind (Y := X) ?_ ?_
  · unfold k0_part196
    iterate 8 ((try extract_lets -underBinder); refine .load h15 fun _ => ?_)
    (try extract_lets -underBinder)
    exact .pure _
  rintro ⟨_, _, _, _, _, _, _, _, _⟩
  refine .bind (Y := X) ?_ ?_
  · unfold k0_part197
    iterate 8 ((try extract_lets -underBinder); refine .load h15 fun _ => ?_)
    (try extract_lets -underBinder)
    exact .pure _
  rintro ⟨_, _, _, _, _, _, _, _, _, _, _, _⟩
  refine .bind (Y := X) ?_ ?_
  · unfold k0_part198
    iterate 7 ((try extract_lets -underBinder); refine .load h15 fun _ => ?_)
    (try extract_lets -underBinder)
    exact .pure _
  rintro ⟨_, _, _, _, _, _, _, _, _, _⟩
  refine .bind (Y := X) ?_ ?_
  · unfold k0_part199
    iterate 9 ((try extract_lets -underBinder); refine .load h15 fun _ => ?_)
    (try extract_lets -underBinder)
    exact .pure _
  rintro ⟨_, _, _, _, _, _, _, _, _⟩
  refine .bind (Y := X) ?_ ?_
  · unfold k0_part200
    iterate 3 ((try extract_lets -underBinder); refine .load h15 fun _ => ?_)
    (try extract_lets -underBinder)
    exact .pure _
  rintro ⟨_, _, _, _, _, _, _⟩
  refine .bind (Y := X) ?_ ?_
  · unfold k0_part201
    iterate 8 ((try extract_lets -underBinder); refine .load h15 fun _ => ?_)
    (try extract_lets -underBinder)
    exact .pure _
  rintro ⟨_, _, _, _, _, _, _, _, _, _⟩
  refine .bind (Y := X) ?_ ?_
  · unfold k0_part202
    iterate 5 ((try extract_lets -underBinder); refine .load h15 fun _ => ?_)
    (try extract_lets -underBinder)
    exact .pure _
  rintro ⟨_, _, _, _, _, _, _, _, _, _, _, _, _, _, _, _, _, _, _, _, _, _, _, _, _, _, _, _, _, _, _, _, _, _, _, _, _⟩
  refine .bind (Y := X) ?_ ?_
  · unfold k0_part203
    iterate 6 ((try extract_lets -underBinder); refine .load h15 fun _ => ?_)
    (try extract_lets -underBinder)
    exact .pure _
  rintro ⟨_, _, _, _, _, _, _, _, _, _⟩
  refine .bind (Y := X) ?_ ?_
  · unfold k0_part204
    iterate 8 ((try extract_lets -underBinder); refine .load h15 fun _ => ?_)
    (try extract_lets -underBinder)
    exact .pure _
  rintro ⟨_, _, _, _, _, _, _, _, _, _, _⟩
  refine .bind (Y := X) ?_ ?_
  · unfold k0_part205
    iterate 6 ((try extract_lets -underBinder); refine .load h15 fun _ => ?_)
    (try extract_lets -underBinder)
    exact .pure _
  rintro ⟨_, _, _, _, _, _, _, _, _⟩
  refine .bind (Y := X) ?_ ?_
  · unfold k0_part206
    iterate 10 ((try extract_lets -underBinder); refine .load h15 fun _ => ?_)
    (try extract_lets -underBinder)
    exact .pure _
  rintro ⟨_, _, _, _, _, _, _, _, _, _⟩
  refine .bind (Y := X) ?_ ?_
  · unfold k0_part207
    iterate 9 ((try extract_lets -underBinder); refine .load h15 fun _ => ?_)
    (try extract_lets -underBinder)
    exact .pure _
  rintro ⟨_, _, _, _, _, _, _, _, _, _, _⟩
  refine .bind (Y := X) ?_ ?_
  · unfold k0_part208
    iterate 9 ((try extract_lets -underBinder); refine .load h15 fun _ => ?_)
    (try extract_lets -underBinder)
    exact .pure _
  rintro ⟨_, _, _, _, _, _, _, _, _, _, _⟩
  refine .bind (Y := X) ?_ ?_
  · unfold k0_part209
    iterate 6 ((try extract_lets -underBinder); refine .load h15 fun _ => ?_)
    (try extract_lets -underBinder)
    exact .pure _
  rintro ⟨_, _, _, _, _, _, _, _, _⟩
  refine .bind (Y := X) ?_ ?_
  · unfold k0_part210
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part211
    iterate 9 ((try extract_lets -underBinder); refine .load h15 fun _ => ?_)
    (try extract_lets -underBinder)
    exact .pure _
  rintro ⟨_, _, _, _, _, _, _, _, _, _, _⟩
  refine .bind (Y := X) ?_ ?_
  · unfold k0_part212
    iterate 7 ((try extract_lets -underBinder); refine .load h15 fun _ => ?_)
    (try extract_lets -underBinder)
    exact .pure _
  rintro ⟨_, _, _, _, _, _, _, _⟩
  refine .bind (Y := X) ?_ ?_
  · unfold k0_part213
    iterate 9 ((try extract_lets -underBinder); refine .load h15 fun _ => ?_)
    (try extract_lets -underBinder)
    exact .pure _
  rintro ⟨_, _, _, _, _, _, _, _, _, _, _⟩
  refine .bind (Y := X) ?_ ?_
  · unfold k0_part214
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part215
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part216
    iterate 3 ((try extract_lets -underBinder); refine .load h15 fun _ => ?_)
    (try extract_lets -underBinder)
    exact .pure _
  rintro ⟨_, _, _, _, _, _⟩
  refine .bind (Y := X) ?_ ?_
  · unfold k0_part217
    (try extract_lets -underBinder); refine .load h13 fun _ => ?_
    (try extract_lets -underBinder)
    exact .pure _
  rintro ⟨_, _, _⟩
  refine .bind (Y := X) ?_ ?_
  · unfold k0_part218
    (try extract_lets -underBinder); refine .load h3 fun _ => ?_
    (try extract_lets -underBinder); refine .load h4 fun _ => ?_
    (try extract_lets -underBinder); refine .load h7 fun _ => ?_
    (try extract_lets -underBinder); refine .load h6 fun _ => ?_
    (try extract_lets -underBinder); refine .load h8 fun _ => ?_
    (try extract_lets -underBinder)
    exact .pure _
  rintro ⟨_, _, _, _, _, _⟩
  refine .bind (Y := X) ?_ ?_
  · unfold k0_part219
    (try extract_lets -underBinder); refine .load h9 fun _ => ?_
    (try extract_lets -underBinder); refine .load h30 fun _ => ?_
    (try extract_lets -underBinder)
    exact .pure _
  rintro ⟨_, _, _, _, _, _, _⟩
  refine .bind (Y := X) ?_ ?_
  · unfold k0_part220
    (try extract_lets -underBinder); refine .load h30 fun _ => ?_
    iterate 2 ((try extract_lets -underBinder); refine .load h29 fun _ => ?_)
    (try extract_lets -underBinder)
    exact .pure _
  rintro ⟨_, _, _, _, _, _, _, _, _, _, _, _⟩
  refine .bind (Y := X) ?_ ?_
  · unfold k0_part221
    iterate 7 ((try extract_lets -underBinder); refine .load h29 fun _ => ?_)
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    (try extract_lets -underBinder)
    exact .pure _
  rintro ⟨_, _, _, _, _, _, _⟩
  refine .bind (Y := X) ?_ ?_
  · unfold k0_part222
    (try extract_lets -underBinder); refine .load h29 fun _ => ?_
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    iterate 4 ((try extract_lets -underBinder); refine .load h30 fun _ => ?_)
    (try extract_lets -underBinder); refine .load h11 fun _ => ?_
    (try extract_lets -underBinder)
    exact .pure _
  rintro ⟨_, _, _, _, _⟩
  refine .bind (Y := X) ?_ ?_
  · unfold k0_part223
    (try extract_lets -underBinder); refine .load h31 fun _ => ?_
    (try extract_lets -underBinder); refine .load h22 fun _ => ?_
    (try extract_lets -underBinder); refine .store h22 ?_
    (try extract_lets -underBinder); refine .load h16 fun _ => ?_
    (try extract_lets -underBinder)
    exact .pure _
  rintro ⟨_, _, _, _, _, _, _, _, _, _⟩
  refine .bind (Y := X) ?_ ?_
  · unfold k0_part224
    iterate 4 ((try extract_lets -underBinder); refine .bind (.smemLoad h2) fun _ => ?_)
    (try extract_lets -underBinder)
    exact .pure _
  rintro ⟨_, _, _⟩
  refine .bind (Y := X) ?_ ?_
  · unfold k0_part225
    (try extract_lets -underBinder); refine .load h16 fun _ => ?_
    iterate 2 ((try extract_lets -underBinder); refine .bind (.smemLoad h2) fun _ => ?_)
    (try extract_lets -underBinder)
    exact .pure _
  rintro ⟨_, _, _, _, _, _⟩
  refine .bind (Y := X) ?_ ?_
  · unfold k0_part226
    iterate 2 ((try extract_lets -underBinder); refine .bind (.smemLoad h2) fun _ => ?_)
    (try extract_lets -underBinder)
    exact .pure _
  rintro ⟨_, _⟩
  refine .bind (Y := X) ?_ ?_
  · unfold k0_part227
    (try extract_lets -underBinder); refine .load h16 fun _ => ?_
    iterate 4 ((try extract_lets -underBinder); refine .bind (.smemLoad h2) fun _ => ?_)
    (try extract_lets -underBinder)
    exact .pure _
  rintro ⟨_, _, _, _, _, _⟩
  refine .bind (Y := X) ?_ ?_
  · unfold k0_part228
    (try extract_lets -underBinder); refine .load h16 fun _ => ?_
    (try extract_lets -underBinder)
    exact .pure _
  rintro ⟨_, _, _, _, _, _⟩
  refine .bind (Y := X) ?_ ?_
  · unfold k0_part229
    iterate 4 ((try extract_lets -underBinder); refine .bind (.smemLoad h2) fun _ => ?_)
    (try extract_lets -underBinder)
    exact .pure _
  rintro ⟨_, _, _, _⟩
  refine .bind (Y := X) ?_ ?_
  · unfold k0_part230
    (try extract_lets -underBinder); refine .load h12 fun _ => ?_
    (try extract_lets -underBinder)
    exact .pure _
  rintro ⟨_, _⟩
  refine .bind (Y := X) ?_ ?_
  · unfold k0_part231
    (try extract_lets -underBinder); refine .load h14 fun _ => ?_
    (try extract_lets -underBinder)
    exact .pure _
  rintro ⟨_, _, _, _, _, _, _, _, _⟩
  refine .bind (Y := X) ?_ ?_
  · unfold k0_part232
    iterate 2 ((try extract_lets -underBinder); refine .load h28 fun _ => ?_)
    (try extract_lets -underBinder); refine .store h28 ?_
    (try extract_lets -underBinder); refine .load h28 fun _ => ?_
    (try extract_lets -underBinder)
    exact .pure _
  rintro ⟨_, _, _, _, _, _, _, _, _, _⟩
  refine .bind (Y := X) ?_ ?_
  · unfold k0_part233
    (try extract_lets -underBinder); refine .load h28 fun _ => ?_
    (try extract_lets -underBinder); refine .store h28 ?_
    (try extract_lets -underBinder)
    exact .pure _
  rintro ⟨_, _, _, _⟩
  refine .bind (Y := X) ?_ ?_
  · unfold k0_part234
    iterate 8 ((try extract_lets -underBinder); refine .load h15 fun _ => ?_)
    (try extract_lets -underBinder)
    exact .pure _
  rintro ⟨_, _, _, _, _, _, _, _, _, _⟩
  refine .bind (Y := X) ?_ ?_
  · unfold k0_part235
    iterate 8 ((try extract_lets -underBinder); refine .load h15 fun _ => ?_)
    (try extract_lets -underBinder)
    exact .pure _
  rintro ⟨_, _, _, _, _, _, _, _, _, _, _⟩
  refine .bind (Y := X) ?_ ?_
  · unfold k0_part236
    iterate 8 ((try extract_lets -underBinder); refine .load h15 fun _ => ?_)
    (try extract_lets -underBinder)
    exact .pure _
  rintro ⟨_, _, _, _, _, _, _, _, _, _, _, _⟩
  refine .bind (Y := X) ?_ ?_
  · unfold k0_part237
    iterate 8 ((try extract_lets -underBinder); refine .load h15 fun _ => ?_)
    (try extract_lets -underBinder)
    exact .pure _
  rintro ⟨_, _, _, _, _, _, _, _, _, _, _, _, _, _, _⟩
  refine .bind (Y := X) ?_ ?_
  · unfold k0_part238
    iterate 4 ((try extract_lets -underBinder); refine .load h15 fun _ => ?_)
    (try extract_lets -underBinder)
    exact .pure _
  rintro ⟨_, _, _, _, _, _, _, _⟩
  refine .bind (Y := X) ?_ ?_
  · unfold k0_part239
    iterate 8 ((try extract_lets -underBinder); refine .load h15 fun _ => ?_)
    (try extract_lets -underBinder)
    exact .pure _
  rintro ⟨_, _, _, _, _, _, _, _, _, _⟩
  refine .bind (Y := X) ?_ ?_
  · unfold k0_part240
    iterate 4 ((try extract_lets -underBinder); refine .load h15 fun _ => ?_)
    (try extract_lets -underBinder)
    exact .pure _
  rintro ⟨_, _, _, _, _, _, _, _⟩
  refine .bind (Y := X) ?_ ?_
  · unfold k0_part241
    iterate 7 ((try extract_lets -underBinder); refine .load h15 fun _ => ?_)
    (try extract_lets -underBinder)
    exact .pure _
  rintro ⟨_, _, _, _, _, _, _, _, _, _⟩
  refine .bind (Y := X) ?_ ?_
  · unfold k0_part242
    iterate 8 ((try extract_lets -underBinder); refine .load h15 fun _ => ?_)
    (try extract_lets -underBinder)
    exact .pure _
  rintro ⟨_, _, _, _, _, _, _, _, _, _⟩
  refine .bind (Y := X) ?_ ?_
  · unfold k0_part243
    iterate 6 ((try extract_lets -underBinder); refine .load h15 fun _ => ?_)
    (try extract_lets -underBinder)
    exact .pure _
  rintro ⟨_, _, _, _, _, _, _, _, _, _⟩
  refine .bind (Y := X) ?_ ?_
  · unfold k0_part244
    iterate 10 ((try extract_lets -underBinder); refine .load h15 fun _ => ?_)
    (try extract_lets -underBinder)
    exact .pure _
  rintro ⟨_, _, _, _, _, _, _, _, _, _, _⟩
  refine .bind (Y := X) ?_ ?_
  · unfold k0_part245
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part246
    iterate 7 ((try extract_lets -underBinder); refine .load h15 fun _ => ?_)
    (try extract_lets -underBinder)
    exact .pure _
  rintro ⟨_, _, _, _, _, _, _, _, _, _, _, _, _⟩
  refine .bind (Y := X) ?_ ?_
  · unfold k0_part247
    iterate 7 ((try extract_lets -underBinder); refine .load h15 fun _ => ?_)
    (try extract_lets -underBinder)
    exact .pure _
  rintro ⟨_, _, _, _, _, _, _, _, _⟩
  refine .bind (Y := X) ?_ ?_
  · unfold k0_part248
    iterate 9 ((try extract_lets -underBinder); refine .load h15 fun _ => ?_)
    (try extract_lets -underBinder)
    exact .pure _
  rintro ⟨_, _, _, _, _, _, _, _, _, _, _, _⟩
  refine .bind (Y := X) ?_ ?_
  · unfold k0_part249
    iterate 10 ((try extract_lets -underBinder); refine .load h15 fun _ => ?_)
    (try extract_lets -underBinder)
    exact .pure _
  rintro ⟨_, _, _, _, _, _, _, _, _, _, _⟩
  refine .bind (Y := X) ?_ ?_
  · unfold k0_part250
    iterate 6 ((try extract_lets -underBinder); refine .load h15 fun _ => ?_)
    (try extract_lets -underBinder)
    exact .pure _
  rintro ⟨_, _, _, _, _, _, _, _, _⟩
  refine .bind (Y := X) ?_ ?_
  · unfold k0_part251
    iterate 10 ((try extract_lets -underBinder); refine .load h15 fun _ => ?_)
    (try extract_lets -underBinder)
    exact .pure _
  rintro ⟨_, _, _, _, _, _, _, _, _, _, _⟩
  (try extract_lets -underBinder)
  exact .pure _

end Cert.Kernel3Ideal
-- ==== Proof.MixerSteps.lean ====
module

public import proofs.«01_k».proof.Kernel3Ideal.P04
public import proofs.«01_k».proof.Proof.MixerStepsA

@[expose] public section

noncomputable section

namespace Cert.Kernel3Ideal

open Idealize.ShloMosaic
open Idealize.SL Idealize.SL.RA Idealize.SL.BI
open Cert.Mixer

variable {F : FTy → Type} [FloatOps F] [Facts] {defs : Defs nD τ sig (Elt F) Λ₀} {d : Dev nD}
  {X : sProp (MT nD τ sig Unit (Elt F) ℕ (Pipeline.UD sig nD τ) ℕ)}

set_option maxHeartbeats 0
variable {i : grid0.Coords} {arg2 : Memref sig .tc .smem S8 .f32} {harg2 : arg2.IsWhole} {arg3 : Memref sig .tc .vmem S1x1024x1024 .f32} {harg3 : arg3.IsWhole} {arg4 : Memref sig .tc .vmem S1x1024 .f32} {harg4 : arg4.IsWhole} {arg5 : Memref sig .tc .hbm S1024x2816 .f32} {harg5 : arg5.IsWhole} {arg6 : Memref sig .tc .vmem S1x1x1024 .i32} {harg6 : arg6.IsWhole} {arg7 : Memref sig .tc .vmem S8x256 .f32} {harg7 : arg7.IsWhole} {arg8 : Memref sig .tc .vmem S32x128 .bf16} {harg8 : arg8.IsWhole} {arg9 : Memref sig .tc .vmem S16x128 .bf16} {harg9 : arg9.IsWhole} {arg10 : Memref sig .tc .hbm S1024x1024 .f32} {harg10 : arg10.IsWhole} {arg11 : Memref sig .tc .vmem S1x512 .f32} {harg11 : arg11.IsWhole} {arg12 : Memref sig .tc .vmem S2x512 .f32} {harg12 : arg12.IsWhole} {arg13 : Memref sig .tc .vmem S1x512 .f32} {harg13 : arg13.IsWhole} {arg14 : Memref sig .tc .vmem S256x256 .bf16} {harg14 : arg14.IsWhole} {arg15 : Memref sig .tc .vmem S896x128 .f32} {harg15 : arg15.IsWhole} {arg16 : Memref sig .tc .vmem S2x256x256 .f32} {harg16 : arg16.IsWhole} {arg17 : Memref sig .tc .hbm S1024x2048 .f32} {harg17 : arg17.IsWhole} {arg18 : Memref sig .tc .hbm S1024x1024 .f32} {harg18 : arg18.IsWhole} {arg19 : Memref sig .tc .hbm S1024x1024 .f32} {harg19 : arg19.IsWhole} {arg20 : Memref sig .tc .hbm S1024x5632 .f32} {harg20 : arg20.IsWhole} {arg21 : Memref sig .tc .hbm S2816x1024 .f32} {harg21 : arg21.IsWhole} {arg22 : Memref sig .tc .vmem S1x1024x1024 .f32} {harg22 : arg22.IsWhole} {arg23 : Memref sig .tc .hbm S1024x2048 .bf16} {harg23 : arg23.IsWhole} {arg24 : Memref sig .tc .hbm S1024x1024 .bf16} {harg24 : arg24.IsWhole} {arg25 : Memref sig .tc .hbm S1024x1024 .bf16} {harg25 : arg25.IsWhole} {arg26 : Memref sig .tc .hbm S1024x5632 .bf16} {harg26 : arg26.IsWhole} {arg27 : Memref sig .tc .hbm S2816x1024 .bf16} {harg27 : arg27.IsWhole} {arg28 : Memref sig .tc .vmem S4x128x128 .f32} {harg28 : arg28.IsWhole} {arg29 : Memref sig .tc .vmem S128x1024 .bf16} {harg29 : arg29.IsWhole} {arg30 : Memref sig .tc .vmem S1024x2816 .bf16} {harg30 : arg30.IsWhole} {arg31 : Memref sig .tc .vmem S1024x1024 .bf16} {harg31 : arg31.IsWhole} {arg32 : Memref sig .tc .vmem S2x128x2816 .f32} {harg32 : arg32.IsWhole} {arg33 : Memref sig .tc .vmem S2x128x1024 .f32} {harg33 : arg33.IsWhole} {arg34 : DmaSems sig S2} {arg35 : DmaSems sig S2} {arg36 : Memref sig .tc .vmem S2x64x2048 .f32} {harg36 : arg36.IsWhole} {arg37 : Memref sig .tc .vmem S2x64x2048 .bf16} {harg37 : arg37.IsWhole} {arg38 : DmaSems sig S2} {arg39 : DmaSems sig S2} {arg40 : Memref sig .tc .vmem S2x64x1024 .f32} {harg40 : arg40.IsWhole} {arg41 : Memref sig .tc .vmem S2x64x1024 .bf16} {harg41 : arg41.IsWhole} {arg42 : DmaSems sig S2} {arg43 : DmaSems sig S2} {arg44 : Memref sig .tc .vmem S2x64x1024 .f32} {harg44 : arg44.IsWhole} {arg45 : Memref sig .tc .vmem S2x64x1024 .bf16} {harg45 : arg45.IsWhole} {arg46 : DmaSems sig S2} {arg47 : DmaSems sig S2} {arg48 : Memref sig .tc .vmem S2x64x5632 .f32} {harg48 : arg48.IsWhole} {arg49 : Memref sig .tc .vmem S2x64x5632 .bf16} {harg49 : arg49.IsWhole} {arg50 : DmaSems sig S2} {arg51 : DmaSems sig S2} {arg52 : Memref sig .tc .vmem S2x176x1024 .f32} {harg52 : arg52.IsWhole} {arg53 : Memref sig .tc .vmem S2x176x1024 .bf16} {harg53 : arg53.IsWhole} {arg54 : DmaSems sig S2} {arg55 : DmaSems sig S2}

theorem run_part428 {v9164 v9168 v9584 v9597 v9609 v9613 v9619 v9621 v9632 v9643 v9644 v9646 v9652 v9694 v10349 v10353 v10357 v10361 v10365 v10369 v10376 v10380 v10384 v10388 v10392 v10396 v10400 v10404 v10408 v10412 v10416 v10420 v10424 v10428 v10432 v10436 v10449 v10452 v10456 v10460 v10464 v10468 v10472 v10476 v10480 v10484 v10488 v10492 v10493} (h15 : Acc d X arg15 arg15.view.set) (h28 : Acc d X arg28 arg28.view.set) :
    Runs defs d X (k0_part428 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 arg35 arg36 harg36 arg37 harg37 arg38 arg39 arg40 harg40 arg41 harg41 arg42 arg43 arg44 harg44 arg45 harg45 arg46 arg47 arg48 harg48 arg49 harg49 arg50 arg51 arg52 harg52 arg53 harg53 arg54 arg55 v9164 v9168 v9584 v9597 v9609 v9613 v9619 v9621 v9632 v9643 v9644 v9646 v9652 v9694 v10349 v10353 v10357 v10361 v10365 v10369 v10376 v10380 v10384 v10388 v10392 v10396 v10400 v10404 v10408 v10412 v10416 v10420 v10424 v10428 v10432 v10436 v10449 v10452 v10456 v10460 v10464 v10468 v10472 v10476 v10480 v10484 v10488 v10492 v10493) (fun _ => X) := by
  unfold k0_part428
  refine .bind (Y := X) ?_ ?_
  · unfold k0_part252
    iterate 10 ((try extract_lets -underBinder); refine .load h15 fun _ => ?_)
    (try extract_lets -underBinder)
    exact .pure _
  rintro ⟨_, _, _, _, _, _, _, _, _, _, _⟩
  refine .bind (Y := X) ?_ ?_
  · unfold k0_part253
    iterate 10 ((try extract_lets -underBinder); refine .load h15 fun _ => ?_)
    (try extract_lets -underBinder)
    exact .pure _
  rintro ⟨_, _, _, _, _, _, _, _, _, _, _⟩
  refine .bind (Y := X) ?_ ?_
  · unfold k0_part254
    iterate 2 ((try extract_lets -underBinder); refine .load h15 fun _ => ?_)
    iterate 2 ((try extract_lets -underBinder); refine .load h28 fun _ => ?_)
    (try extract_lets -underBinder)
    exact .pure _
  rintro ⟨_, _, _, _, _, _, _, _, _⟩
  refine .bind (Y := X) ?_ ?_
  · unfold k0_part255
    (try extract_lets -underBinder); refine .store h28 ?_
    (try extract_lets -underBinder); refine .load h15 fun _ => ?_
    (try extract_lets -underBinder)
    exact .pure _
  rintro ⟨_, _, _, _, _, _⟩
  refine .bind (Y := X) ?_ ?_
  · unfold k0_part256
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part257
    iterate 5 ((try extract_lets -underBinder); refine .load h15 fun _ => ?_)
    (try extract_lets -underBinder)
    exact .pure _
  rintro ⟨_, _, _, _, _, _, _, _, _, _, _⟩
  refine .bind (Y := X) ?_ ?_
  · unfold k0_part258
    iterate 8 ((try extract_lets -underBinder); refine .load h15 fun _ => ?_)
    (try extract_lets -underBinder)
    exact .pure _
  rintro ⟨_, _, _, _, _, _, _, _, _, _⟩
  refine .bind (Y := X) ?_ ?_
  · unfold k0_part259
    iterate 8 ((try extract_lets -underBinder); refine .load h15 fun _ => ?_)
    (try extract_lets -underBinder)
    exact .pure _
  rintro ⟨_, _, _, _, _, _, _, _, _, _⟩
  refine .bind (Y := X) ?_ ?_
  · unfold k0_part260
    iterate 6 ((try extract_lets -underBinder); refine .load h15 fun _ => ?_)
    (try extract_lets -underBinder)
    exact .pure _
  rintro ⟨_, _, _, _, _, _, _, _, _, _⟩
  refine .bind (Y := X) ?_ ?_
  · unfold k0_part261
    iterate 8 ((try extract_lets -underBinder); refine .load h15 fun _ => ?_)
    (try extract_lets -underBinder)
    exact .pure _
  rintro ⟨_, _, _, _, _, _, _, _, _, _⟩
  refine .bind (Y := X) ?_ ?_
  · unfold k0_part262
    iterate 2 ((try extract_lets -underBinder); refine .load h15 fun _ => ?_)
    (try extract_lets -underBinder)
    exact .pure _
  rintro ⟨_, _, _, _, _, _, _, _⟩
  refine .bind (Y := X) ?_ ?_
  · unfold k0_part263
    iterate 8 ((try extract_lets -underBinder); refine .load h15 fun _ => ?_)
    (try extract_lets -underBinder)
    exact .pure _
  rintro ⟨_, _, _, _, _, _, _, _, _, _, _, _⟩
  refine .bind (Y := X) ?_ ?_
  · unfold k0_part264
    iterate 8 ((try extract_lets -underBinder); refine .load h15 fun _ => ?_)
    (try extract_lets -underBinder)
    exact .pure _
  rintro ⟨_, _, _, _, _, _, _, _, _, _⟩
  refine .bind (Y := X) ?_ ?_
  · unfold k0_part265
    iterate 7 ((try extract_lets -underBinder); refine .load h15 fun _ => ?_)
    (try extract_lets -underBinder)
    exact .pure _
  rintro ⟨_, _, _, _, _, _, _, _, _⟩
  refine .bind (Y := X) ?_ ?_
  · unfold k0_part266
    iterate 9 ((try extract_lets -underBinder); refine .load h15 fun _ => ?_)
    (try extract_lets -underBinder)
    exact .pure _
  rintro ⟨_, _, _, _, _, _, _, _, _, _, _⟩
  refine .bind (Y := X) ?_ ?_
  · unfold k0_part267
    iterate 10 ((try extract_lets -underBinder); refine .load h15 fun _ => ?_)
    (try extract_lets -underBinder)
    exact .pure _
  rintro ⟨_, _, _, _, _, _, _, _, _, _, _⟩
  refine .bind (Y := X) ?_ ?_
  · unfold k0_part268
    iterate 6 ((try extract_lets -underBinder); refine .load h15 fun _ => ?_)
    (try extract_lets -underBinder)
    exact .pure _
  rintro ⟨_, _, _, _, _, _, _, _, _, _, _, _⟩
  refine .bind (Y := X) ?_ ?_
  · unfold k0_part269
    iterate 9 ((try extract_lets -underBinder); refine .load h15 fun _ => ?_)
    (try extract_lets -underBinder)
    exact .pure _
  rintro ⟨_, _, _, _, _, _, _, _, _, _, _, _⟩
  refine .bind (Y := X) ?_ ?_
  · unfold k0_part270
    iterate 9 ((try extract_lets -underBinder); refine .load h15 fun _ => ?_)
    (try extract_lets -underBinder)
    exact .pure _
  rintro ⟨_, _, _, _, _, _, _, _, _, _, _⟩
  refine .bind (Y := X) ?_ ?_
  · unfold k0_part271
    iterate 10 ((try extract_lets -underBinder); refine .load h15 fun _ => ?_)
    (try extract_lets -underBinder)
    exact .pure _
  rintro ⟨_, _, _, _, _, _, _, _, _, _⟩
  refine .bind (Y := X) ?_ ?_
  · unfold k0_part272
    iterate 6 ((try extract_lets -underBinder); refine .load h15 fun _ => ?_)
    (try extract_lets -underBinder)
    exact .pure _
  rintro ⟨_, _, _, _, _, _, _, _, _⟩
  refine .bind (Y := X) ?_ ?_
  · unfold k0_part273
    iterate 10 ((try extract_lets -underBinder); refine .load h15 fun _ => ?_)
    (try extract_lets -underBinder)
    exact .pure _
  rintro ⟨_, _, _, _, _, _, _, _, _, _, _⟩
  refine .bind (Y := X) ?_ ?_
  · unfold k0_part274
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part275
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part276
    iterate 2 ((try extract_lets -underBinder); refine .load h28 fun _ => ?_)
    (try extract_lets -underBinder); refine .store h28 ?_
    (try extract_lets -underBinder)
    exact .pure _
  rintro ⟨_, _, _, _, _, _, _, _, _, _, _, _⟩
  refine .bind (Y := X) ?_ ?_
  · unfold k0_part277
    iterate 3 ((try extract_lets -underBinder); refine .load h15 fun _ => ?_)
    (try extract_lets -underBinder)
    exact .pure _
  rintro ⟨_, _, _, _, _, _, _, _⟩
  refine .bind (Y := X) ?_ ?_
  · unfold k0_part278
    iterate 10 ((try extract_lets -underBinder); refine .load h15 fun _ => ?_)
    (try extract_lets -underBinder)
    exact .pure _
  rintro ⟨_, _, _, _, _, _, _, _, _, _, _⟩
  refine .bind (Y := X) ?_ ?_
  · unfold k0_part279
    iterate 5 ((try extract_lets -underBinder); refine .load h15 fun _ => ?_)
    (try extract_lets -underBinder)
    exact .pure _
  rintro ⟨_, _, _, _, _, _, _, _⟩
  refine .bind (Y := X) ?_ ?_
  · unfold k0_part280
    iterate 8 ((try extract_lets -underBinder); refine .load h15 fun _ => ?_)
    (try extract_lets -underBinder)
    exact .pure _
  rintro ⟨_, _, _, _, _, _, _, _, _, _⟩
  refine .bind (Y := X) ?_ ?_
  · unfold k0_part281
    iterate 6 ((try extract_lets -underBinder); refine .load h15 fun _ => ?_)
    (try extract_lets -underBinder)
    exact .pure _
  rintro ⟨_, _, _, _, _, _, _⟩
  refine .bind (Y := X) ?_ ?_
  · unfold k0_part282
    iterate 8 ((try extract_lets -underBinder); refine .load h15 fun _ => ?_)
    (try extract_lets -underBinder)
    exact .pure _
  rintro ⟨_, _, _, _, _, _, _, _, _⟩
  refine .bind (Y := X) ?_ ?_
  · unfold k0_part283
    iterate 8 ((try extract_lets -underBinder); refine .load h15 fun _ => ?_)
    (try extract_lets -underBinder)
    exact .pure _
  rintro ⟨_, _, _, _, _, _, _, _, _⟩
  refine .bind (Y := X) ?_ ?_
  · unfold k0_part284
    (try extract_lets -underBinder)
    exact .pure _
  rintro ⟨_, _, _, _⟩
  refine .bind (Y := X) ?_ ?_
  · unfold k0_part285
    iterate 8 ((try extract_lets -underBinder); refine .load h15 fun _ => ?_)
    (try extract_lets -underBinder)
    exact .pure _
  rintro ⟨_, _, _, _, _, _, _, _, _, _⟩
  refine .bind (Y := X) ?_ ?_
  · unfold k0_part286
    iterate 8 ((try extract_lets -underBinder); refine .load h15 fun _ => ?_)
    (try extract_lets -underBinder)
    exact .pure _
  rintro ⟨_, _, _, _, _, _, _, _, _, _⟩
  refine .bind (Y := X) ?_ ?_
  · unfold k0_part287
    iterate 9 ((try extract_lets -underBinder); refine .load h15 fun _ => ?_)
    (try extract_lets -underBinder)
    exact .pure _
  rintro ⟨_, _, _, _, _, _, _, _, _, _, _⟩
  refine .bind (Y := X) ?_ ?_
  · unfold k0_part288
    iterate 9 ((try extract_lets -underBinder); refine .load h15 fun _ => ?_)
    (try extract_lets -underBinder)
    exact .pure _
  rintro ⟨_, _, _, _, _, _, _, _, _, _, _, _⟩
  refine .bind (Y := X) ?_ ?_
  · unfold k0_part289
    iterate 10 ((try extract_lets -underBinder); refine .load h15 fun _ => ?_)
    (try extract_lets -underBinder)
    exact .pure _
  rintro ⟨_, _, _, _, _, _, _, _, _, _, _⟩
  refine .bind (Y := X) ?_ ?_
  · unfold k0_part290
    iterate 4 ((try extract_lets -underBinder); refine .load h15 fun _ => ?_)
    (try extract_lets -underBinder)
    exact .pure _
  rintro ⟨_, _, _, _, _, _, _⟩
  refine .bind (Y := X) ?_ ?_
  · unfold k0_part291
    iterate 10 ((try extract_lets -underBinder); refine .load h15 fun _ => ?_)
    (try extract_lets -underBinder)
    exact .pure _
  rintro ⟨_, _, _, _, _, _, _, _, _, _, _⟩
  refine .bind (Y := X) ?_ ?_
  · unfold k0_part292
    iterate 10 ((try extract_lets -underBinder); refine .load h15 fun _ => ?_)
    (try extract_lets -underBinder)
    exact .pure _
  rintro ⟨_, _, _, _, _, _, _, _, _, _, _⟩
  refine .bind (Y := X) ?_ ?_
  · unfold k0_part293
    iterate 10 ((try extract_lets -underBinder); refine .load h15 fun _ => ?_)
    (try extract_lets -underBinder)
    exact .pure _
  rintro ⟨_, _, _, _, _, _, _, _, _, _, _⟩
  refine .bind (Y := X) ?_ ?_
  · unfold k0_part294
    iterate 6 ((try extract_lets -underBinder); refine .load h15 fun _ => ?_)
    (try extract_lets -underBinder)
    exact .pure _
  rintro ⟨_, _, _, _, _, _, _, _, _, _⟩
  refine .bind (Y := X) ?_ ?_
  · unfold k0_part295
    iterate 10 ((try extract_lets -underBinder); refine .load h15 fun _ => ?_)
    (try extract_lets -underBinder)
    exact .pure _
  rintro ⟨_, _, _, _, _, _, _, _, _, _, _⟩
  refine .bind (Y := X) ?_ ?_
  · unfold k0_part296
    iterate 9 ((try extract_lets -underBinder); refine .load h15 fun _ => ?_)
    (try extract_lets -underBinder)
    exact .pure _
  rintro ⟨_, _, _, _, _, _, _, _, _, _, _⟩
  refine .bind (Y := X) ?_ ?_
  · unfold k0_part297
    iterate 9 ((try extract_lets -underBinder); refine .load h15 fun _ => ?_)
    (try extract_lets -underBinder)
    exact .pure _
  rintro ⟨_, _, _, _⟩
  refine .bind (Y := X) ?_ ?_
  · unfold k0_part298
    (try extract_lets -underBinder)
    exact .pure _
  rintro ⟨_, _, _, _⟩
  refine .bind (Y := X) ?_ ?_
  · unfold k0_part299
    iterate 8 ((try extract_lets -underBinder); refine .load h15 fun _ => ?_)
    (try extract_lets -underBinder)
    exact .pure _
  rintro ⟨_, _, _, _, _, _, _, _, _, _, _, _, _, _, _⟩
  refine .bind (Y := X) ?_ ?_
  · unfold k0_part300
    iterate 8 ((try extract_lets -underBinder); refine .load h15 fun _ => ?_)
    (try extract_lets -underBinder)
    exact .pure _
  rintro ⟨_, _, _, _, _, _, _, _, _, _, _, _⟩
  refine .bind (Y := X) ?_ ?_
  · unfold k0_part301
    iterate 7 ((try extract_lets -underBinder); refine .load h15 fun _ => ?_)
    (try extract_lets -underBinder)
    exact .pure _
  rintro ⟨_, _, _, _, _, _, _, _, _, _⟩
  refine .bind (Y := X) ?_ ?_
  · unfold k0_part302
    iterate 8 ((try extract_lets -underBinder); refine .load h15 fun _ => ?_)
    (try extract_lets -underBinder)
    exact .pure _
  rintro ⟨_, _, _, _, _, _, _, _, _, _⟩
  refine .bind (Y := X) ?_ ?_
  · unfold k0_part303
    iterate 3 ((try extract_lets -underBinder); refine .load h15 fun _ => ?_)
    (try extract_lets -underBinder)
    exact .pure _
  rintro ⟨_, _, _, _, _, _, _⟩
  refine .bind (Y := X) ?_ ?_
  · unfold k0_part304
    iterate 9 ((try extract_lets -underBinder); refine .load h15 fun _ => ?_)
    (try extract_lets -underBinder)
    exact .pure _
  rintro ⟨_, _, _, _, _, _, _, _, _, _, _⟩
  refine .bind (Y := X) ?_ ?_
  · unfold k0_part305
    iterate 5 ((try extract_lets -underBinder); refine .load h15 fun _ => ?_)
    (try extract_lets -underBinder)
    exact .pure _
  rintro ⟨_, _, _, _, _, _, _, _, _, _, _, _, _, _, _, _, _, _, _, _, _, _, _, _, _, _, _, _, _, _, _, _, _, _⟩
  refine .bind (Y := X) ?_ ?_
  · unfold k0_part306
    iterate 5 ((try extract_lets -underBinder); refine .load h15 fun _ => ?_)
    (try extract_lets -underBinder)
    exact .pure _
  rintro ⟨_, _, _, _, _, _, _, _⟩
  refine .bind (Y := X) ?_ ?_
  · unfold k0_part307
    iterate 8 ((try extract_lets -underBinder); refine .load h15 fun _ => ?_)
    (try extract_lets -underBinder)
    exact .pure _
  rintro ⟨_, _, _, _, _, _, _, _, _⟩
  refine .bind (Y := X) ?_ ?_
  · unfold k0_part308
    iterate 6 ((try extract_lets -underBinder); refine .load h15 fun _ => ?_)
    (try extract_lets -underBinder)
    exact .pure _
  rintro ⟨_, _, _, _, _, _, _, _, _⟩
  refine .bind (Y := X) ?_ ?_
  · unfold k0_part309
    iterate 10 ((try extract_lets -underBinder); refine .load h15 fun _ => ?_)
    (try extract_lets -underBinder)
    exact .pure _
  rintro ⟨_, _, _, _, _, _, _, _, _, _, _⟩
  refine .bind (Y := X) ?_ ?_
  · unfold k0_part310
    iterate 10 ((try extract_lets -underBinder); refine .load h15 fun _ => ?_)
    (try extract_lets -underBinder)
    exact .pure _
  rintro ⟨_, _, _, _, _, _, _, _, _, _, _⟩
  refine .bind (Y := X) ?_ ?_
  · unfold k0_part311
    iterate 9 ((try extract_lets -underBinder); refine .load h15 fun _ => ?_)
    (try extract_lets -underBinder)
    exact .pure _
  rintro ⟨_, _, _, _, _, _, _, _, _, _, _, _⟩
  (try extract_lets -underBinder)
  exact .pure _

theorem run_part429 {v8995 v9168 v9170 v9572 v9584 v9646 v9652 v9654 v9665 v10592 v10598 v10600 v10611 v11531 v11534 v11535 v11538 v11544 v11546 v11557 v12477 v12480 v12502 v12521 v12981 v12985 v12989 v12993 v12997 v13001 v13005 v13009 v13013 v13017 v13021 v13025 v13029 v13033 v13037 v13041 v13047 v13051 v13055 v13059 v13063 v13067 v13071 v13075 v13079 v13083 v13087 v13091 v13095 v13099 v13103 v13107 v13109 v13110} (h2 : Acc d X arg2 arg2.view.set) (h3 : Acc d X arg3 arg3.view.set) (h4 : Acc d X arg4 arg4.view.set) (h6 : Acc d X arg6 arg6.view.set) (h7 : Acc d X arg7 arg7.view.set) (h8 : Acc d X arg8 arg8.view.set) (h9 : Acc d X arg9 arg9.view.set) (h11 : Acc d X arg11 arg11.view.set) (h12 : Acc d X arg12 arg12.view.set) (h13 : Acc d X arg13 arg13.view.set) (h14 : Acc d X arg14 arg14.view.set) (h15 : Acc d X arg15 arg15.view.set) (h16 : Acc d X arg16 arg16.view.set) (h22 : Acc d X arg22 arg22.view.set) (h28 : Acc d X arg28 arg28.view.set) (h29 : Acc d X arg29 arg29.view.set) (h30 : Acc d X arg30 arg30.view.set) (h31 : Acc d X arg31 arg31.view.set) :
    Runs defs d X (k0_part429 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 arg35 arg36 harg36 arg37 harg37 arg38 arg39 arg40 harg40 arg41 harg41 arg42 arg43 arg44 harg44 arg45 harg45 arg46 arg47 arg48 harg48 arg49 harg49 arg50 arg51 arg52 harg52 arg53 harg53 arg54 arg55 v8995 v9168 v9170 v9572 v9584 v9646 v9652 v9654 v9665 v10592 v10598 v10600 v10611 v11531 v11534 v11535 v11538 v11544 v11546 v11557 v12477 v12480 v12502 v12521 v12981 v12985 v12989 v12993 v12997 v13001 v13005 v13009 v13013 v13017 v13021 v13025 v13029 v13033 v13037 v13041 v13047 v13051 v13055 v13059 v13063 v13067 v13071 v13075 v13079 v13083 v13087 v13091 v13095 v13099 v13103 v13107 v13109 v13110) (fun _ => X) := by
  unfold k0_part429
  refine .bind (Y := X) ?_ ?_
  · unfold k0_part312
    iterate 5 ((try extract_lets -underBinder); refine .load h15 fun _ => ?_)
    (try extract_lets -underBinder)
    exact .pure _
  rintro ⟨_, _, _, _, _, _, _⟩
  refine .bind (Y := X) ?_ ?_
  · unfold k0_part313
    iterate 10 ((try extract_lets -underBinder); refine .load h15 fun _ => ?_)
    (try extract_lets -underBinder)
    exact .pure _
  rintro ⟨_, _, _, _, _, _, _, _, _, _⟩
  refine .bind (Y := X) ?_ ?_
  · unfold k0_part314
    iterate 9 ((try extract_lets -underBinder); refine .load h15 fun _ => ?_)
    (try extract_lets -underBinder)
    exact .pure _
  rintro ⟨_, _, _, _, _, _, _, _, _, _, _⟩
  refine .bind (Y := X) ?_ ?_
  · unfold k0_part315
    iterate 8 ((try extract_lets -underBinder); refine .load h15 fun _ => ?_)
    (try extract_lets -underBinder)
    exact .pure _
  rintro ⟨_, _, _, _, _, _, _, _, _, _, _⟩
  refine .bind (Y := X) ?_ ?_
  · unfold k0_part316
    iterate 9 ((try extract_lets -underBinder); refine .load h15 fun _ => ?_)
    (try extract_lets -underBinder)
    exact .pure _
  rintro ⟨_, _, _, _, _, _, _, _, _, _, _, _⟩
  refine .bind (Y := X) ?_ ?_
  · unfold k0_part317
    iterate 9 ((try extract_lets -underBinder); refine .load h15 fun _ => ?_)
    (try extract_lets -underBinder)
    exact .pure _
  rintro ⟨_, _, _, _, _, _, _, _, _, _, _⟩
  refine .bind (Y := X) ?_ ?_
  · unfold k0_part318
    iterate 10 ((try extract_lets -underBinder); refine .load h15 fun _ => ?_)
    (try extract_lets -underBinder)
    exact .pure _
  rintro ⟨_, _, _, _, _, _, _, _, _, _⟩
  refine .bind (Y := X) ?_ ?_
  · unfold k0_part319
    iterate 4 ((try extract_lets -underBinder); refine .load h15 fun _ => ?_)
    (try extract_lets -underBinder)
    exact .pure _
  rintro ⟨_, _, _, _⟩
  refine .bind (Y := X) ?_ ?_
  · unfold k0_part320
    (try extract_lets -underBinder); refine .load h13 fun _ => ?_
    (try extract_lets -underBinder)
    exact .pure _
  rintro _
  refine .bind (Y := X) ?_ ?_
  · unfold k0_part321
    (try extract_lets -underBinder); refine .load h3 fun _ => ?_
    (try extract_lets -underBinder); refine .load h4 fun _ => ?_
    (try extract_lets -underBinder); refine .load h7 fun _ => ?_
    (try extract_lets -underBinder); refine .load h6 fun _ => ?_
    (try extract_lets -underBinder); refine .load h8 fun _ => ?_
    (try extract_lets -underBinder)
    exact .pure _
  rintro ⟨_, _, _, _, _⟩
  refine .bind (Y := X) ?_ ?_
  · unfold k0_part322
    (try extract_lets -underBinder); refine .load h9 fun _ => ?_
    (try extract_lets -underBinder); refine .load h30 fun _ => ?_
    (try extract_lets -underBinder)
    exact .pure _
  rintro ⟨_, _, _, _, _, _, _, _⟩
  refine .bind (Y := X) ?_ ?_
  · unfold k0_part323
    (try extract_lets -underBinder); refine .load h30 fun _ => ?_
    (try extract_lets -underBinder); refine .load h29 fun _ => ?_
    (try extract_lets -underBinder)
    exact .pure _
  rintro ⟨_, _, _, _, _, _, _, _, _, _, _⟩
  refine .bind (Y := X) ?_ ?_
  · unfold k0_part324
    iterate 8 ((try extract_lets -underBinder); refine .load h29 fun _ => ?_)
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    (try extract_lets -underBinder)
    exact .pure _
  rintro ⟨_, _, _, _, _, _, _, _, _⟩
  refine .bind (Y := X) ?_ ?_
  · unfold k0_part325
    (try extract_lets -underBinder); refine .load h29 fun _ => ?_
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    (try extract_lets -underBinder); refine .load h29 fun _ => ?_
    (try extract_lets -underBinder); refine .store h29 ?_
    iterate 4 ((try extract_lets -underBinder); refine .load h30 fun _ => ?_)
    (try extract_lets -underBinder)
    exact .pure _
  rintro ⟨_, _, _, _, _⟩
  refine .bind (Y := X) ?_ ?_
  · unfold k0_part326
    (try extract_lets -underBinder); refine .load h11 fun _ => ?_
    (try extract_lets -underBinder); refine .load h31 fun _ => ?_
    (try extract_lets -underBinder); refine .load h22 fun _ => ?_
    (try extract_lets -underBinder); refine .store h22 ?_
    (try extract_lets -underBinder); refine .load h16 fun _ => ?_
    (try extract_lets -underBinder)
    exact .pure _
  rintro ⟨_, _, _, _, _, _, _, _, _⟩
  refine .bind (Y := X) ?_ ?_
  · unfold k0_part327
    iterate 4 ((try extract_lets -underBinder); refine .bind (.smemLoad h2) fun _ => ?_)
    (try extract_lets -underBinder)
    exact .pure _
  rintro ⟨_, _, _, _, _, _⟩
  refine .bind (Y := X) ?_ ?_
  · unfold k0_part328
    (try extract_lets -underBinder); refine .load h16 fun _ => ?_
    iterate 2 ((try extract_lets -underBinder); refine .bind (.smemLoad h2) fun _ => ?_)
    (try extract_lets -underBinder)
    exact .pure _
  rintro ⟨_, _, _, _, _, _, _⟩
  refine .bind (Y := X) ?_ ?_
  · unfold k0_part329
    iterate 2 ((try extract_lets -underBinder); refine .bind (.smemLoad h2) fun _ => ?_)
    (try extract_lets -underBinder)
    exact .pure _
  rintro ⟨_, _, _⟩
  refine .bind (Y := X) ?_ ?_
  · unfold k0_part330
    (try extract_lets -underBinder); refine .load h16 fun _ => ?_
    iterate 4 ((try extract_lets -underBinder); refine .bind (.smemLoad h2) fun _ => ?_)
    (try extract_lets -underBinder)
    exact .pure _
  rintro ⟨_, _, _, _, _, _⟩
  refine .bind (Y := X) ?_ ?_
  · unfold k0_part331
    (try extract_lets -underBinder); refine .load h16 fun _ => ?_
    (try extract_lets -underBinder)
    exact .pure _
  rintro ⟨_, _, _, _, _, _⟩
  refine .bind (Y := X) ?_ ?_
  · unfold k0_part332
    iterate 4 ((try extract_lets -underBinder); refine .bind (.smemLoad h2) fun _ => ?_)
    (try extract_lets -underBinder)
    exact .pure _
  rintro ⟨_, _, _, _⟩
  refine .bind (Y := X) ?_ ?_
  · unfold k0_part333
    (try extract_lets -underBinder)
    exact .pure _
  rintro _
  refine .bind (Y := X) ?_ ?_
  · unfold k0_part334
    (try extract_lets -underBinder); refine .load h12 fun _ => ?_
    (try extract_lets -underBinder); refine .load h14 fun _ => ?_
    (try extract_lets -underBinder)
    exact .pure _
  rintro ⟨_, _, _, _, _, _, _, _⟩
  refine .bind (Y := X) ?_ ?_
  · unfold k0_part335
    iterate 2 ((try extract_lets -underBinder); refine .load h28 fun _ => ?_)
    (try extract_lets -underBinder); refine .store h28 ?_
    (try extract_lets -underBinder); refine .load h28 fun _ => ?_
    (try extract_lets -underBinder)
    exact .pure _
  rintro ⟨_, _, _, _, _, _, _, _, _, _, _, _, _⟩
  refine .bind (Y := X) ?_ ?_
  · unfold k0_part336
    (try extract_lets -underBinder); refine .load h28 fun _ => ?_
    (try extract_lets -underBinder); refine .store h28 ?_
    (try extract_lets -underBinder)
    exact .pure _
  rintro ⟨_, _, _, _, _, _, _, _, _⟩
  refine .bind (Y := X) ?_ ?_
  · unfold k0_part337
    iterate 8 ((try extract_lets -underBinder); refine .load h15 fun _ => ?_)
    (try extract_lets -underBinder)
    exact .pure _
  rintro ⟨_, _, _, _, _, _, _, _, _, _, _⟩
  refine .bind (Y := X) ?_ ?_
  · unfold k0_part338
    iterate 8 ((try extract_lets -underBinder); refine .load h15 fun _ => ?_)
    (try extract_lets -underBinder)
    exact .pure _
  rintro ⟨_, _, _, _, _, _, _, _, _, _⟩
  refine .bind (Y := X) ?_ ?_
  · unfold k0_part339
    iterate 8 ((try extract_lets -underBinder); refine .load h15 fun _ => ?_)
    (try extract_lets -underBinder)
    exact .pure _
  rintro ⟨_, _, _, _, _, _, _, _, _, _⟩
  refine .bind (Y := X) ?_ ?_
  · unfold k0_part340
    iterate 8 ((try extract_lets -underBinder); refine .load h15 fun _ => ?_)
    (try extract_lets -underBinder)
    exact .pure _
  rintro ⟨_, _, _, _, _, _, _, _, _, _, _⟩
  refine .bind (Y := X) ?_ ?_
  · unfold k0_part341
    iterate 4 ((try extract_lets -underBinder); refine .load h15 fun _ => ?_)
    (try extract_lets -underBinder)
    exact .pure _
  rintro ⟨_, _, _, _, _, _, _, _⟩
  refine .bind (Y := X) ?_ ?_
  · unfold k0_part342
    iterate 8 ((try extract_lets -underBinder); refine .load h15 fun _ => ?_)
    (try extract_lets -underBinder)
    exact .pure _
  rintro ⟨_, _, _, _, _, _, _, _, _, _⟩
  refine .bind (Y := X) ?_ ?_
  · unfold k0_part343
    iterate 4 ((try extract_lets -underBinder); refine .load h15 fun _ => ?_)
    (try extract_lets -underBinder)
    exact .pure _
  rintro ⟨_, _, _, _, _, _, _, _⟩
  refine .bind (Y := X) ?_ ?_
  · unfold k0_part344
    iterate 6 ((try extract_lets -underBinder); refine .load h15 fun _ => ?_)
    (try extract_lets -underBinder)
    exact .pure _
  rintro ⟨_, _, _, _, _, _, _, _, _, _⟩
  refine .bind (Y := X) ?_ ?_
  · unfold k0_part345
    iterate 8 ((try extract_lets -underBinder); refine .load h15 fun _ => ?_)
    (try extract_lets -underBinder)
    exact .pure _
  rintro ⟨_, _, _, _, _, _, _, _, _, _⟩
  refine .bind (Y := X) ?_ ?_
  · unfold k0_part346
    iterate 6 ((try extract_lets -underBinder); refine .load h15 fun _ => ?_)
    (try extract_lets -underBinder)
    exact .pure _
  rintro ⟨_, _, _, _, _, _, _, _, _⟩
  refine .bind (Y := X) ?_ ?_
  · unfold k0_part347
    iterate 10 ((try extract_lets -underBinder); refine .load h15 fun _ => ?_)
    (try extract_lets -underBinder)
    exact .pure _
  rintro ⟨_, _, _, _, _, _, _, _, _, _, _⟩
  refine .bind (Y := X) ?_ ?_
  · unfold k0_part348
    iterate 10 ((try extract_lets -underBinder); refine .load h15 fun _ => ?_)
    (try extract_lets -underBinder)
    exact .pure _
  rintro ⟨_, _, _, _, _, _, _, _, _, _, _⟩
  refine .bind (Y := X) ?_ ?_
  · unfold k0_part349
    iterate 8 ((try extract_lets -underBinder); refine .load h15 fun _ => ?_)
    (try extract_lets -underBinder)
    exact .pure _
  rintro ⟨_, _, _, _, _, _, _, _, _, _, _⟩
  refine .bind (Y := X) ?_ ?_
  · unfold k0_part350
    iterate 6 ((try extract_lets -underBinder); refine .load h15 fun _ => ?_)
    (try extract_lets -underBinder)
    exact .pure _
  rintro ⟨_, _, _, _, _, _, _, _, _⟩
  refine .bind (Y := X) ?_ ?_
  · unfold k0_part351
    iterate 10 ((try extract_lets -underBinder); refine .load h15 fun _ => ?_)
    (try extract_lets -underBinder)
    exact .pure _
  rintro ⟨_, _, _, _, _, _, _, _, _, _, _⟩
  refine .bind (Y := X) ?_ ?_
  · unfold k0_part352
    iterate 9 ((try extract_lets -underBinder); refine .load h15 fun _ => ?_)
    (try extract_lets -underBinder)
    exact .pure _
  rintro ⟨_, _, _, _, _, _, _, _, _, _, _⟩
  refine .bind (Y := X) ?_ ?_
  · unfold k0_part353
    iterate 7 ((try extract_lets -underBinder); refine .load h15 fun _ => ?_)
    (try extract_lets -underBinder)
    exact .pure _
  rintro ⟨_, _, _, _, _, _, _, _, _, _, _⟩
  refine .bind (Y := X) ?_ ?_
  · unfold k0_part354
    iterate 10 ((try extract_lets -underBinder); refine .load h15 fun _ => ?_)
    (try extract_lets -underBinder)
    exact .pure _
  rintro ⟨_, _, _, _, _, _, _, _, _, _, _⟩
  refine .bind (Y := X) ?_ ?_
  · unfold k0_part355
    iterate 9 ((try extract_lets -underBinder); refine .load h15 fun _ => ?_)
    (try extract_lets -underBinder)
    exact .pure _
  rintro ⟨_, _, _, _, _, _, _, _, _, _, _, _⟩
  refine .bind (Y := X) ?_ ?_
  · unfold k0_part356
    iterate 10 ((try extract_lets -underBinder); refine .load h15 fun _ => ?_)
    (try extract_lets -underBinder)
    exact .pure _
  rintro ⟨_, _, _, _, _, _, _, _, _, _, _⟩
  refine .bind (Y := X) ?_ ?_
  · unfold k0_part357
    iterate 3 ((try extract_lets -underBinder); refine .load h15 fun _ => ?_)
    (try extract_lets -underBinder); refine .load h28 fun _ => ?_
    (try extract_lets -underBinder)
    exact .pure _
  rintro ⟨_, _, _, _, _, _, _, _, _⟩
  refine .bind (Y := X) ?_ ?_
  · unfold k0_part358
    (try extract_lets -underBinder); refine .load h28 fun _ => ?_
    (try extract_lets -underBinder); refine .store h28 ?_
    (try extract_lets -underBinder)
    exact .pure _
  rintro ⟨_, _, _, _, _⟩
  refine .bind (Y := X) ?_ ?_
  · unfold k0_part359
    iterate 10 ((try extract_lets -underBinder); refine .load h15 fun _ => ?_)
    (try extract_lets -underBinder)
    exact .pure _
  rintro ⟨_, _, _, _, _, _, _, _, _, _, _⟩
  refine .bind (Y := X) ?_ ?_
  · unfold k0_part360
    iterate 6 ((try extract_lets -underBinder); refine .load h15 fun _ => ?_)
    (try extract_lets -underBinder)
    exact .pure _
  rintro ⟨_, _, _, _, _, _, _, _, _, _, _, _, _, _, _, _⟩
  refine .bind (Y := X) ?_ ?_
  · unfold k0_part361
    iterate 8 ((try extract_lets -underBinder); refine .load h15 fun _ => ?_)
    (try extract_lets -underBinder)
    exact .pure _
  rintro ⟨_, _, _, _, _, _, _, _, _, _⟩
  refine .bind (Y := X) ?_ ?_
  · unfold k0_part362
    iterate 8 ((try extract_lets -underBinder); refine .load h15 fun _ => ?_)
    (try extract_lets -underBinder)
    exact .pure _
  rintro ⟨_, _, _, _, _, _, _, _, _, _, _, _, _, _, _, _, _, _, _, _, _, _⟩
  refine .bind (Y := X) ?_ ?_
  · unfold k0_part363
    iterate 5 ((try extract_lets -underBinder); refine .load h15 fun _ => ?_)
    (try extract_lets -underBinder)
    exact .pure _
  rintro ⟨_, _, _, _, _, _, _, _, _⟩
  refine .bind (Y := X) ?_ ?_
  · unfold k0_part364
    iterate 9 ((try extract_lets -underBinder); refine .load h15 fun _ => ?_)
    (try extract_lets -underBinder)
    exact .pure _
  rintro ⟨_, _, _, _, _, _, _, _, _, _, _⟩
  refine .bind (Y := X) ?_ ?_
  · unfold k0_part365
    iterate 2 ((try extract_lets -underBinder); refine .load h15 fun _ => ?_)
    (try extract_lets -underBinder)
    exact .pure _
  rintro ⟨_, _, _, _, _⟩
  refine .bind (Y := X) ?_ ?_
  · unfold k0_part366
    iterate 8 ((try extract_lets -underBinder); refine .load h15 fun _ => ?_)
    (try extract_lets -underBinder)
    exact .pure _
  rintro ⟨_, _, _, _, _, _, _, _⟩
  refine .bind (Y := X) ?_ ?_
  · unfold k0_part367
    iterate 8 ((try extract_lets -underBinder); refine .load h15 fun _ => ?_)
    (try extract_lets -underBinder)
    exact .pure _
  rintro ⟨_, _, _, _, _, _, _, _⟩
  refine .bind (Y := X) ?_ ?_
  · unfold k0_part368
    iterate 6 ((try extract_lets -underBinder); refine .load h15 fun _ => ?_)
    (try extract_lets -underBinder)
    exact .pure _
  rintro ⟨_, _, _, _, _, _, _, _, _⟩
  refine .bind (Y := X) ?_ ?_
  · unfold k0_part369
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part370
    iterate 10 ((try extract_lets -underBinder); refine .load h15 fun _ => ?_)
    (try extract_lets -underBinder)
    exact .pure _
  rintro ⟨_, _, _, _, _, _, _, _, _, _, _⟩
  refine .bind (Y := X) ?_ ?_
  · unfold k0_part371
    iterate 6 ((try extract_lets -underBinder); refine .load h15 fun _ => ?_)
    (try extract_lets -underBinder)
    exact .pure _
  rintro ⟨_, _, _, _, _, _, _, _, _, _, _, _, _⟩
  (try extract_lets -underBinder)
  exact .pure _

theorem run_part430 {v13664 v13668 v13670 v14084 v14097 v14109 v14113 v14119 v14121 v14132 v14143 v14146 v14152 v14154 v14165 v15085 v15088 v15089 v15090 v15092 v15098 v15100 v15111 v15140 v15600 v15604 v15608 v15612 v15616 v15620 v15624 v15628 v15632 v15636 v15640 v15644 v15648 v15652 v15656 v15660 v15666 v15670 v15674 v15678 v15682 v15686 v15690 v15694 v15698 v15702 v15706 v15710 v15714 v15718 v15722 v15726 v15731 v15734 v15735 v15737 v15739 v15741} (h13 : Acc d X arg13 arg13.view.set) (h15 : Acc d X arg15 arg15.view.set) (h28 : Acc d X arg28 arg28.view.set) :
    Runs defs d X (k0_part430 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 arg35 arg36 harg36 arg37 harg37 arg38 arg39 arg40 harg40 arg41 harg41 arg42 arg43 arg44 harg44 arg45 harg45 arg46 arg47 arg48 harg48 arg49 harg49 arg50 arg51 arg52 harg52 arg53 harg53 arg54 arg55 v13664 v13668 v13670 v14084 v14097 v14109 v14113 v14119 v14121 v14132 v14143 v14146 v14152 v14154 v14165 v15085 v15088 v15089 v15090 v15092 v15098 v15100 v15111 v15140 v15600 v15604 v15608 v15612 v15616 v15620 v15624 v15628 v15632 v15636 v15640 v15644 v15648 v15652 v15656 v15660 v15666 v15670 v15674 v15678 v15682 v15686 v15690 v15694 v15698 v15702 v15706 v15710 v15714 v15718 v15722 v15726 v15731 v15734 v15735 v15737 v15739 v15741) (fun _ => X) := by
  unfold k0_part430
  refine .bind (Y := X) ?_ ?_
  · unfold k0_part372
    iterate 8 ((try extract_lets -underBinder); refine .load h15 fun _ => ?_)
    (try extract_lets -underBinder)
    exact .pure _
  rintro ⟨_, _, _, _, _, _, _, _, _, _⟩
  refine .bind (Y := X) ?_ ?_
  · unfold k0_part373
    iterate 9 ((try extract_lets -underBinder); refine .load h15 fun _ => ?_)
    (try extract_lets -underBinder)
    exact .pure _
  rintro ⟨_, _, _, _, _, _, _, _, _, _, _⟩
  refine .bind (Y := X) ?_ ?_
  · unfold k0_part374
    iterate 10 ((try extract_lets -underBinder); refine .load h15 fun _ => ?_)
    (try extract_lets -underBinder)
    exact .pure _
  rintro ⟨_, _, _, _, _, _, _, _, _, _, _⟩
  refine .bind (Y := X) ?_ ?_
  · unfold k0_part375
    iterate 7 ((try extract_lets -underBinder); refine .load h15 fun _ => ?_)
    (try extract_lets -underBinder)
    exact .pure _
  rintro ⟨_, _, _, _, _, _, _, _, _, _⟩
  refine .bind (Y := X) ?_ ?_
  · unfold k0_part376
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part377
    iterate 9 ((try extract_lets -underBinder); refine .load h15 fun _ => ?_)
    (try extract_lets -underBinder)
    exact .pure _
  rintro ⟨_, _, _, _, _, _, _, _, _, _, _⟩
  refine .bind (Y := X) ?_ ?_
  · unfold k0_part378
    iterate 10 ((try extract_lets -underBinder); refine .load h15 fun _ => ?_)
    (try extract_lets -underBinder)
    exact .pure _
  rintro ⟨_, _, _, _, _, _, _, _, _, _⟩
  refine .bind (Y := X) ?_ ?_
  · unfold k0_part379
    (try extract_lets -underBinder); refine .load h15 fun _ => ?_
    iterate 2 ((try extract_lets -underBinder); refine .load h28 fun _ => ?_)
    (try extract_lets -underBinder); refine .store h28 ?_
    (try extract_lets -underBinder)
    exact .pure _
  rintro ⟨_, _, _, _, _, _, _, _, _, _, _⟩
  refine .bind (Y := X) ?_ ?_
  · unfold k0_part380
    iterate 3 ((try extract_lets -underBinder); refine .load h15 fun _ => ?_)
    (try extract_lets -underBinder)
    exact .pure _
  rintro ⟨_, _, _, _, _, _, _, _⟩
  refine .bind (Y := X) ?_ ?_
  · unfold k0_part381
    iterate 9 ((try extract_lets -underBinder); refine .load h15 fun _ => ?_)
    (try extract_lets -underBinder)
    exact .pure _
  rintro ⟨_, _, _, _, _, _, _, _, _, _, _, _⟩
  refine .bind (Y := X) ?_ ?_
  · unfold k0_part382
    iterate 5 ((try extract_lets -underBinder); refine .load h15 fun _ => ?_)
    (try extract_lets -underBinder)
    exact .pure _
  rintro ⟨_, _, _, _, _, _, _, _, _⟩
  refine .bind (Y := X) ?_ ?_
  · unfold k0_part383
    iterate 9 ((try extract_lets -underBinder); refine .load h15 fun _ => ?_)
    (try extract_lets -underBinder)
    exact .pure _
  rintro ⟨_, _, _, _, _, _, _, _, _, _, _⟩
  refine .bind (Y := X) ?_ ?_
  · unfold k0_part384
    iterate 6 ((try extract_lets -underBinder); refine .load h15 fun _ => ?_)
    (try extract_lets -underBinder)
    exact .pure _
  rintro ⟨_, _, _, _, _, _, _, _, _, _⟩
  refine .bind (Y := X) ?_ ?_
  · unfold k0_part385
    iterate 7 ((try extract_lets -underBinder); refine .load h15 fun _ => ?_)
    (try extract_lets -underBinder)
    exact .pure _
  rintro ⟨_, _, _, _, _, _, _, _, _, _⟩
  refine .bind (Y := X) ?_ ?_
  · unfold k0_part386
    iterate 8 ((try extract_lets -underBinder); refine .load h15 fun _ => ?_)
    (try extract_lets -underBinder)
    exact .pure _
  rintro ⟨_, _, _, _, _, _, _, _, _⟩
  refine .bind (Y := X) ?_ ?_
  · unfold k0_part387
    (try extract_lets -underBinder); refine .load h15 fun _ => ?_
    (try extract_lets -underBinder)
    exact .pure _
  rintro ⟨_, _, _, _, _⟩
  refine .bind (Y := X) ?_ ?_
  · unfold k0_part388
    iterate 8 ((try extract_lets -underBinder); refine .load h15 fun _ => ?_)
    (try extract_lets -underBinder)
    exact .pure _
  rintro ⟨_, _, _, _, _, _, _, _, _, _⟩
  refine .bind (Y := X) ?_ ?_
  · unfold k0_part389
    iterate 8 ((try extract_lets -underBinder); refine .load h15 fun _ => ?_)
    (try extract_lets -underBinder)
    exact .pure _
  rintro ⟨_, _, _, _, _, _, _, _, _, _⟩
  refine .bind (Y := X) ?_ ?_
  · unfold k0_part390
    iterate 8 ((try extract_lets -underBinder); refine .load h15 fun _ => ?_)
    (try extract_lets -underBinder)
    exact .pure _
  rintro ⟨_, _, _, _, _, _, _, _, _, _, _⟩
  refine .bind (Y := X) ?_ ?_
  · unfold k0_part391
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part392
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part393
    iterate 4 ((try extract_lets -underBinder); refine .load h15 fun _ => ?_)
    (try extract_lets -underBinder)
    exact .pure _
  rintro ⟨_, _, _, _, _, _, _, _, _⟩
  refine .bind (Y := X) ?_ ?_
  · unfold k0_part394
    iterate 10 ((try extract_lets -underBinder); refine .load h15 fun _ => ?_)
    (try extract_lets -underBinder)
    exact .pure _
  rintro ⟨_, _, _, _, _, _, _, _, _, _, _⟩
  refine .bind (Y := X) ?_ ?_
  · unfold k0_part395
    iterate 9 ((try extract_lets -underBinder); refine .load h15 fun _ => ?_)
    (try extract_lets -underBinder)
    exact .pure _
  rintro ⟨_, _, _, _, _, _, _, _, _, _, _, _⟩
  refine .bind (Y := X) ?_ ?_
  · unfold k0_part396
    iterate 10 ((try extract_lets -underBinder); refine .load h15 fun _ => ?_)
    (try extract_lets -underBinder)
    exact .pure _
  rintro ⟨_, _, _, _, _, _, _, _, _, _, _⟩
  refine .bind (Y := X) ?_ ?_
  · unfold k0_part397
    iterate 6 ((try extract_lets -underBinder); refine .load h15 fun _ => ?_)
    (try extract_lets -underBinder)
    exact .pure _
  rintro ⟨_, _, _, _, _, _, _, _, _⟩
  refine .bind (Y := X) ?_ ?_
  · unfold k0_part398
    iterate 10 ((try extract_lets -underBinder); refine .load h15 fun _ => ?_)
    (try extract_lets -underBinder)
    exact .pure _
  rintro ⟨_, _, _, _, _, _, _, _, _, _, _⟩
  refine .bind (Y := X) ?_ ?_
  · unfold k0_part399
    iterate 10 ((try extract_lets -underBinder); refine .load h15 fun _ => ?_)
    (try extract_lets -underBinder)
    exact .pure _
  rintro ⟨_, _, _, _, _, _, _, _, _, _, _⟩
  refine .bind (Y := X) ?_ ?_
  · unfold k0_part400
    iterate 9 ((try extract_lets -underBinder); refine .load h15 fun _ => ?_)
    (try extract_lets -underBinder)
    exact .pure _
  rintro ⟨_, _⟩
  refine .bind (Y := X) ?_ ?_
  · unfold k0_part401
    (try extract_lets -underBinder)
    exact .pure _
  rintro ⟨_, _, _, _, _, _⟩
  refine .bind (Y := X) ?_ ?_
  · unfold k0_part402
    iterate 8 ((try extract_lets -underBinder); refine .load h15 fun _ => ?_)
    (try extract_lets -underBinder)
    exact .pure _
  rintro ⟨_, _, _, _, _, _, _, _, _, _, _⟩
  refine .bind (Y := X) ?_ ?_
  · unfold k0_part403
    iterate 8 ((try extract_lets -underBinder); refine .load h15 fun _ => ?_)
    (try extract_lets -underBinder)
    exact .pure _
  rintro ⟨_, _, _, _, _, _, _, _, _, _, _, _, _, _, _, _⟩
  refine .bind (Y := X) ?_ ?_
  · unfold k0_part404
    iterate 6 ((try extract_lets -underBinder); refine .load h15 fun _ => ?_)
    (try extract_lets -underBinder)
    exact .pure _
  rintro ⟨_, _, _, _, _, _, _, _, _, _⟩
  refine .bind (Y := X) ?_ ?_
  · unfold k0_part405
    iterate 9 ((try extract_lets -underBinder); refine .load h15 fun _ => ?_)
    (try extract_lets -underBinder)
    exact .pure _
  rintro ⟨_, _, _, _, _, _, _, _, _, _, _⟩
  refine .bind (Y := X) ?_ ?_
  · unfold k0_part406
    iterate 3 ((try extract_lets -underBinder); refine .load h15 fun _ => ?_)
    (try extract_lets -underBinder)
    exact .pure _
  rintro ⟨_, _, _, _, _, _, _, _⟩
  refine .bind (Y := X) ?_ ?_
  · unfold k0_part407
    iterate 8 ((try extract_lets -underBinder); refine .load h15 fun _ => ?_)
    (try extract_lets -underBinder)
    exact .pure _
  rintro ⟨_, _, _, _, _, _, _, _, _, _⟩
  refine .bind (Y := X) ?_ ?_
  · unfold k0_part408
    iterate 6 ((try extract_lets -underBinder); refine .load h15 fun _ => ?_)
    (try extract_lets -underBinder)
    exact .pure _
  rintro ⟨_, _, _, _, _, _, _, _, _, _, _, _, _, _, _, _, _, _, _, _, _, _, _, _, _, _, _, _, _, _⟩
  refine .bind (Y := X) ?_ ?_
  · unfold k0_part409
    iterate 4 ((try extract_lets -underBinder); refine .load h15 fun _ => ?_)
    (try extract_lets -underBinder)
    exact .pure _
  rintro ⟨_, _, _, _, _, _, _, _⟩
  refine .bind (Y := X) ?_ ?_
  · unfold k0_part410
    iterate 8 ((try extract_lets -underBinder); refine .load h15 fun _ => ?_)
    (try extract_lets -underBinder)
    exact .pure _
  rintro ⟨_, _, _, _, _, _, _, _, _, _⟩
  refine .bind (Y := X) ?_ ?_
  · unfold k0_part411
    iterate 7 ((try extract_lets -underBinder); refine .load h15 fun _ => ?_)
    (try extract_lets -underBinder)
    exact .pure _
  rintro ⟨_, _, _, _, _, _, _, _, _, _⟩
  refine .bind (Y := X) ?_ ?_
  · unfold k0_part412
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part413
    iterate 9 ((try extract_lets -underBinder); refine .load h15 fun _ => ?_)
    (try extract_lets -underBinder)
    exact .pure _
  rintro ⟨_, _, _, _, _, _, _, _, _, _, _, _⟩
  refine .bind (Y := X) ?_ ?_
  · unfold k0_part414
    iterate 10 ((try extract_lets -underBinder); refine .load h15 fun _ => ?_)
    (try extract_lets -underBinder)
    exact .pure _
  rintro ⟨_, _, _, _, _, _, _, _, _, _, _⟩
  refine .bind (Y := X) ?_ ?_
  · unfold k0_part415
    iterate 4 ((try extract_lets -underBinder); refine .load h15 fun _ => ?_)
    (try extract_lets -underBinder)
    exact .pure _
  rintro ⟨_, _, _, _, _, _, _⟩
  refine .bind (Y := X) ?_ ?_
  · unfold k0_part416
    iterate 10 ((try extract_lets -underBinder); refine .load h15 fun _ => ?_)
    (try extract_lets -underBinder)
    exact .pure _
  rintro ⟨_, _, _, _, _, _, _, _, _, _, _⟩
  refine .bind (Y := X) ?_ ?_
  · unfold k0_part417
    iterate 10 ((try extract_lets -underBinder); refine .load h15 fun _ => ?_)
    (try extract_lets -underBinder)
    exact .pure _
  rintro ⟨_, _, _, _, _, _, _, _, _, _, _, _⟩
  refine .bind (Y := X) ?_ ?_
  · unfold k0_part418
    iterate 8 ((try extract_lets -underBinder); refine .load h15 fun _ => ?_)
    (try extract_lets -underBinder)
    exact .pure _
  rintro ⟨_, _, _, _, _, _, _, _, _, _, _⟩
  refine .bind (Y := X) ?_ ?_
  · unfold k0_part419
    iterate 8 ((try extract_lets -underBinder); refine .load h15 fun _ => ?_)
    (try extract_lets -underBinder)
    exact .pure _
  rintro ⟨_, _, _, _, _, _, _, _, _, _⟩
  refine .bind (Y := X) ?_ ?_
  · unfold k0_part420
    iterate 9 ((try extract_lets -underBinder); refine .load h15 fun _ => ?_)
    (try extract_lets -underBinder)
    exact .pure _
  rintro ⟨_, _, _, _, _, _, _, _, _, _, _⟩
  refine .bind (Y := X) ?_ ?_
  · unfold k0_part421
    iterate 10 ((try extract_lets -underBinder); refine .load h15 fun _ => ?_)
    (try extract_lets -underBinder)
    exact .pure _
  rintro ⟨_, _, _, _, _, _, _, _, _, _, _⟩
  refine .bind (Y := X) ?_ ?_
  · unfold k0_part422
    iterate 5 ((try extract_lets -underBinder); refine .load h15 fun _ => ?_)
    (try extract_lets -underBinder)
    exact .pure _
  rintro ⟨_, _, _, _⟩
  refine .bind (Y := X) ?_ ?_
  · unfold k0_part423
    (try extract_lets -underBinder)
    exact .pure _
  rintro _
  (try extract_lets -underBinder)
  refine .load h13 fun _ => ?_
  (try extract_lets -underBinder)
  exact .pure _

/-- The whole body, from what its copies leave. -/
theorem run_mixer {Z : sProp (MT nD τ sig Unit (Elt F) ℕ (Pipeline.UD sig nD τ) ℕ)} (hp : Runs defs d Z (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 arg35 arg36 harg36 arg37 harg37 arg38 arg39 arg40 harg40 arg41 harg41 arg42 arg43 arg44 harg44 arg45 harg45 arg46 arg47 arg48 harg48 arg49 harg49 arg50 arg51 arg52 harg52 arg53 harg53 arg54 arg55) fun _ => X)
    (h2 : Acc d X arg2 arg2.view.set) (h3 : Acc d X arg3 arg3.view.set) (h4 : Acc d X arg4 arg4.view.set) (h6 : Acc d X arg6 arg6.view.set) (h7 : Acc d X arg7 arg7.view.set) (h8 : Acc d X arg8 arg8.view.set) (h9 : Acc d X arg9 arg9.view.set) (h11 : Acc d X arg11 arg11.view.set) (h12 : Acc d X arg12 arg12.view.set) (h13 : Acc d X arg13 arg13.view.set) (h14 : Acc d X arg14 arg14.view.set) (h15 : Acc d X arg15 arg15.view.set) (h16 : Acc d X arg16 arg16.view.set) (h22 : Acc d X arg22 arg22.view.set) (h28 : Acc d X arg28 arg28.view.set) (h29 : Acc d X arg29 arg29.view.set) (h30 : Acc d X arg30 arg30.view.set) (h31 : Acc d X arg31 arg31.view.set) :
    Runs defs d Z (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 arg35 arg36 harg36 arg37 harg37 arg38 arg39 arg40 harg40 arg41 harg41 arg42 arg43 arg44 harg44 arg45 harg45 arg46 arg47 arg48 harg48 arg49 harg49 arg50 arg51 arg52 harg52 arg53 harg53 arg54 arg55) (fun _ => X) := by
  unfold cc0_mixer
  refine .bind (Y := X) (run_part424 hp h2 h6 h8 h9 h12 h14 h15 h16 h28 h29 h30) ?_
  rintro ⟨_, _, _, _, _, _, _, _, _, _, _, _, _, _, _, _, _, _, _, _, _, _, _, _, _, _, _, _, _, _, _, _, _, _, _, _, _, _, _⟩
  refine .bind (Y := X) (run_part425 h2 h3 h4 h6 h7 h8 h9 h11 h12 h13 h14 h15 h16 h22 h28 h29 h30 h31) ?_
  rintro ⟨_, _, _, _, _, _, _, _, _, _, _, _, _, _, _, _, _, _, _, _, _, _, _, _, _, _, _, _, _, _, _, _⟩
  refine .bind (Y := X) (run_part426 h15 h28) ?_
  rintro ⟨_, _, _, _, _, _, _, _, _, _, _, _, _, _, _, _, _, _, _, _, _, _, _, _, _, _, _, _, _, _, _, _, _, _, _, _, _, _, _, _, _, _, _, _, _, _, _, _, _, _⟩
  refine .bind (Y := X) (run_part427 h2 h3 h4 h6 h7 h8 h9 h11 h12 h13 h14 h15 h16 h22 h28 h29 h30 h31) ?_
  rintro ⟨_, _, _, _, _, _, _, _, _, _, _, _, _, _, _, _, _, _, _, _, _, _, _, _, _, _, _, _, _, _, _, _, _, _, _, _, _, _, _, _, _, _, _, _, _, _, _, _, _, _, _, _, _, _⟩
  refine .bind (Y := X) (run_part428 h15 h28) ?_
  rintro ⟨_, _, _, _, _, _, _, _, _, _, _, _, _, _, _, _, _, _, _, _, _, _, _, _, _, _, _, _, _, _, _, _, _, _, _, _, _, _, _, _, _, _, _, _, _, _, _, _, _⟩
  refine .bind (Y := X) (run_part429 h2 h3 h4 h6 h7 h8 h9 h11 h12 h13 h14 h15 h16 h22 h28 h29 h30 h31) ?_
  rintro ⟨_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _⟩
  refine .bind (Y := X) (run_part430 h13 h15 h28) ?_
  rintro ⟨_, _, _⟩
  (try extract_lets -underBinder)
  refine .load h11 fun _ => ?_
  (try extract_lets -underBinder)
  refine .load h31 fun _ => ?_
  (try extract_lets -underBinder)
  refine .load h22 fun _ => ?_
  (try extract_lets -underBinder)
  refine .store h22 ?_
  exact .pure _

end Cert.Kernel3Ideal
-- ==== Proof.MixerTable.lean ====
module

public import proofs.«01_k».proof.Kernel3Ideal.P04
public import proofs.«01_k».proof.Proof.MixerKeeps

/-!
The mixer's copies. Twelve pairs of channels, two slots each: the projections' two weights read in
chunks, and five rings that read a weight's blocks, cast them and write them back.
-/

@[expose] public section

noncomputable section

namespace Cert.Mixer

open Idealize.ShloMosaic
open Idealize.SL Idealize.SL.RA Idealize.SL.BI
open Idealize.SL.BI (sProp Storable)
open scoped Idealize.SL.BI
open Idealize.SL.BI.BIBase Idealize.SL.BI.Laws Idealize.SL.ProofMode Idealize.SL.Sem

section Sets

variable {sig : RefSig} {sp : Space} {s : Shape} {e : EltTy}

/-- The elements of a shape whose coordinate on axis `a` is sent to `v` by `f`. -/
def rows (s : Shape) (a : Fin s.rank) (f : ℕ → ℕ) (v : ℕ) : Finset s.Idx := Finset.univ.filter fun ix => f (ix a).val = v

theorem unit_rows {a : Fin s.rank} {f : ℕ → ℕ} {v : ℕ} {off size : Fin s.rank → ℕ} {inb : ∀ i, off i + size i ≤ s.size i}
    (h : ∀ r, off a ≤ r → r < off a + size a → f r = v) : (Rect.unit (s := s) off size inb).set ⊆ rows s a f v := fun _ hi =>
  Finset.mem_filter.2 ⟨Finset.mem_univ _, h _ (Rect.mem_set_unit.1 hi a).1 (Rect.mem_set_unit.1 hi a).2⟩

theorem slice_sub {m : Memref sig .tc sp s e} {r : Rect s} {h} {S : Finset s.Idx} (hr : r.set ⊆ S) :
    (m.slice r h).view.set ⊆ m.view.setOn S := by
  rw [show (m.slice r h).view.set = (m.view.slice r).set from rfl, View.set_slice]
  exact Finset.map_subset_map.2 hr

theorem squeeze_sub {m : Memref sig .tc sp s e} {r : Rect s} {h} {s' : Shape} {sq} {S : Finset s.Idx} (hr : r.set ⊆ S) :
    ((m.slice r h).squeeze s' sq).view.set ⊆ m.view.setOn S := by
  rw [show ((m.slice r h).squeeze s' sq).view.set = (m.slice r h).view.set from View.set_reshape _ _]
  exact slice_sub hr

theorem access_sub {m : Memref sig .tc sp s e} {r : Rect s} {Mk} {S : Finset s.Idx} (hr : r.set ⊆ S) :
    (m.access r).setOn Mk ⊆ m.view.setOn S :=
  (View.setOn_subset_set _ _).trans (by
    rw [show (m.access r).set = (m.view.slice r).set from rfl, View.set_slice]
    exact Finset.map_subset_map.2 hr)

theorem load_sub {m : Memref sig .tc sp s e} {r : Rect s} {S : Finset s.Idx} (hr : r.set ⊆ S) :
    m.view.setOn r.toLoadRect.set ⊆ m.view.setOn S :=
  Finset.map_subset_map.2 hr

end Sets

variable {nD : Nat} {τ : Topo} {sig : RefSig} {Val : EltTy → Type}

/-- The channel that copies from the rows `SA` of one memref to the rows `SB` of another. -/
def chan (d : Dev nD) {sp sp' : Space} {s s' : Shape} {e e' : EltTy} (mA : Memref sig .tc sp s e) (SA : Finset s.Idx)
    (mB : Memref sig .tc sp' s' e') (SB : Finset s'.Idx) (q : PosShare TreeShare) (φ : Buf Val (mA.view.loc (d.tc : Thread nD τ)) → Prop)
    (N : ℕ) : Chan nD τ sig Val :=
  ⟨mA.view.loc d.tc, mB.view.loc d.tc, mA.view.setOn SA, mB.view.setOn SB, q, φ, N⟩

/-- The share of a source that a slot holds. -/
def half : ℕ → PosShare TreeShare
  | 0 => fullShare.left
  | _ => fullShare.right

section Copies

variable {d : Dev nD} {sp sp' : Space} {s s' : Shape} {e e' : EltTy} {mA : Memref sig .tc sp s e} {mB : Memref sig .tc sp' s' e'}
  {SA : Finset s.Idx} {SB : Finset s'.Idx} {q : PosShare TreeShare} {φ : Buf Val (mA.view.loc (d.tc : Thread nD τ)) → Prop} {N : ℕ}
  {rA : Rect s} {hA} {rB : Rect s'} {hB} {s'' : Shape}

theorem copy_in {sq : rB.shape.Squeezes s''} (hrA : rA.set ⊆ SA) (hrB : rB.set ⊆ SB) :
    CanCopy d (Pair (chan d mA SA mB SB q φ N)) (mA.slice rA hA) ((mB.slice rB hB).squeeze s'' sq) :=
  CanCopy.pair (src := mA.slice rA hA) (dst := (mB.slice rB hB).squeeze s'' sq) (SA := mA.view.setOn SA) (SB := mB.view.setOn SB)
    (slice_sub hrA) (squeeze_sub hrB)

theorem copy_out {sq : rA.shape.Squeezes s''} (hrA : rA.set ⊆ SA) (hrB : rB.set ⊆ SB) :
    CanCopy d (Pair (chan d mA SA mB SB q φ N)) ((mA.slice rA hA).squeeze s'' sq) (mB.slice rB hB) :=
  CanCopy.pair (src := (mA.slice rA hA).squeeze s'' sq) (dst := mB.slice rB hB) (SA := mA.view.setOn SA) (SB := mB.view.setOn SB)
    (squeeze_sub hrA) (slice_sub hrB)

end Copies

end Cert.Mixer

namespace Cert.Kernel3Ideal

open Idealize.ShloMosaic
open Idealize.SL Idealize.SL.RA Idealize.SL.BI
open Idealize.SL.Sem
open Cert.Mixer

variable {F : FTy → Type}

/-- A weight's blocks to a slot of a two-slot buffer. -/
def inChan (d : Dev nD) {sA sB : Shape} (mA : Memref sig .tc .hbm sA .f32) (φ : Buf (Elt F) (mA.view.loc (d.tc : Thread nD τ)) → Prop)
    (mB : Memref sig .tc .vmem sB .f32) (a : Fin sB.rank) (N s : ℕ) : Chan nD τ sig (Elt F) :=
  chan d mA Finset.univ mB (rows sB a id s) (half s) φ N

/-- A slot of a two-slot buffer to every second block of `B` rows of a result. -/
def outChan (d : Dev nD) {sA sB : Shape} (mA : Memref sig .tc .vmem sA .bf16) (a : Fin sA.rank)
    (mB : Memref sig .tc .hbm sB .bf16) (b : Fin sB.rank) (B N s : ℕ) : Chan nD τ sig (Elt F) :=
  chan d mA (rows sA a id s) mB (rows sB b (fun r => r / B % 2) s) fullShare (fun _ => True) N

/-- The channels, by pair and slot; `V` is what the weights hold. -/
def tab (d : Dev nD) (V : (b : Ref sig .tc) → Buf (Elt F) ((d.tc : Thread nD τ).loc b)) : ℕ → ℕ → Chan nD τ sig (Elt F)
  | 0, s => inChan d (Memref.whole main_v7 : Memref sig .tc .hbm S1024x2816 .f32) (fun f => f = V main_v7)
      (Memref.whole cc0_scratch4 : Memref sig .tc .vmem S2x128x2816 .f32) 0 (cc0_scratch4.dmaCredit S128x2816 .f32) s
  | 1, s => inChan d (Memref.whole main_v8 : Memref sig .tc .hbm S1024x1024 .f32) (fun f => f = V main_v8)
      (Memref.whole cc0_scratch5 : Memref sig .tc .vmem S2x128x1024 .f32) 0 (cc0_scratch5.dmaCredit S128x1024 .f32) s
  | 2, s => inChan d (Memref.whole main_v0 : Memref sig .tc .hbm S1024x2048 .f32) (fun f => f = V main_v0)
      (Memref.whole cc0_scratch8 : Memref sig .tc .vmem S2x64x2048 .f32) 0 (cc0_scratch8.dmaCredit S64x2048 .f32) s
  | 3, s => outChan d (Memref.whole cc0_scratch9 : Memref sig .tc .vmem S2x64x2048 .bf16) 0
      (Memref.whole main_v23_1 : Memref sig .tc .hbm S1024x2048 .bf16) 0 64 (main_v23_1.dmaCredit S64x2048 .bf16) s
  | 4, s => inChan d (Memref.whole main_v1 : Memref sig .tc .hbm S1024x1024 .f32) (fun f => f = V main_v1)
      (Memref.whole cc0_scratch12 : Memref sig .tc .vmem S2x64x1024 .f32) 0 (cc0_scratch12.dmaCredit S64x1024 .f32) s
  | 5, s => outChan d (Memref.whole cc0_scratch13 : Memref sig .tc .vmem S2x64x1024 .bf16) 0
      (Memref.whole main_v23_2 : Memref sig .tc .hbm S1024x1024 .bf16) 0 64 (main_v23_2.dmaCredit S64x1024 .bf16) s
  | 6, s => inChan d (Memref.whole main_v2 : Memref sig .tc .hbm S1024x1024 .f32) (fun f => f = V main_v2)
      (Memref.whole cc0_scratch16 : Memref sig .tc .vmem S2x64x1024 .f32) 0 (cc0_scratch16.dmaCredit S64x1024 .f32) s
  | 7, s => outChan d (Memref.whole cc0_scratch17 : Memref sig .tc .vmem S2x64x1024 .bf16) 0
      (Memref.whole main_v23_3 : Memref sig .tc .hbm S1024x1024 .bf16) 0 64 (main_v23_3.dmaCredit S64x1024 .bf16) s
  | 8, s => inChan d (Memref.whole main_v3 : Memref sig .tc .hbm S1024x5632 .f32) (fun f => f = V main_v3)
      (Memref.whole cc0_scratch20 : Memref sig .tc .vmem S2x64x5632 .f32) 0 (cc0_scratch20.dmaCredit S64x5632 .f32) s
  | 9, s => outChan d (Memref.whole cc0_scratch21 : Memref sig .tc .vmem S2x64x5632 .bf16) 0
      (Memref.whole main_v23_4 : Memref sig .tc .hbm S1024x5632 .bf16) 0 64 (main_v23_4.dmaCredit S64x5632 .bf16) s
  | 10, s => inChan d (Memref.whole main_v4 : Memref sig .tc .hbm S2816x1024 .f32) (fun f => f = V main_v4)
      (Memref.whole cc0_scratch24 : Memref sig .tc .vmem S2x176x1024 .f32) 0 (cc0_scratch24.dmaCredit S176x1024 .f32) s
  | _, s => outChan d (Memref.whole cc0_scratch25 : Memref sig .tc .vmem S2x176x1024 .bf16) 0
      (Memref.whole main_v23_5 : Memref sig .tc .hbm S2816x1024 .bf16) 0 176 (main_v23_5.dmaCredit S176x1024 .bf16) s

/-- The channel of a pair's slot. -/
def chn (k s : ℕ) : Fin 24 := Fin.ofNat 24 (2 * k + s)

/-- The channels by their number, and their counters. -/
def tabs (d : Dev nD) (V : (b : Ref sig .tc) → Buf (Elt F) ((d.tc : Thread nD τ).loc b)) (ch : Fin 24) : Chan nD τ sig (Elt F) :=
  tab d V (ch.val / 2) (ch.val % 2)

def cell (ch : Fin 24) : SemLoc sig := .dma (⟨17 + ch.val, by have := ch.isLt; show 17 + ch.val < 41; omega⟩ : DmaSem sig)

theorem chn_val {k s : ℕ} (hk : k < 12) (hs : s < 2) : (chn k s).val = 2 * k + s := Nat.mod_eq_of_lt (by omega)

variable {d : Dev nD} {V : (b : Ref sig .tc) → Buf (Elt F) ((d.tc : Thread nD τ).loc b)}

theorem tabs_chn {k s : ℕ} (hk : k < 12) (hs : s < 2) : tabs d V (chn k s) = tab d V k s := by
  unfold tabs
  rw [chn_val hk hs, show (2 * k + s) / 2 = k by omega, show (2 * k + s) % 2 = s by omega]

theorem sem_at {k : ℕ} (hk : k < 12) {hb : 17 + 2 * k + S2.numel ≤ 41} {off : Fin 1 → ℕ} {inb} {sq} :
    (SemLoc.dma ((((SemArray.consecutive (17 + 2 * k) S2 hb).slice (Rect.unit (s := S2) off S1.size inb)).squeeze S_ sq).sem : DmaSem sig) : SemLoc sig)
      = cell (chn k (off 0)) := by
  have h : off 0 + 1 ≤ 2 := inb 0
  unfold cell
  congr 1
  apply Fin.ext
  show _ = 17 + (chn k (off 0)).val
  rw [chn_val hk (by omega), ← Nat.add_assoc]
  refine congrArg (17 + 2 * k + ·) ((Shape.rowMajor_val_one _).trans ?_)
  rw [Rect.emb_apply]
  generalize Shape.reshapeEquiv _ _ = x
  have hx : (x 0).val < 1 := (x 0).isLt
  show off 0 + 1 * (x 0).val = off 0
  omega

theorem tab_pos (k s : ℕ) : 0 < (tab d V k s).N := by
  have P : ∀ (b : Ref sig .tc) (sh : Shape) (e : EltTy), 0 < sh.numel → 0 < b.dmaCredit sh e := fun b sh e h => sig.dmaCredit_pos _ _ _ _ _ h
  match k with
  | 0 => exact P cc0_scratch4 S128x2816 .f32 (by decide)
  | 1 => exact P cc0_scratch5 S128x1024 .f32 (by decide)
  | 2 => exact P cc0_scratch8 S64x2048 .f32 (by decide)
  | 3 => exact P main_v23_1 S64x2048 .bf16 (by decide)
  | 4 => exact P cc0_scratch12 S64x1024 .f32 (by decide)
  | 5 => exact P main_v23_2 S64x1024 .bf16 (by decide)
  | 6 => exact P cc0_scratch16 S64x1024 .f32 (by decide)
  | 7 => exact P main_v23_3 S64x1024 .bf16 (by decide)
  | 8 => exact P cc0_scratch20 S64x5632 .f32 (by decide)
  | 9 => exact P main_v23_4 S64x5632 .bf16 (by decide)
  | 10 => exact P cc0_scratch24 S176x1024 .f32 (by decide)
  | k + 11 => exact P main_v23_5 S176x1024 .bf16 (by decide)

section Rules

variable {d : Dev nD} {V : (b : Ref sig .tc) → Buf (Elt F) ((d.tc : Thread nD τ).loc b)} {Λ : Labels} {defs : Defs nD τ sig (Elt F) Λ}
  {α : Type} {Q : α → sProp (MT nD τ sig Unit (Elt F) ℕ (Pipeline.UD sig nD τ) ℕ)} {R : sProp (MT nD τ sig Unit (Elt F) ℕ (Pipeline.UD sig nD τ) ℕ)}
  {σ : Fin 24 → Bool}

variable (d V R) in
/-- Between two of the body's steps: what it holds apart from the channels, and the channels in flight where `σ` says so. -/
abbrev Mx (σ : Fin 24 → Bool) : sProp (MT nD τ sig Unit (Elt F) ℕ (Pipeline.UD sig nD τ) ℕ) := St d cell (tabs d V) R σ

theorem half_way {B s x r : ℕ} (hx : x % B = 0 ∧ x / B % 2 = s) (h1 : x ≤ r) (h2 : r < x + B) : r / B % 2 = s := by
  obtain ⟨q, rfl⟩ := Nat.dvd_of_mod_eq_zero hx.1
  have hB : 0 < B := by omega
  have h := hx.2
  rw [Nat.mul_div_cancel_left q hB] at h
  rw [Nat.div_eq_of_lt_le (k := q) (by rw [Nat.mul_comm]; exact h1) (by rw [Nat.succ_mul, Nat.mul_comm q B]; exact h2)]
  exact h

section

variable {sA sB s' : Shape} {mA : Memref sig .tc .hbm sA .f32} {φ : Buf (Elt F) (mA.view.loc (d.tc : Thread nD τ)) → Prop}
  {mB : Memref sig .tc .vmem sB .f32} {a : Fin sB.rank} {N : ℕ}

/-- A block's read begins. -/
theorem issue_in (k : ℕ) (hk : k < 12) (hT : ∀ s, tab d V k s = inChan d mA φ mB a N s) {sa : DmaSems sig S2}
    (hsa : ∃ hb, sa = SemArray.consecutive (17 + 2 * k) S2 hb) {o : Fin 1 → ℕ} {inb sq} {rA : Rect sA} {hA} {oB szB : Fin sB.rank → ℕ} {inbB hB}
    {sqB : (Rect.unit (s := sB) oB szB inbB).shape.Squeezes rA.shape} {h1 h2 h3} {c : PUnit → Prog (TpuEff nD τ sig (Elt F) Λ .tc) α}
    (hsz : szB a = 1) (ho : oB a = o 0)
    (hN : ((mB.slice (Rect.unit oB szB inbB) hB).squeeze rA.shape sqB).view.dmaCredit = N) (hσ : σ (chn k (o 0)) = false)
    (hc : Runs defs d (Mx d V R (put σ (chn k (o 0)) true)) (c ⟨⟩) Q) :
    Runs defs d (Mx d V R σ) (Prog.lift (.enqueueDmaAs (mA.slice rA hA) (DmaTarget.here (nD := nD) (p := (.tc : Proc τ))
      ((mB.slice (Rect.unit oB szB inbB) hB).squeeze rA.shape sqB)) .same (.dma ((sa.slice (Rect.unit (s := S2) o S1.size inb)).squeeze S_ sq).sem) h1 h2 h3) >>= c) Q := by
  obtain ⟨hb, rfl⟩ := hsa
  have hs : o 0 < 2 := by have : o 0 + 1 ≤ 2 := inb 0; omega
  have e : tabs d V (chn k (o 0)) = inChan d mA φ mB a N (o 0) := (tabs_chn hk hs).trans (hT _)
  refine .issue (chn k (o 0)) (lt_of_lt_of_eq (tab_pos k (o 0)) (congrArg Chan.N (tabs_chn hk hs).symm)) (sem_at hk) (Eq.trans hN (congrArg Chan.N e.symm)) hσ ?_ hc
  · rw [e]
    exact copy_in (Finset.subset_univ _) (unit_rows fun r h1 h2 => by rw [hsz] at h2; show r = _; omega)

/-- A slot whose read has ended is read. -/
theorem load_in (k : ℕ) (hk : k < 12) (hT : ∀ s, tab d V k s = inChan d mA φ mB a N s) (s : ℕ) (hs : s < 2) (hσ : σ (chn k s) = false)
    {oB szB : Fin sB.rank → ℕ} {inbB hl} {c : _ → Prog (TpuEff nD τ sig (Elt F) Λ .tc) α} (hsz : szB a = 1) (ho : oB a = s)
    (hc : ∀ x, Runs defs d (Mx d V R σ) (c x) Q) :
    Runs defs d (Mx d V R σ) (Prog.lift (.load (cs := .vmem) mB (Rect.unit oB szB inbB).toLoadRect hl) >>= c) Q := by
  refine .loadOn (cs := .vmem) (m := mB) (mB.view.setOn (rows sB a id s)) (St.accOn (chn k s) hσ ?_)
    (load_sub (unit_rows fun r h1 h2 => by rw [hsz] at h2; show r = _; omega)) hc
  rw [tabs_chn hk hs, hT]
  exact Acc.pairDst

end

section

variable {sA sB s' : Shape} {mA : Memref sig .tc .vmem sA .bf16} {mB : Memref sig .tc .hbm sB .bf16} {a : Fin sA.rank} {b : Fin sB.rank} {B N : ℕ}

/-- A block's write begins. -/
theorem issue_out (k : ℕ) (hk : k < 12) (hT : ∀ s, tab d V k s = outChan d mA a mB b B N s) {sa : DmaSems sig S2}
    (hsa : ∃ hb, sa = SemArray.consecutive (17 + 2 * k) S2 hb) {o : Fin 1 → ℕ} {inb sq} {oA szA : Fin sA.rank → ℕ} {inbA hA}
    {oB szB : Fin sB.rank → ℕ} {inbB hB} {sqA : (Rect.unit (s := sA) oA szA inbA).shape.Squeezes (Rect.unit (s := sB) oB szB inbB).shape} {h1 h2 h3}
    {c : PUnit → Prog (TpuEff nD τ sig (Elt F) Λ .tc) α}
    (hszA : szA a = 1) (hoA : oA a = o 0) (hszB : szB b = B) (hoB : oB b % B = 0 ∧ oB b / B % 2 = o 0)
    (hN : (mB.slice (Rect.unit oB szB inbB) hB).view.dmaCredit = N) (hσ : σ (chn k (o 0)) = false)
    (hc : Runs defs d (Mx d V R (put σ (chn k (o 0)) true)) (c ⟨⟩) Q) :
    Runs defs d (Mx d V R σ) (Prog.lift (.enqueueDmaAs ((mA.slice (Rect.unit oA szA inbA) hA).squeeze (Rect.unit (s := sB) oB szB inbB).shape sqA)
      (DmaTarget.here (nD := nD) (p := (.tc : Proc τ)) (mB.slice (Rect.unit oB szB inbB) hB)) .same
      (.dma ((sa.slice (Rect.unit (s := S2) o S1.size inb)).squeeze S_ sq).sem) h1 h2 h3) >>= c) Q := by
  obtain ⟨hb, rfl⟩ := hsa
  have hs : o 0 < 2 := by have : o 0 + 1 ≤ 2 := inb 0; omega
  have e : tabs d V (chn k (o 0)) = outChan d mA a mB b B N (o 0) := (tabs_chn hk hs).trans (hT _)
  refine .issue (chn k (o 0)) (lt_of_lt_of_eq (tab_pos k (o 0)) (congrArg Chan.N (tabs_chn hk hs).symm)) (sem_at hk) (Eq.trans hN (congrArg Chan.N e.symm)) hσ ?_ hc
  · rw [e]
    exact copy_out (unit_rows fun r h1 h2 => by rw [hszA] at h2; show r = _; omega) (unit_rows fun r h1 h2 => half_way hoB h1 (hszB ▸ h2))

/-- A slot whose write has ended is read. -/
theorem load_out (k : ℕ) (hk : k < 12) (hT : ∀ s, tab d V k s = outChan d mA a mB b B N s) (s : ℕ) (hs : s < 2) (hσ : σ (chn k s) = false)
    {oA szA : Fin sA.rank → ℕ} {inbA hl} {c : _ → Prog (TpuEff nD τ sig (Elt F) Λ .tc) α} (hsz : szA a = 1) (ho : oA a = s)
    (hc : ∀ x, Runs defs d (Mx d V R σ) (c x) Q) :
    Runs defs d (Mx d V R σ) (Prog.lift (.load (cs := .vmem) mA (Rect.unit oA szA inbA).toLoadRect hl) >>= c) Q := by
  refine .loadOn (cs := .vmem) (m := mA) (mA.view.setOn (rows sA a id s)) (St.accOn (chn k s) hσ ?_)
    (load_sub (unit_rows fun r h1 h2 => by rw [hsz] at h2; show r = _; omega)) hc
  rw [tabs_chn hk hs, hT]
  exact Acc.pairSrc

/-- A slot whose write has ended is written. -/
theorem store_out (k : ℕ) (hk : k < 12) (hT : ∀ s, tab d V k s = outChan d mA a mB b B N s) (s : ℕ) (hs : s < 2) (hσ : σ (chn k s) = false)
    {oA szA : Fin sA.rank → ℕ} {inbA w Mk h1 h2} {c : _ → Prog (TpuEff nD τ sig (Elt F) Λ .tc) α} (hsz : szA a = 1) (ho : oA a = s)
    (hc : Runs defs d (Mx d V R σ) (c ⟨⟩) Q) :
    Runs defs d (Mx d V R σ) (Prog.lift (.store (cs := .vmem) mA (Rect.unit oA szA inbA) w Mk h1 h2) >>= c) Q := by
  refine .storeOn (cs := .vmem) (m := mA) (mA.view.setOn (rows sA a id s)) (St.accOn (chn k s) hσ ?_)
    (access_sub (unit_rows fun r h1 h2 => by rw [hsz] at h2; show r = _; omega)) hc
  rw [tabs_chn hk hs, hT]
  exact Acc.pairSrc

end

/-- A copy in flight is waited for. -/
theorem wait_on (k : ℕ) (hk : k < 12) {N : ℕ} (hT : ∀ s, (tab d V k s).N = N) {sa : DmaSems sig S2}
    (hsa : ∃ hb, sa = SemArray.consecutive (17 + 2 * k) S2 hb) {o : Fin 1 → ℕ} {inb sq} {sp sp' : Space} {s s' : Shape} {e e' : EltTy}
    {src : Memref sig .tc sp' s' e'} {dst : Memref sig .tc sp s e} {h1 h2} {c : PUnit → Prog (TpuEff nD τ sig (Elt F) Λ .tc) α}
    (hN : dst.view.dmaCredit = N) (hσ : σ (chn k (o 0)) = true) (hc : Runs defs d (Mx d V R (put σ (chn k (o 0)) false)) (c ⟨⟩) Q) :
    Runs defs d (Mx d V R σ) (Prog.lift (.waitDma2 ((sa.slice (Rect.unit (s := S2) o S1.size inb)).squeeze S_ sq).sem src dst h1 h2) >>= c) Q := by
  obtain ⟨hb, rfl⟩ := hsa
  have hs : o 0 < 2 := by have : o 0 + 1 ≤ 2 := inb 0; omega
  refine .wait (chn k (o 0)) (sem_at hk) ?_ hσ hc
  rw [tabs_chn hk hs, hT]
  exact hN

end Rules

end Cert.Kernel3Ideal
-- ==== Proof.MixerBody.lean ====
module

public import proofs.«01_k».proof.Proof.MixerTable

/-!
The mixer's copies as its body starts and waits for them: the first point's chunks of the
projections' weights, then at every point the five rings.
-/

@[expose] public section

set_option maxHeartbeats 0

noncomputable section

namespace Cert.Kernel3Ideal

open Idealize.ShloMosaic
open Idealize.SL Idealize.SL.RA Idealize.SL.BI
open Idealize.SL.BI (sProp Storable)
open scoped Idealize.SL.BI
open Idealize.SL.BI.BIBase Idealize.SL.BI.Laws Idealize.SL.ProofMode Idealize.SL.Sem
open Cert.Mixer

variable {F : FTy → Type} [FloatOps F] [Facts]
  {d : Dev nD} {V : (b : Ref sig .tc) → Buf (Elt F) ((d.tc : Thread nD τ).loc b)} {defs : Defs nD τ sig (Elt F) Λ₀}
  {R : sProp (MT nD τ sig Unit (Elt F) ℕ (Pipeline.UD sig nD τ) ℕ)} {σ : Fin 24 → Bool} {i : grid0.Coords}
  {arg2 : Memref sig .tc .smem S8 .f32} {harg2 : arg2.IsWhole} {arg3 : Memref sig .tc .vmem S1x1024x1024 .f32} {harg3 : arg3.IsWhole} {arg4 : Memref sig .tc .vmem S1x1024 .f32} {harg4 : arg4.IsWhole} {arg6 : Memref sig .tc .vmem S1x1x1024 .i32} {harg6 : arg6.IsWhole} {arg7 : Memref sig .tc .vmem S8x256 .f32} {harg7 : arg7.IsWhole} {arg8 : Memref sig .tc .vmem S32x128 .bf16} {harg8 : arg8.IsWhole} {arg9 : Memref sig .tc .vmem S16x128 .bf16} {harg9 : arg9.IsWhole} {arg11 : Memref sig .tc .vmem S1x512 .f32} {harg11 : arg11.IsWhole} {arg12 : Memref sig .tc .vmem S2x512 .f32} {harg12 : arg12.IsWhole} {arg13 : Memref sig .tc .vmem S1x512 .f32} {harg13 : arg13.IsWhole} {arg14 : Memref sig .tc .vmem S256x256 .bf16} {harg14 : arg14.IsWhole} {arg15 : Memref sig .tc .vmem S896x128 .f32} {harg15 : arg15.IsWhole} {arg16 : Memref sig .tc .vmem S2x256x256 .f32} {harg16 : arg16.IsWhole} {arg22 : Memref sig .tc .vmem S1x1024x1024 .f32} {harg22 : arg22.IsWhole} {arg28 : Memref sig .tc .vmem S4x128x128 .f32} {harg28 : arg28.IsWhole} {arg29 : Memref sig .tc .vmem S128x1024 .bf16} {harg29 : arg29.IsWhole} {arg30 : Memref sig .tc .vmem S1024x2816 .bf16} {harg30 : arg30.IsWhole} {arg31 : Memref sig .tc .vmem S1024x1024 .bf16} {harg31 : arg31.IsWhole}

theorem _root_.Cert.Mixer.Acc.mx {sp : Space} {s : Shape} {e : EltTy} {m : Memref sig .tc sp s e}
    {A : Finset (Idx (m.view.loc (d.tc : Thread nD τ)))} (h : Acc d R m A) : Acc d (Mx d V R σ) m A := St.acc h

/-- The channels with the first four in the given states. -/
def own (σ : Fin 24 → Bool) (a b c e : Bool) : Fin 24 → Bool := fun z =>
  match z.val with
  | 0 => a
  | 1 => b
  | 2 => c
  | 3 => e
  | _ => σ z

section

variable {a b c e x : Bool}

theorem put_own0 : put (own σ a b c e) (chn 0 0) x = own σ x b c e := by
  funext ⟨z, hz⟩
  match z with
  | 0 | 1 | 2 | 3 => rfl
  | z + 4 => exact if_neg fun h => absurd (congrArg Fin.val h) (by show z + 4 ≠ 0; omega)

theorem put_own1 : put (own σ a b c e) (chn 0 1) x = own σ a x c e := by
  funext ⟨z, hz⟩
  match z with
  | 0 | 1 | 2 | 3 => rfl
  | z + 4 => exact if_neg fun h => absurd (congrArg Fin.val h) (by show z + 4 ≠ 1; omega)

theorem put_own2 : put (own σ a b c e) (chn 1 0) x = own σ a b x e := by
  funext ⟨z, hz⟩
  match z with
  | 0 | 1 | 2 | 3 => rfl
  | z + 4 => exact if_neg fun h => absurd (congrArg Fin.val h) (by show z + 4 ≠ 2; omega)

theorem put_own3 : put (own σ a b c e) (chn 1 1) x = own σ a b c x := by
  funext ⟨z, hz⟩
  match z with
  | 0 | 1 | 2 | 3 => rfl
  | z + 4 => exact if_neg fun h => absurd (congrArg Fin.val h) (by show z + 4 ≠ 3; omega)

theorem own_free (h : ∀ c : Fin 24, c.val < 4 → σ c = false) : own σ false false false false = σ := by
  funext ⟨z, hz⟩
  match z with
  | 0 => exact (h _ (show (0 : ℕ) < 4 by decide)).symm
  | 1 => exact (h _ (show (1 : ℕ) < 4 by decide)).symm
  | 2 => exact (h _ (show (2 : ℕ) < 4 by decide)).symm
  | 3 => exact (h _ (show (3 : ℕ) < 4 by decide)).symm
  | z + 4 => rfl

end

/-- The channels in flight as point `t` starts: of a ring the block of the point on its way in, and the two blocks before it on their way out. -/
def phase (t : ℕ) (c : Fin 24) : Bool :=
  if c.val < 4 ∨ t = 0 ∨ 15 < t then false
  else if c.val / 2 % 2 = 0 then decide (c.val % 2 = t % 2)
  else decide (2 ≤ t ∨ c.val % 2 ≠ t % 2)

def q0 (i : grid0.Coords) : Fin 24 → Bool := phase (2 * (i 0).val + (i 1).val)

/-- The point as the body computes it, and whether it is the first. -/
def pt (i : grid0.Coords) : BitVec 32 := Scalar.addi (Scalar.muli (BitVec.ofNat 32 (i 0).val) 2#32) (BitVec.ofNat 32 (i 1).val)

def first (i : grid0.Coords) : BitVec 1 := Scalar.cmpi .ne (Scalar.extui (Scalar.cmpi .eq (Scalar.divsi (pt i) 1#32) 0#32) : BitVec 32) 0#32

theorem run_part1 (h30 : Acc d R arg30 arg30.view.set) (h31 : Acc d R arg31 arg31.view.set) :
    Runs defs d (Mx d V R (own σ false false false false)) (k0_part1 i arg2 harg2 arg3 harg3 arg4 harg4 (Memref.whole main_v7) (Memref.isWhole_whole _) arg6 harg6 arg7 harg7 arg8 harg8 arg9 harg9 (Memref.whole main_v8) (Memref.isWhole_whole _) arg11 harg11 arg12 harg12 arg13 harg13 arg14 harg14 arg15 harg15 arg16 harg16 (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) arg22 harg22 (Memref.whole main_v23_1) (Memref.isWhole_whole _) (Memref.whole main_v23_2) (Memref.isWhole_whole _) (Memref.whole main_v23_3) (Memref.isWhole_whole _) (Memref.whole main_v23_4) (Memref.isWhole_whole _) (Memref.whole main_v23_5) (Memref.isWhole_whole _) arg28 harg28 arg29 harg29 arg30 harg30 arg31 harg31 (Memref.whole cc0_scratch4) (Memref.isWhole_whole _) (Memref.whole cc0_scratch5) (Memref.isWhole_whole _) cc0_scratch6 cc0_scratch7 (Memref.whole cc0_scratch8) (Memref.isWhole_whole _) (Memref.whole cc0_scratch9) (Memref.isWhole_whole _) cc0_scratch10 cc0_scratch11 (Memref.whole cc0_scratch12) (Memref.isWhole_whole _) (Memref.whole cc0_scratch13) (Memref.isWhole_whole _) cc0_scratch14 cc0_scratch15 (Memref.whole cc0_scratch16) (Memref.isWhole_whole _) (Memref.whole cc0_scratch17) (Memref.isWhole_whole _) cc0_scratch18 cc0_scratch19 (Memref.whole cc0_scratch20) (Memref.isWhole_whole _) (Memref.whole cc0_scratch21) (Memref.isWhole_whole _) cc0_scratch22 cc0_scratch23 (Memref.whole cc0_scratch24) (Memref.isWhole_whole _) (Memref.whole cc0_scratch25) (Memref.isWhole_whole _) cc0_scratch26 cc0_scratch27) (fun _ => Mx d V R (own σ true true false false)) := by
  unfold k0_part1
  (try extract_lets -underBinder)
  refine issue_in 0 (by decide) (fun _ => rfl) ⟨_, rfl⟩ rfl rfl rfl rfl (.conv (congrArg (Mx d V R) put_own0) ?_)
  (try extract_lets -underBinder)
  refine issue_in 0 (by decide) (fun _ => rfl) ⟨_, rfl⟩ rfl rfl rfl rfl (.conv (congrArg (Mx d V R) put_own1) ?_)
  (try extract_lets -underBinder)
  refine wait_on 0 (N := (cc0_scratch4.dmaCredit S128x2816 .f32)) (by decide) (fun _ => rfl) ⟨_, rfl⟩ rfl rfl (.conv (congrArg (Mx d V R) put_own0) ?_)
  (try extract_lets -underBinder)
  refine load_in 0 (by decide) (fun _ => rfl) 0 (by decide) rfl rfl rfl fun _ => ?_
  (try extract_lets -underBinder)
  refine .load h30.mx fun _ => ?_
  (try extract_lets -underBinder)
  refine .store h30.mx ?_
  (try extract_lets -underBinder)
  refine issue_in 0 (by decide) (fun _ => rfl) ⟨_, rfl⟩ rfl rfl rfl rfl (.conv (congrArg (Mx d V R) put_own0) ?_)
  (try extract_lets -underBinder)
  exact .pure _

theorem run_part2 (h30 : Acc d R arg30 arg30.view.set) (h31 : Acc d R arg31 arg31.view.set) :
    Runs defs d (Mx d V R (own σ true true false false)) (k0_part2 i arg2 harg2 arg3 harg3 arg4 harg4 (Memref.whole main_v7) (Memref.isWhole_whole _) arg6 harg6 arg7 harg7 arg8 harg8 arg9 harg9 (Memref.whole main_v8) (Memref.isWhole_whole _) arg11 harg11 arg12 harg12 arg13 harg13 arg14 harg14 arg15 harg15 arg16 harg16 (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) arg22 harg22 (Memref.whole main_v23_1) (Memref.isWhole_whole _) (Memref.whole main_v23_2) (Memref.isWhole_whole _) (Memref.whole main_v23_3) (Memref.isWhole_whole _) (Memref.whole main_v23_4) (Memref.isWhole_whole _) (Memref.whole main_v23_5) (Memref.isWhole_whole _) arg28 harg28 arg29 harg29 arg30 harg30 arg31 harg31 (Memref.whole cc0_scratch4) (Memref.isWhole_whole _) (Memref.whole cc0_scratch5) (Memref.isWhole_whole _) cc0_scratch6 cc0_scratch7 (Memref.whole cc0_scratch8) (Memref.isWhole_whole _) (Memref.whole cc0_scratch9) (Memref.isWhole_whole _) cc0_scratch10 cc0_scratch11 (Memref.whole cc0_scratch12) (Memref.isWhole_whole _) (Memref.whole cc0_scratch13) (Memref.isWhole_whole _) cc0_scratch14 cc0_scratch15 (Memref.whole cc0_scratch16) (Memref.isWhole_whole _) (Memref.whole cc0_scratch17) (Memref.isWhole_whole _) cc0_scratch18 cc0_scratch19 (Memref.whole cc0_scratch20) (Memref.isWhole_whole _) (Memref.whole cc0_scratch21) (Memref.isWhole_whole _) cc0_scratch22 cc0_scratch23 (Memref.whole cc0_scratch24) (Memref.isWhole_whole _) (Memref.whole cc0_scratch25) (Memref.isWhole_whole _) cc0_scratch26 cc0_scratch27) (fun _ => Mx d V R (own σ false true false false)) := by
  unfold k0_part2
  (try extract_lets -underBinder)
  refine wait_on 0 (N := (cc0_scratch4.dmaCredit S128x2816 .f32)) (by decide) (fun _ => rfl) ⟨_, rfl⟩ rfl rfl (.conv (congrArg (Mx d V R) put_own1) ?_)
  (try extract_lets -underBinder)
  refine load_in 0 (by decide) (fun _ => rfl) 1 (by decide) rfl rfl rfl fun _ => ?_
  (try extract_lets -underBinder)
  refine .load h30.mx fun _ => ?_
  (try extract_lets -underBinder)
  refine .store h30.mx ?_
  (try extract_lets -underBinder)
  refine issue_in 0 (by decide) (fun _ => rfl) ⟨_, rfl⟩ rfl rfl rfl rfl (.conv (congrArg (Mx d V R) put_own1) ?_)
  (try extract_lets -underBinder)
  refine wait_on 0 (N := (cc0_scratch4.dmaCredit S128x2816 .f32)) (by decide) (fun _ => rfl) ⟨_, rfl⟩ rfl rfl (.conv (congrArg (Mx d V R) put_own0) ?_)
  (try extract_lets -underBinder)
  refine load_in 0 (by decide) (fun _ => rfl) 0 (by decide) rfl rfl rfl fun _ => ?_
  (try extract_lets -underBinder)
  refine .load h30.mx fun _ => ?_
  (try extract_lets -underBinder)
  refine .store h30.mx ?_
  (try extract_lets -underBinder)
  exact .pure _

theorem run_part3 (h30 : Acc d R arg30 arg30.view.set) (h31 : Acc d R arg31 arg31.view.set) :
    Runs defs d (Mx d V R (own σ false true false false)) (k0_part3 i arg2 harg2 arg3 harg3 arg4 harg4 (Memref.whole main_v7) (Memref.isWhole_whole _) arg6 harg6 arg7 harg7 arg8 harg8 arg9 harg9 (Memref.whole main_v8) (Memref.isWhole_whole _) arg11 harg11 arg12 harg12 arg13 harg13 arg14 harg14 arg15 harg15 arg16 harg16 (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) arg22 harg22 (Memref.whole main_v23_1) (Memref.isWhole_whole _) (Memref.whole main_v23_2) (Memref.isWhole_whole _) (Memref.whole main_v23_3) (Memref.isWhole_whole _) (Memref.whole main_v23_4) (Memref.isWhole_whole _) (Memref.whole main_v23_5) (Memref.isWhole_whole _) arg28 harg28 arg29 harg29 arg30 harg30 arg31 harg31 (Memref.whole cc0_scratch4) (Memref.isWhole_whole _) (Memref.whole cc0_scratch5) (Memref.isWhole_whole _) cc0_scratch6 cc0_scratch7 (Memref.whole cc0_scratch8) (Memref.isWhole_whole _) (Memref.whole cc0_scratch9) (Memref.isWhole_whole _) cc0_scratch10 cc0_scratch11 (Memref.whole cc0_scratch12) (Memref.isWhole_whole _) (Memref.whole cc0_scratch13) (Memref.isWhole_whole _) cc0_scratch14 cc0_scratch15 (Memref.whole cc0_scratch16) (Memref.isWhole_whole _) (Memref.whole cc0_scratch17) (Memref.isWhole_whole _) cc0_scratch18 cc0_scratch19 (Memref.whole cc0_scratch20) (Memref.isWhole_whole _) (Memref.whole cc0_scratch21) (Memref.isWhole_whole _) cc0_scratch22 cc0_scratch23 (Memref.whole cc0_scratch24) (Memref.isWhole_whole _) (Memref.whole cc0_scratch25) (Memref.isWhole_whole _) cc0_scratch26 cc0_scratch27) (fun _ => Mx d V R (own σ false true false false)) := by
  unfold k0_part3
  (try extract_lets -underBinder)
  refine issue_in 0 (by decide) (fun _ => rfl) ⟨_, rfl⟩ rfl rfl rfl rfl (.conv (congrArg (Mx d V R) put_own0) ?_)
  (try extract_lets -underBinder)
  refine wait_on 0 (N := (cc0_scratch4.dmaCredit S128x2816 .f32)) (by decide) (fun _ => rfl) ⟨_, rfl⟩ rfl rfl (.conv (congrArg (Mx d V R) put_own1) ?_)
  (try extract_lets -underBinder)
  refine load_in 0 (by decide) (fun _ => rfl) 1 (by decide) rfl rfl rfl fun _ => ?_
  (try extract_lets -underBinder)
  refine .load h30.mx fun _ => ?_
  (try extract_lets -underBinder)
  refine .store h30.mx ?_
  (try extract_lets -underBinder)
  refine issue_in 0 (by decide) (fun _ => rfl) ⟨_, rfl⟩ rfl rfl rfl rfl (.conv (congrArg (Mx d V R) put_own1) ?_)
  (try extract_lets -underBinder)
  refine wait_on 0 (N := (cc0_scratch4.dmaCredit S128x2816 .f32)) (by decide) (fun _ => rfl) ⟨_, rfl⟩ rfl rfl (.conv (congrArg (Mx d V R) put_own0) ?_)
  (try extract_lets -underBinder)
  exact .pure _

theorem run_part4 (h30 : Acc d R arg30 arg30.view.set) (h31 : Acc d R arg31 arg31.view.set) :
    Runs defs d (Mx d V R (own σ false true false false)) (k0_part4 i arg2 harg2 arg3 harg3 arg4 harg4 (Memref.whole main_v7) (Memref.isWhole_whole _) arg6 harg6 arg7 harg7 arg8 harg8 arg9 harg9 (Memref.whole main_v8) (Memref.isWhole_whole _) arg11 harg11 arg12 harg12 arg13 harg13 arg14 harg14 arg15 harg15 arg16 harg16 (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) arg22 harg22 (Memref.whole main_v23_1) (Memref.isWhole_whole _) (Memref.whole main_v23_2) (Memref.isWhole_whole _) (Memref.whole main_v23_3) (Memref.isWhole_whole _) (Memref.whole main_v23_4) (Memref.isWhole_whole _) (Memref.whole main_v23_5) (Memref.isWhole_whole _) arg28 harg28 arg29 harg29 arg30 harg30 arg31 harg31 (Memref.whole cc0_scratch4) (Memref.isWhole_whole _) (Memref.whole cc0_scratch5) (Memref.isWhole_whole _) cc0_scratch6 cc0_scratch7 (Memref.whole cc0_scratch8) (Memref.isWhole_whole _) (Memref.whole cc0_scratch9) (Memref.isWhole_whole _) cc0_scratch10 cc0_scratch11 (Memref.whole cc0_scratch12) (Memref.isWhole_whole _) (Memref.whole cc0_scratch13) (Memref.isWhole_whole _) cc0_scratch14 cc0_scratch15 (Memref.whole cc0_scratch16) (Memref.isWhole_whole _) (Memref.whole cc0_scratch17) (Memref.isWhole_whole _) cc0_scratch18 cc0_scratch19 (Memref.whole cc0_scratch20) (Memref.isWhole_whole _) (Memref.whole cc0_scratch21) (Memref.isWhole_whole _) cc0_scratch22 cc0_scratch23 (Memref.whole cc0_scratch24) (Memref.isWhole_whole _) (Memref.whole cc0_scratch25) (Memref.isWhole_whole _) cc0_scratch26 cc0_scratch27) (fun _ => Mx d V R (own σ true true false false)) := by
  unfold k0_part4
  (try extract_lets -underBinder)
  refine load_in 0 (by decide) (fun _ => rfl) 0 (by decide) rfl rfl rfl fun _ => ?_
  (try extract_lets -underBinder)
  refine .load h30.mx fun _ => ?_
  (try extract_lets -underBinder)
  refine .store h30.mx ?_
  (try extract_lets -underBinder)
  refine issue_in 0 (by decide) (fun _ => rfl) ⟨_, rfl⟩ rfl rfl rfl rfl (.conv (congrArg (Mx d V R) put_own0) ?_)
  (try extract_lets -underBinder)
  refine wait_on 0 (N := (cc0_scratch4.dmaCredit S128x2816 .f32)) (by decide) (fun _ => rfl) ⟨_, rfl⟩ rfl rfl (.conv (congrArg (Mx d V R) put_own1) ?_)
  (try extract_lets -underBinder)
  refine load_in 0 (by decide) (fun _ => rfl) 1 (by decide) rfl rfl rfl fun _ => ?_
  (try extract_lets -underBinder)
  refine .load h30.mx fun _ => ?_
  (try extract_lets -underBinder)
  refine .store h30.mx ?_
  (try extract_lets -underBinder)
  refine issue_in 0 (by decide) (fun _ => rfl) ⟨_, rfl⟩ rfl rfl rfl rfl (.conv (congrArg (Mx d V R) put_own1) ?_)
  (try extract_lets -underBinder)
  exact .pure _

theorem run_part5 (h30 : Acc d R arg30 arg30.view.set) (h31 : Acc d R arg31 arg31.view.set) :
    Runs defs d (Mx d V R (own σ true true false false)) (k0_part5 i arg2 harg2 arg3 harg3 arg4 harg4 (Memref.whole main_v7) (Memref.isWhole_whole _) arg6 harg6 arg7 harg7 arg8 harg8 arg9 harg9 (Memref.whole main_v8) (Memref.isWhole_whole _) arg11 harg11 arg12 harg12 arg13 harg13 arg14 harg14 arg15 harg15 arg16 harg16 (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) arg22 harg22 (Memref.whole main_v23_1) (Memref.isWhole_whole _) (Memref.whole main_v23_2) (Memref.isWhole_whole _) (Memref.whole main_v23_3) (Memref.isWhole_whole _) (Memref.whole main_v23_4) (Memref.isWhole_whole _) (Memref.whole main_v23_5) (Memref.isWhole_whole _) arg28 harg28 arg29 harg29 arg30 harg30 arg31 harg31 (Memref.whole cc0_scratch4) (Memref.isWhole_whole _) (Memref.whole cc0_scratch5) (Memref.isWhole_whole _) cc0_scratch6 cc0_scratch7 (Memref.whole cc0_scratch8) (Memref.isWhole_whole _) (Memref.whole cc0_scratch9) (Memref.isWhole_whole _) cc0_scratch10 cc0_scratch11 (Memref.whole cc0_scratch12) (Memref.isWhole_whole _) (Memref.whole cc0_scratch13) (Memref.isWhole_whole _) cc0_scratch14 cc0_scratch15 (Memref.whole cc0_scratch16) (Memref.isWhole_whole _) (Memref.whole cc0_scratch17) (Memref.isWhole_whole _) cc0_scratch18 cc0_scratch19 (Memref.whole cc0_scratch20) (Memref.isWhole_whole _) (Memref.whole cc0_scratch21) (Memref.isWhole_whole _) cc0_scratch22 cc0_scratch23 (Memref.whole cc0_scratch24) (Memref.isWhole_whole _) (Memref.whole cc0_scratch25) (Memref.isWhole_whole _) cc0_scratch26 cc0_scratch27) (fun _ => Mx d V R (own σ false false true false)) := by
  unfold k0_part5
  (try extract_lets -underBinder)
  refine wait_on 0 (N := (cc0_scratch4.dmaCredit S128x2816 .f32)) (by decide) (fun _ => rfl) ⟨_, rfl⟩ rfl rfl (.conv (congrArg (Mx d V R) put_own0) ?_)
  (try extract_lets -underBinder)
  refine load_in 0 (by decide) (fun _ => rfl) 0 (by decide) rfl rfl rfl fun _ => ?_
  (try extract_lets -underBinder)
  refine .load h30.mx fun _ => ?_
  (try extract_lets -underBinder)
  refine .store h30.mx ?_
  (try extract_lets -underBinder)
  refine wait_on 0 (N := (cc0_scratch4.dmaCredit S128x2816 .f32)) (by decide) (fun _ => rfl) ⟨_, rfl⟩ rfl rfl (.conv (congrArg (Mx d V R) put_own1) ?_)
  (try extract_lets -underBinder)
  refine load_in 0 (by decide) (fun _ => rfl) 1 (by decide) rfl rfl rfl fun _ => ?_
  (try extract_lets -underBinder)
  refine .load h30.mx fun _ => ?_
  (try extract_lets -underBinder)
  refine .store h30.mx ?_
  (try extract_lets -underBinder)
  refine issue_in 1 (by decide) (fun _ => rfl) ⟨_, rfl⟩ rfl rfl rfl rfl (.conv (congrArg (Mx d V R) put_own2) ?_)
  (try extract_lets -underBinder)
  exact .pure _

theorem run_part6 (h30 : Acc d R arg30 arg30.view.set) (h31 : Acc d R arg31 arg31.view.set) :
    Runs defs d (Mx d V R (own σ false false true false)) (k0_part6 i arg2 harg2 arg3 harg3 arg4 harg4 (Memref.whole main_v7) (Memref.isWhole_whole _) arg6 harg6 arg7 harg7 arg8 harg8 arg9 harg9 (Memref.whole main_v8) (Memref.isWhole_whole _) arg11 harg11 arg12 harg12 arg13 harg13 arg14 harg14 arg15 harg15 arg16 harg16 (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) arg22 harg22 (Memref.whole main_v23_1) (Memref.isWhole_whole _) (Memref.whole main_v23_2) (Memref.isWhole_whole _) (Memref.whole main_v23_3) (Memref.isWhole_whole _) (Memref.whole main_v23_4) (Memref.isWhole_whole _) (Memref.whole main_v23_5) (Memref.isWhole_whole _) arg28 harg28 arg29 harg29 arg30 harg30 arg31 harg31 (Memref.whole cc0_scratch4) (Memref.isWhole_whole _) (Memref.whole cc0_scratch5) (Memref.isWhole_whole _) cc0_scratch6 cc0_scratch7 (Memref.whole cc0_scratch8) (Memref.isWhole_whole _) (Memref.whole cc0_scratch9) (Memref.isWhole_whole _) cc0_scratch10 cc0_scratch11 (Memref.whole cc0_scratch12) (Memref.isWhole_whole _) (Memref.whole cc0_scratch13) (Memref.isWhole_whole _) cc0_scratch14 cc0_scratch15 (Memref.whole cc0_scratch16) (Memref.isWhole_whole _) (Memref.whole cc0_scratch17) (Memref.isWhole_whole _) cc0_scratch18 cc0_scratch19 (Memref.whole cc0_scratch20) (Memref.isWhole_whole _) (Memref.whole cc0_scratch21) (Memref.isWhole_whole _) cc0_scratch22 cc0_scratch23 (Memref.whole cc0_scratch24) (Memref.isWhole_whole _) (Memref.whole cc0_scratch25) (Memref.isWhole_whole _) cc0_scratch26 cc0_scratch27) (fun _ => Mx d V R (own σ false false true false)) := by
  unfold k0_part6
  (try extract_lets -underBinder)
  refine issue_in 1 (by decide) (fun _ => rfl) ⟨_, rfl⟩ rfl rfl rfl rfl (.conv (congrArg (Mx d V R) put_own3) ?_)
  (try extract_lets -underBinder)
  refine wait_on 1 (N := (cc0_scratch5.dmaCredit S128x1024 .f32)) (by decide) (fun _ => rfl) ⟨_, rfl⟩ rfl rfl (.conv (congrArg (Mx d V R) put_own2) ?_)
  (try extract_lets -underBinder)
  refine load_in 1 (by decide) (fun _ => rfl) 0 (by decide) rfl rfl rfl fun _ => ?_
  (try extract_lets -underBinder)
  refine .load h31.mx fun _ => ?_
  (try extract_lets -underBinder)
  refine .store h31.mx ?_
  (try extract_lets -underBinder)
  refine issue_in 1 (by decide) (fun _ => rfl) ⟨_, rfl⟩ rfl rfl rfl rfl (.conv (congrArg (Mx d V R) put_own2) ?_)
  (try extract_lets -underBinder)
  refine wait_on 1 (N := (cc0_scratch5.dmaCredit S128x1024 .f32)) (by decide) (fun _ => rfl) ⟨_, rfl⟩ rfl rfl (.conv (congrArg (Mx d V R) put_own3) ?_)
  (try extract_lets -underBinder)
  exact .pure _

theorem run_part7 (h30 : Acc d R arg30 arg30.view.set) (h31 : Acc d R arg31 arg31.view.set) :
    Runs defs d (Mx d V R (own σ false false true false)) (k0_part7 i arg2 harg2 arg3 harg3 arg4 harg4 (Memref.whole main_v7) (Memref.isWhole_whole _) arg6 harg6 arg7 harg7 arg8 harg8 arg9 harg9 (Memref.whole main_v8) (Memref.isWhole_whole _) arg11 harg11 arg12 harg12 arg13 harg13 arg14 harg14 arg15 harg15 arg16 harg16 (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) arg22 harg22 (Memref.whole main_v23_1) (Memref.isWhole_whole _) (Memref.whole main_v23_2) (Memref.isWhole_whole _) (Memref.whole main_v23_3) (Memref.isWhole_whole _) (Memref.whole main_v23_4) (Memref.isWhole_whole _) (Memref.whole main_v23_5) (Memref.isWhole_whole _) arg28 harg28 arg29 harg29 arg30 harg30 arg31 harg31 (Memref.whole cc0_scratch4) (Memref.isWhole_whole _) (Memref.whole cc0_scratch5) (Memref.isWhole_whole _) cc0_scratch6 cc0_scratch7 (Memref.whole cc0_scratch8) (Memref.isWhole_whole _) (Memref.whole cc0_scratch9) (Memref.isWhole_whole _) cc0_scratch10 cc0_scratch11 (Memref.whole cc0_scratch12) (Memref.isWhole_whole _) (Memref.whole cc0_scratch13) (Memref.isWhole_whole _) cc0_scratch14 cc0_scratch15 (Memref.whole cc0_scratch16) (Memref.isWhole_whole _) (Memref.whole cc0_scratch17) (Memref.isWhole_whole _) cc0_scratch18 cc0_scratch19 (Memref.whole cc0_scratch20) (Memref.isWhole_whole _) (Memref.whole cc0_scratch21) (Memref.isWhole_whole _) cc0_scratch22 cc0_scratch23 (Memref.whole cc0_scratch24) (Memref.isWhole_whole _) (Memref.whole cc0_scratch25) (Memref.isWhole_whole _) cc0_scratch26 cc0_scratch27) (fun _ => Mx d V R (own σ false false true true)) := by
  unfold k0_part7
  (try extract_lets -underBinder)
  refine load_in 1 (by decide) (fun _ => rfl) 1 (by decide) rfl rfl rfl fun _ => ?_
  (try extract_lets -underBinder)
  refine .load h31.mx fun _ => ?_
  (try extract_lets -underBinder)
  refine .store h31.mx ?_
  (try extract_lets -underBinder)
  refine issue_in 1 (by decide) (fun _ => rfl) ⟨_, rfl⟩ rfl rfl rfl rfl (.conv (congrArg (Mx d V R) put_own3) ?_)
  (try extract_lets -underBinder)
  refine wait_on 1 (N := (cc0_scratch5.dmaCredit S128x1024 .f32)) (by decide) (fun _ => rfl) ⟨_, rfl⟩ rfl rfl (.conv (congrArg (Mx d V R) put_own2) ?_)
  (try extract_lets -underBinder)
  refine load_in 1 (by decide) (fun _ => rfl) 0 (by decide) rfl rfl rfl fun _ => ?_
  (try extract_lets -underBinder)
  refine .load h31.mx fun _ => ?_
  (try extract_lets -underBinder)
  refine .store h31.mx ?_
  (try extract_lets -underBinder)
  refine issue_in 1 (by decide) (fun _ => rfl) ⟨_, rfl⟩ rfl rfl rfl rfl (.conv (congrArg (Mx d V R) put_own2) ?_)
  (try extract_lets -underBinder)
  exact .pure _

theorem run_part8 (h30 : Acc d R arg30 arg30.view.set) (h31 : Acc d R arg31 arg31.view.set) :
    Runs defs d (Mx d V R (own σ false false true true)) (k0_part8 i arg2 harg2 arg3 harg3 arg4 harg4 (Memref.whole main_v7) (Memref.isWhole_whole _) arg6 harg6 arg7 harg7 arg8 harg8 arg9 harg9 (Memref.whole main_v8) (Memref.isWhole_whole _) arg11 harg11 arg12 harg12 arg13 harg13 arg14 harg14 arg15 harg15 arg16 harg16 (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) arg22 harg22 (Memref.whole main_v23_1) (Memref.isWhole_whole _) (Memref.whole main_v23_2) (Memref.isWhole_whole _) (Memref.whole main_v23_3) (Memref.isWhole_whole _) (Memref.whole main_v23_4) (Memref.isWhole_whole _) (Memref.whole main_v23_5) (Memref.isWhole_whole _) arg28 harg28 arg29 harg29 arg30 harg30 arg31 harg31 (Memref.whole cc0_scratch4) (Memref.isWhole_whole _) (Memref.whole cc0_scratch5) (Memref.isWhole_whole _) cc0_scratch6 cc0_scratch7 (Memref.whole cc0_scratch8) (Memref.isWhole_whole _) (Memref.whole cc0_scratch9) (Memref.isWhole_whole _) cc0_scratch10 cc0_scratch11 (Memref.whole cc0_scratch12) (Memref.isWhole_whole _) (Memref.whole cc0_scratch13) (Memref.isWhole_whole _) cc0_scratch14 cc0_scratch15 (Memref.whole cc0_scratch16) (Memref.isWhole_whole _) (Memref.whole cc0_scratch17) (Memref.isWhole_whole _) cc0_scratch18 cc0_scratch19 (Memref.whole cc0_scratch20) (Memref.isWhole_whole _) (Memref.whole cc0_scratch21) (Memref.isWhole_whole _) cc0_scratch22 cc0_scratch23 (Memref.whole cc0_scratch24) (Memref.isWhole_whole _) (Memref.whole cc0_scratch25) (Memref.isWhole_whole _) cc0_scratch26 cc0_scratch27) (fun _ => Mx d V R (own σ false false false true)) := by
  unfold k0_part8
  (try extract_lets -underBinder)
  refine wait_on 1 (N := (cc0_scratch5.dmaCredit S128x1024 .f32)) (by decide) (fun _ => rfl) ⟨_, rfl⟩ rfl rfl (.conv (congrArg (Mx d V R) put_own3) ?_)
  (try extract_lets -underBinder)
  refine load_in 1 (by decide) (fun _ => rfl) 1 (by decide) rfl rfl rfl fun _ => ?_
  (try extract_lets -underBinder)
  refine .load h31.mx fun _ => ?_
  (try extract_lets -underBinder)
  refine .store h31.mx ?_
  (try extract_lets -underBinder)
  refine issue_in 1 (by decide) (fun _ => rfl) ⟨_, rfl⟩ rfl rfl rfl rfl (.conv (congrArg (Mx d V R) put_own3) ?_)
  (try extract_lets -underBinder)
  refine wait_on 1 (N := (cc0_scratch5.dmaCredit S128x1024 .f32)) (by decide) (fun _ => rfl) ⟨_, rfl⟩ rfl rfl (.conv (congrArg (Mx d V R) put_own2) ?_)
  (try extract_lets -underBinder)
  refine load_in 1 (by decide) (fun _ => rfl) 0 (by decide) rfl rfl rfl fun _ => ?_
  (try extract_lets -underBinder)
  refine .load h31.mx fun _ => ?_
  (try extract_lets -underBinder)
  refine .store h31.mx ?_
  (try extract_lets -underBinder)
  exact .pure _

theorem run_part9 (h30 : Acc d R arg30 arg30.view.set) (h31 : Acc d R arg31 arg31.view.set) :
    Runs defs d (Mx d V R (own σ false false false true)) (k0_part9 i arg2 harg2 arg3 harg3 arg4 harg4 (Memref.whole main_v7) (Memref.isWhole_whole _) arg6 harg6 arg7 harg7 arg8 harg8 arg9 harg9 (Memref.whole main_v8) (Memref.isWhole_whole _) arg11 harg11 arg12 harg12 arg13 harg13 arg14 harg14 arg15 harg15 arg16 harg16 (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) arg22 harg22 (Memref.whole main_v23_1) (Memref.isWhole_whole _) (Memref.whole main_v23_2) (Memref.isWhole_whole _) (Memref.whole main_v23_3) (Memref.isWhole_whole _) (Memref.whole main_v23_4) (Memref.isWhole_whole _) (Memref.whole main_v23_5) (Memref.isWhole_whole _) arg28 harg28 arg29 harg29 arg30 harg30 arg31 harg31 (Memref.whole cc0_scratch4) (Memref.isWhole_whole _) (Memref.whole cc0_scratch5) (Memref.isWhole_whole _) cc0_scratch6 cc0_scratch7 (Memref.whole cc0_scratch8) (Memref.isWhole_whole _) (Memref.whole cc0_scratch9) (Memref.isWhole_whole _) cc0_scratch10 cc0_scratch11 (Memref.whole cc0_scratch12) (Memref.isWhole_whole _) (Memref.whole cc0_scratch13) (Memref.isWhole_whole _) cc0_scratch14 cc0_scratch15 (Memref.whole cc0_scratch16) (Memref.isWhole_whole _) (Memref.whole cc0_scratch17) (Memref.isWhole_whole _) cc0_scratch18 cc0_scratch19 (Memref.whole cc0_scratch20) (Memref.isWhole_whole _) (Memref.whole cc0_scratch21) (Memref.isWhole_whole _) cc0_scratch22 cc0_scratch23 (Memref.whole cc0_scratch24) (Memref.isWhole_whole _) (Memref.whole cc0_scratch25) (Memref.isWhole_whole _) cc0_scratch26 cc0_scratch27) (fun _ => Mx d V R (own σ false false false true)) := by
  unfold k0_part9
  (try extract_lets -underBinder)
  refine issue_in 1 (by decide) (fun _ => rfl) ⟨_, rfl⟩ rfl rfl rfl rfl (.conv (congrArg (Mx d V R) put_own2) ?_)
  (try extract_lets -underBinder)
  refine wait_on 1 (N := (cc0_scratch5.dmaCredit S128x1024 .f32)) (by decide) (fun _ => rfl) ⟨_, rfl⟩ rfl rfl (.conv (congrArg (Mx d V R) put_own3) ?_)
  (try extract_lets -underBinder)
  refine load_in 1 (by decide) (fun _ => rfl) 1 (by decide) rfl rfl rfl fun _ => ?_
  (try extract_lets -underBinder)
  refine .load h31.mx fun _ => ?_
  (try extract_lets -underBinder)
  refine .store h31.mx ?_
  (try extract_lets -underBinder)
  refine issue_in 1 (by decide) (fun _ => rfl) ⟨_, rfl⟩ rfl rfl rfl rfl (.conv (congrArg (Mx d V R) put_own3) ?_)
  (try extract_lets -underBinder)
  refine wait_on 1 (N := (cc0_scratch5.dmaCredit S128x1024 .f32)) (by decide) (fun _ => rfl) ⟨_, rfl⟩ rfl rfl (.conv (congrArg (Mx d V R) put_own2) ?_)
  (try extract_lets -underBinder)
  exact .pure _

def q1 (i : grid0.Coords) : Fin 24 → Bool := if first i = 1#1 then put (q0 i) (chn 2 ((![0] 0))) true else q0 i

def q2 (i : grid0.Coords) : Fin 24 → Bool := if k0_cond4 i = 1#1 then put (q1 i) (chn 2 (k0_off1 i 0)) true else q1 i

def q3 (i : grid0.Coords) : Fin 24 → Bool := if first i = 1#1 then put (q2 i) (chn 4 ((![0] 0))) true else q2 i

def q4 (i : grid0.Coords) : Fin 24 → Bool := if k0_cond6 i = 1#1 then put (q3 i) (chn 4 (k0_off4 i 0)) true else q3 i

def q5 (i : grid0.Coords) : Fin 24 → Bool := if first i = 1#1 then put (q4 i) (chn 6 ((![0] 0))) true else q4 i

def q6 (i : grid0.Coords) : Fin 24 → Bool := if k0_cond8 i = 1#1 then put (q5 i) (chn 6 (k0_off7 i 0)) true else q5 i

theorem run_part10 (h2 : k0_cond2 i = 1#1) :
    Runs defs d (Mx d V R (q0 i)) (k0_part10 i arg2 harg2 arg3 harg3 arg4 harg4 (Memref.whole main_v7) (Memref.isWhole_whole _) arg6 harg6 arg7 harg7 arg8 harg8 arg9 harg9 (Memref.whole main_v8) (Memref.isWhole_whole _) arg11 harg11 arg12 harg12 arg13 harg13 arg14 harg14 arg15 harg15 arg16 harg16 (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) arg22 harg22 (Memref.whole main_v23_1) (Memref.isWhole_whole _) (Memref.whole main_v23_2) (Memref.isWhole_whole _) (Memref.whole main_v23_3) (Memref.isWhole_whole _) (Memref.whole main_v23_4) (Memref.isWhole_whole _) (Memref.whole main_v23_5) (Memref.isWhole_whole _) arg28 harg28 arg29 harg29 arg30 harg30 arg31 harg31 (Memref.whole cc0_scratch4) (Memref.isWhole_whole _) (Memref.whole cc0_scratch5) (Memref.isWhole_whole _) cc0_scratch6 cc0_scratch7 (Memref.whole cc0_scratch8) (Memref.isWhole_whole _) (Memref.whole cc0_scratch9) (Memref.isWhole_whole _) cc0_scratch10 cc0_scratch11 (Memref.whole cc0_scratch12) (Memref.isWhole_whole _) (Memref.whole cc0_scratch13) (Memref.isWhole_whole _) cc0_scratch14 cc0_scratch15 (Memref.whole cc0_scratch16) (Memref.isWhole_whole _) (Memref.whole cc0_scratch17) (Memref.isWhole_whole _) cc0_scratch18 cc0_scratch19 (Memref.whole cc0_scratch20) (Memref.isWhole_whole _) (Memref.whole cc0_scratch21) (Memref.isWhole_whole _) cc0_scratch22 cc0_scratch23 (Memref.whole cc0_scratch24) (Memref.isWhole_whole _) (Memref.whole cc0_scratch25) (Memref.isWhole_whole _) cc0_scratch26 cc0_scratch27 (pt i) h2) (fun b => iprop(⌜b = ⟨Scalar.divsi (pt i) 1#32, Scalar.remsi (Scalar.divsi (pt i) 1#32) 2#32, Scalar.cmpi .eq (Scalar.divsi (pt i) 1#32) 0#32⟩⌝ ∗ Mx d V R (q6 i))) := by
  unfold k0_part10
  (try extract_lets -underBinder)
  refine .guard (Mx d V R (q1 i)) (fun h => congrArg (Mx d V R) (show q0 i = q1 i from (if_neg h).symm)) (fun h3 hj => ?_) ?_
  · (try extract_lets -underBinder)
    refine issue_in 2 (by decide) (fun _ => rfl) ⟨_, rfl⟩ rfl ((by decide +kernel : ∀ i : grid0.Coords, (![0, 0, 0] 0) = (![0] 0)) i) rfl ((by decide +kernel : ∀ i : grid0.Coords, first i = 1#1 → q0 i (chn 2 ((![0] 0))) = false) i h3) (.conv (congrArg (Mx d V R) (show put (q0 i) (chn 2 ((![0] 0))) true = q1 i from (if_pos h3).symm)) hj)
  (try extract_lets -underBinder)
  refine .guard (Mx d V R (q2 i)) (fun h => congrArg (Mx d V R) (show q1 i = q2 i from (if_neg h).symm)) (fun h4 hj => ?_) ?_
  · (try extract_lets -underBinder)
    refine issue_in 2 (by decide) (fun _ => rfl) ⟨_, rfl⟩ rfl ((by decide +kernel : ∀ i : grid0.Coords, k0_off2 i 0 = k0_off1 i 0) i) rfl ((by decide +kernel : ∀ i : grid0.Coords, k0_cond4 i = 1#1 → q1 i (chn 2 (k0_off1 i 0)) = false) i h4) (.conv (congrArg (Mx d V R) (show put (q1 i) (chn 2 (k0_off1 i 0)) true = q2 i from (if_pos h4).symm)) hj)
  (try extract_lets -underBinder)
  refine .guard (Mx d V R (q3 i)) (fun h => congrArg (Mx d V R) (show q2 i = q3 i from (if_neg h).symm)) (fun h5 hj => ?_) ?_
  · (try extract_lets -underBinder)
    refine issue_in 4 (by decide) (fun _ => rfl) ⟨_, rfl⟩ rfl ((by decide +kernel : ∀ i : grid0.Coords, (![0, 0, 0] 0) = (![0] 0)) i) rfl ((by decide +kernel : ∀ i : grid0.Coords, first i = 1#1 → q2 i (chn 4 ((![0] 0))) = false) i h5) (.conv (congrArg (Mx d V R) (show put (q2 i) (chn 4 ((![0] 0))) true = q3 i from (if_pos h5).symm)) hj)
  (try extract_lets -underBinder)
  refine .guard (Mx d V R (q4 i)) (fun h => congrArg (Mx d V R) (show q3 i = q4 i from (if_neg h).symm)) (fun h6 hj => ?_) ?_
  · (try extract_lets -underBinder)
    refine issue_in 4 (by decide) (fun _ => rfl) ⟨_, rfl⟩ rfl ((by decide +kernel : ∀ i : grid0.Coords, k0_off5 i 0 = k0_off4 i 0) i) rfl ((by decide +kernel : ∀ i : grid0.Coords, k0_cond6 i = 1#1 → q3 i (chn 4 (k0_off4 i 0)) = false) i h6) (.conv (congrArg (Mx d V R) (show put (q3 i) (chn 4 (k0_off4 i 0)) true = q4 i from (if_pos h6).symm)) hj)
  (try extract_lets -underBinder)
  refine .guard (Mx d V R (q5 i)) (fun h => congrArg (Mx d V R) (show q4 i = q5 i from (if_neg h).symm)) (fun h7 hj => ?_) ?_
  · (try extract_lets -underBinder)
    refine issue_in 6 (by decide) (fun _ => rfl) ⟨_, rfl⟩ rfl ((by decide +kernel : ∀ i : grid0.Coords, (![0, 0, 0] 0) = (![0] 0)) i) rfl ((by decide +kernel : ∀ i : grid0.Coords, first i = 1#1 → q4 i (chn 6 ((![0] 0))) = false) i h7) (.conv (congrArg (Mx d V R) (show put (q4 i) (chn 6 ((![0] 0))) true = q5 i from (if_pos h7).symm)) hj)
  (try extract_lets -underBinder)
  refine .guard (Mx d V R (q6 i)) (fun h => congrArg (Mx d V R) (show q5 i = q6 i from (if_neg h).symm)) (fun h8 hj => ?_) ?_
  · (try extract_lets -underBinder)
    refine issue_in 6 (by decide) (fun _ => rfl) ⟨_, rfl⟩ rfl ((by decide +kernel : ∀ i : grid0.Coords, k0_off8 i 0 = k0_off7 i 0) i) rfl ((by decide +kernel : ∀ i : grid0.Coords, k0_cond8 i = 1#1 → q5 i (chn 6 (k0_off7 i 0)) = false) i h8) (.conv (congrArg (Mx d V R) (show put (q5 i) (chn 6 (k0_off7 i 0)) true = q6 i from (if_pos h8).symm)) hj)
  (try extract_lets -underBinder)
  exact .pureEq _

def q7 (i : grid0.Coords) : Fin 24 → Bool := if first i = 1#1 then put (q6 i) (chn 8 ((![0] 0))) true else q6 i

def q8 (i : grid0.Coords) : Fin 24 → Bool := if k0_cond10 i = 1#1 then put (q7 i) (chn 8 (k0_off10 i 0)) true else q7 i

def q9 (i : grid0.Coords) : Fin 24 → Bool := if first i = 1#1 then put (q8 i) (chn 10 ((![0] 0))) true else q8 i

def q10 (i : grid0.Coords) : Fin 24 → Bool := if k0_cond12 i = 1#1 then put (q9 i) (chn 10 (k0_off13 i 0)) true else q9 i

def q11 (i : grid0.Coords) : Fin 24 → Bool := put (q10 i) (chn 2 (k0_off16 i 0)) false

def q12 (i : grid0.Coords) : Fin 24 → Bool := if k0_cond14 i = 1#1 then put (q11 i) (chn 3 (k0_off19 i 0)) false else q11 i

def q13 (i : grid0.Coords) : Fin 24 → Bool := if k0_cond13 i = 1#1 then put (q12 i) (chn 3 (k0_off16 i 0)) true else q10 i

def q14 (i : grid0.Coords) : Fin 24 → Bool := put (q13 i) (chn 3 (k0_off23 i 0)) false

def q15 (i : grid0.Coords) : Fin 24 → Bool := if k0_cond15 i = 1#1 then put (q14 i) (chn 3 (k0_off26 i 0)) false else q13 i

def q16 (i : grid0.Coords) : Fin 24 → Bool := put (q15 i) (chn 4 (k0_off29 i 0)) false

def q17 (i : grid0.Coords) : Fin 24 → Bool := if k0_cond17 i = 1#1 then put (q16 i) (chn 5 (k0_off32 i 0)) false else q16 i

def q18 (i : grid0.Coords) : Fin 24 → Bool := if k0_cond16 i = 1#1 then put (q17 i) (chn 5 (k0_off29 i 0)) true else q15 i

theorem run_part11 (h2 : k0_cond2 i = 1#1) :
    Runs defs d (Mx d V R (q6 i)) (k0_part11 i arg2 harg2 arg3 harg3 arg4 harg4 (Memref.whole main_v7) (Memref.isWhole_whole _) arg6 harg6 arg7 harg7 arg8 harg8 arg9 harg9 (Memref.whole main_v8) (Memref.isWhole_whole _) arg11 harg11 arg12 harg12 arg13 harg13 arg14 harg14 arg15 harg15 arg16 harg16 (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) arg22 harg22 (Memref.whole main_v23_1) (Memref.isWhole_whole _) (Memref.whole main_v23_2) (Memref.isWhole_whole _) (Memref.whole main_v23_3) (Memref.isWhole_whole _) (Memref.whole main_v23_4) (Memref.isWhole_whole _) (Memref.whole main_v23_5) (Memref.isWhole_whole _) arg28 harg28 arg29 harg29 arg30 harg30 arg31 harg31 (Memref.whole cc0_scratch4) (Memref.isWhole_whole _) (Memref.whole cc0_scratch5) (Memref.isWhole_whole _) cc0_scratch6 cc0_scratch7 (Memref.whole cc0_scratch8) (Memref.isWhole_whole _) (Memref.whole cc0_scratch9) (Memref.isWhole_whole _) cc0_scratch10 cc0_scratch11 (Memref.whole cc0_scratch12) (Memref.isWhole_whole _) (Memref.whole cc0_scratch13) (Memref.isWhole_whole _) cc0_scratch14 cc0_scratch15 (Memref.whole cc0_scratch16) (Memref.isWhole_whole _) (Memref.whole cc0_scratch17) (Memref.isWhole_whole _) cc0_scratch18 cc0_scratch19 (Memref.whole cc0_scratch20) (Memref.isWhole_whole _) (Memref.whole cc0_scratch21) (Memref.isWhole_whole _) cc0_scratch22 cc0_scratch23 (Memref.whole cc0_scratch24) (Memref.isWhole_whole _) (Memref.whole cc0_scratch25) (Memref.isWhole_whole _) cc0_scratch26 cc0_scratch27 (pt i) h2 (Scalar.divsi (pt i) 1#32) (Scalar.remsi (Scalar.divsi (pt i) 1#32) 2#32) (Scalar.cmpi .eq (Scalar.divsi (pt i) 1#32) 0#32)) (fun _ => Mx d V R (q18 i)) := by
  unfold k0_part11
  (try extract_lets -underBinder)
  refine .guard (Mx d V R (q7 i)) (fun h => congrArg (Mx d V R) (show q6 i = q7 i from (if_neg h).symm)) (fun h9 hj => ?_) ?_
  · (try extract_lets -underBinder)
    refine issue_in 8 (by decide) (fun _ => rfl) ⟨_, rfl⟩ rfl ((by decide +kernel : ∀ i : grid0.Coords, (![0, 0, 0] 0) = (![0] 0)) i) rfl ((by decide +kernel : ∀ i : grid0.Coords, first i = 1#1 → q6 i (chn 8 ((![0] 0))) = false) i h9) (.conv (congrArg (Mx d V R) (show put (q6 i) (chn 8 ((![0] 0))) true = q7 i from (if_pos h9).symm)) hj)
  (try extract_lets -underBinder)
  refine .guard (Mx d V R (q8 i)) (fun h => congrArg (Mx d V R) (show q7 i = q8 i from (if_neg h).symm)) (fun h10 hj => ?_) ?_
  · (try extract_lets -underBinder)
    refine issue_in 8 (by decide) (fun _ => rfl) ⟨_, rfl⟩ rfl ((by decide +kernel : ∀ i : grid0.Coords, k0_off11 i 0 = k0_off10 i 0) i) rfl ((by decide +kernel : ∀ i : grid0.Coords, k0_cond10 i = 1#1 → q7 i (chn 8 (k0_off10 i 0)) = false) i h10) (.conv (congrArg (Mx d V R) (show put (q7 i) (chn 8 (k0_off10 i 0)) true = q8 i from (if_pos h10).symm)) hj)
  (try extract_lets -underBinder)
  refine .guard (Mx d V R (q9 i)) (fun h => congrArg (Mx d V R) (show q8 i = q9 i from (if_neg h).symm)) (fun h11 hj => ?_) ?_
  · (try extract_lets -underBinder)
    refine issue_in 10 (by decide) (fun _ => rfl) ⟨_, rfl⟩ rfl ((by decide +kernel : ∀ i : grid0.Coords, (![0, 0, 0] 0) = (![0] 0)) i) rfl ((by decide +kernel : ∀ i : grid0.Coords, first i = 1#1 → q8 i (chn 10 ((![0] 0))) = false) i h11) (.conv (congrArg (Mx d V R) (show put (q8 i) (chn 10 ((![0] 0))) true = q9 i from (if_pos h11).symm)) hj)
  (try extract_lets -underBinder)
  refine .guard (Mx d V R (q10 i)) (fun h => congrArg (Mx d V R) (show q9 i = q10 i from (if_neg h).symm)) (fun h12 hj => ?_) ?_
  · (try extract_lets -underBinder)
    refine issue_in 10 (by decide) (fun _ => rfl) ⟨_, rfl⟩ rfl ((by decide +kernel : ∀ i : grid0.Coords, k0_off14 i 0 = k0_off13 i 0) i) rfl ((by decide +kernel : ∀ i : grid0.Coords, k0_cond12 i = 1#1 → q9 i (chn 10 (k0_off13 i 0)) = false) i h12) (.conv (congrArg (Mx d V R) (show put (q9 i) (chn 10 (k0_off13 i 0)) true = q10 i from (if_pos h12).symm)) hj)
  (try extract_lets -underBinder)
  refine .guard (Mx d V R (q13 i)) (fun h => congrArg (Mx d V R) (show q10 i = q13 i from (if_neg h).symm)) (fun h13 hj => ?_) ?_
  · (try extract_lets -underBinder)
    refine wait_on 2 (N := (cc0_scratch8.dmaCredit S64x2048 .f32)) (by decide) (fun _ => rfl) ⟨_, rfl⟩ rfl ((by decide +kernel : ∀ i : grid0.Coords, k0_cond13 i = 1#1 → q10 i (chn 2 (k0_off16 i 0)) = true) i h13) (.conv (congrArg (Mx d V R) (show put (q10 i) (chn 2 (k0_off16 i 0)) false = q11 i from rfl)) ?_)
    (try extract_lets -underBinder)
    refine .guard (Mx d V R (q12 i)) (fun h => congrArg (Mx d V R) (show q11 i = q12 i from (if_neg h).symm)) (fun h14 hjh14 => ?_) ?_
    · (try extract_lets -underBinder)
      refine wait_on 3 (N := (main_v23_1.dmaCredit S64x2048 .bf16)) (by decide) (fun _ => rfl) ⟨_, rfl⟩ rfl ((by decide +kernel : ∀ i : grid0.Coords, k0_cond13 i = 1#1 → k0_cond14 i = 1#1 → q11 i (chn 3 (k0_off19 i 0)) = true) i h13 h14) (.conv (congrArg (Mx d V R) (show put (q11 i) (chn 3 (k0_off19 i 0)) false = q12 i from (if_pos h14).symm)) hjh14)
    (try extract_lets -underBinder)
    refine load_in 2 (by decide) (fun _ => rfl) (k0_off16 i 0) ((by decide +kernel : ∀ i : grid0.Coords, k0_off16 i 0 < 2) i) ((by decide +kernel : ∀ i : grid0.Coords, k0_cond13 i = 1#1 → q12 i (chn 2 (k0_off16 i 0)) = false) i h13) rfl ((by decide +kernel : ∀ i : grid0.Coords, k0_off22 i 0 = k0_off16 i 0) i) fun _ => ?_
    (try extract_lets -underBinder)
    refine load_out 3 (by decide) (fun _ => rfl) (k0_off16 i 0) ((by decide +kernel : ∀ i : grid0.Coords, k0_off16 i 0 < 2) i) ((by decide +kernel : ∀ i : grid0.Coords, k0_cond13 i = 1#1 → q12 i (chn 3 (k0_off16 i 0)) = false) i h13) rfl ((by decide +kernel : ∀ i : grid0.Coords, k0_off22 i 0 = k0_off16 i 0) i) fun _ => ?_
    (try extract_lets -underBinder)
    refine store_out 3 (by decide) (fun _ => rfl) (k0_off16 i 0) ((by decide +kernel : ∀ i : grid0.Coords, k0_off16 i 0 < 2) i) ((by decide +kernel : ∀ i : grid0.Coords, k0_cond13 i = 1#1 → q12 i (chn 3 (k0_off16 i 0)) = false) i h13) rfl ((by decide +kernel : ∀ i : grid0.Coords, k0_off22 i 0 = k0_off16 i 0) i) ?_
    (try extract_lets -underBinder)
    refine issue_out 3 (by decide) (fun _ => rfl) ⟨_, rfl⟩ rfl ((by decide +kernel : ∀ i : grid0.Coords, k0_off17 i 0 = k0_off16 i 0) i) rfl ((by decide +kernel : ∀ i : grid0.Coords, k0_off18 i 0 % 64 = 0 ∧ k0_off18 i 0 / 64 % 2 = k0_off16 i 0) i) rfl ((by decide +kernel : ∀ i : grid0.Coords, k0_cond13 i = 1#1 → q12 i (chn 3 (k0_off16 i 0)) = false) i h13) (.conv (congrArg (Mx d V R) (show put (q12 i) (chn 3 (k0_off16 i 0)) true = q13 i from (if_pos h13).symm)) hj)
  (try extract_lets -underBinder)
  refine .guard (Mx d V R (q15 i)) (fun h => congrArg (Mx d V R) (show q13 i = q15 i from (if_neg h).symm)) (fun h15 hj => ?_) ?_
  · (try extract_lets -underBinder)
    refine wait_on 3 (N := (main_v23_1.dmaCredit S64x2048 .bf16)) (by decide) (fun _ => rfl) ⟨_, rfl⟩ rfl ((by decide +kernel : ∀ i : grid0.Coords, k0_cond15 i = 1#1 → q13 i (chn 3 (k0_off23 i 0)) = true) i h15) (.conv (congrArg (Mx d V R) (show put (q13 i) (chn 3 (k0_off23 i 0)) false = q14 i from rfl)) ?_)
    (try extract_lets -underBinder)
    refine wait_on 3 (N := (main_v23_1.dmaCredit S64x2048 .bf16)) (by decide) (fun _ => rfl) ⟨_, rfl⟩ rfl ((by decide +kernel : ∀ i : grid0.Coords, k0_cond15 i = 1#1 → q14 i (chn 3 (k0_off26 i 0)) = true) i h15) (.conv (congrArg (Mx d V R) (show put (q14 i) (chn 3 (k0_off26 i 0)) false = q15 i from (if_pos h15).symm)) hj)
  (try extract_lets -underBinder)
  refine .guard (Mx d V R (q18 i)) (fun h => congrArg (Mx d V R) (show q15 i = q18 i from (if_neg h).symm)) (fun h16 hj => ?_) ?_
  · (try extract_lets -underBinder)
    refine wait_on 4 (N := (cc0_scratch12.dmaCredit S64x1024 .f32)) (by decide) (fun _ => rfl) ⟨_, rfl⟩ rfl ((by decide +kernel : ∀ i : grid0.Coords, k0_cond16 i = 1#1 → q15 i (chn 4 (k0_off29 i 0)) = true) i h16) (.conv (congrArg (Mx d V R) (show put (q15 i) (chn 4 (k0_off29 i 0)) false = q16 i from rfl)) ?_)
    (try extract_lets -underBinder)
    refine .guard (Mx d V R (q17 i)) (fun h => congrArg (Mx d V R) (show q16 i = q17 i from (if_neg h).symm)) (fun h17 hjh17 => ?_) ?_
    · (try extract_lets -underBinder)
      refine wait_on 5 (N := (main_v23_2.dmaCredit S64x1024 .bf16)) (by decide) (fun _ => rfl) ⟨_, rfl⟩ rfl ((by decide +kernel : ∀ i : grid0.Coords, k0_cond16 i = 1#1 → k0_cond17 i = 1#1 → q16 i (chn 5 (k0_off32 i 0)) = true) i h16 h17) (.conv (congrArg (Mx d V R) (show put (q16 i) (chn 5 (k0_off32 i 0)) false = q17 i from (if_pos h17).symm)) hjh17)
    (try extract_lets -underBinder)
    refine load_in 4 (by decide) (fun _ => rfl) (k0_off29 i 0) ((by decide +kernel : ∀ i : grid0.Coords, k0_off29 i 0 < 2) i) ((by decide +kernel : ∀ i : grid0.Coords, k0_cond16 i = 1#1 → q17 i (chn 4 (k0_off29 i 0)) = false) i h16) rfl ((by decide +kernel : ∀ i : grid0.Coords, k0_off35 i 0 = k0_off29 i 0) i) fun _ => ?_
    (try extract_lets -underBinder)
    refine load_out 5 (by decide) (fun _ => rfl) (k0_off29 i 0) ((by decide +kernel : ∀ i : grid0.Coords, k0_off29 i 0 < 2) i) ((by decide +kernel : ∀ i : grid0.Coords, k0_cond16 i = 1#1 → q17 i (chn 5 (k0_off29 i 0)) = false) i h16) rfl ((by decide +kernel : ∀ i : grid0.Coords, k0_off35 i 0 = k0_off29 i 0) i) fun _ => ?_
    (try extract_lets -underBinder)
    refine store_out 5 (by decide) (fun _ => rfl) (k0_off29 i 0) ((by decide +kernel : ∀ i : grid0.Coords, k0_off29 i 0 < 2) i) ((by decide +kernel : ∀ i : grid0.Coords, k0_cond16 i = 1#1 → q17 i (chn 5 (k0_off29 i 0)) = false) i h16) rfl ((by decide +kernel : ∀ i : grid0.Coords, k0_off35 i 0 = k0_off29 i 0) i) ?_
    (try extract_lets -underBinder)
    refine issue_out 5 (by decide) (fun _ => rfl) ⟨_, rfl⟩ rfl ((by decide +kernel : ∀ i : grid0.Coords, k0_off30 i 0 = k0_off29 i 0) i) rfl ((by decide +kernel : ∀ i : grid0.Coords, k0_off31 i 0 % 64 = 0 ∧ k0_off31 i 0 / 64 % 2 = k0_off29 i 0) i) rfl ((by decide +kernel : ∀ i : grid0.Coords, k0_cond16 i = 1#1 → q17 i (chn 5 (k0_off29 i 0)) = false) i h16) (.conv (congrArg (Mx d V R) (show put (q17 i) (chn 5 (k0_off29 i 0)) true = q18 i from (if_pos h16).symm)) hj)
  (try extract_lets -underBinder)
  exact .pure _

def q19 (i : grid0.Coords) : Fin 24 → Bool := put (q18 i) (chn 5 (k0_off36 i 0)) false

def q20 (i : grid0.Coords) : Fin 24 → Bool := if k0_cond18 i = 1#1 then put (q19 i) (chn 5 (k0_off39 i 0)) false else q18 i

def q21 (i : grid0.Coords) : Fin 24 → Bool := put (q20 i) (chn 6 (k0_off42 i 0)) false

def q22 (i : grid0.Coords) : Fin 24 → Bool := if k0_cond20 i = 1#1 then put (q21 i) (chn 7 (k0_off45 i 0)) false else q21 i

def q23 (i : grid0.Coords) : Fin 24 → Bool := if k0_cond19 i = 1#1 then put (q22 i) (chn 7 (k0_off42 i 0)) true else q20 i

def q24 (i : grid0.Coords) : Fin 24 → Bool := put (q23 i) (chn 7 (k0_off49 i 0)) false

def q25 (i : grid0.Coords) : Fin 24 → Bool := if k0_cond21 i = 1#1 then put (q24 i) (chn 7 (k0_off52 i 0)) false else q23 i

def q26 (i : grid0.Coords) : Fin 24 → Bool := put (q25 i) (chn 8 (k0_off55 i 0)) false

def q27 (i : grid0.Coords) : Fin 24 → Bool := if k0_cond23 i = 1#1 then put (q26 i) (chn 9 (k0_off58 i 0)) false else q26 i

def q28 (i : grid0.Coords) : Fin 24 → Bool := if k0_cond22 i = 1#1 then put (q27 i) (chn 9 (k0_off55 i 0)) true else q25 i

def q29 (i : grid0.Coords) : Fin 24 → Bool := put (q28 i) (chn 9 (k0_off62 i 0)) false

def q30 (i : grid0.Coords) : Fin 24 → Bool := if k0_cond24 i = 1#1 then put (q29 i) (chn 9 (k0_off65 i 0)) false else q28 i

def q31 (i : grid0.Coords) : Fin 24 → Bool := put (q30 i) (chn 10 (k0_off68 i 0)) false

def q32 (i : grid0.Coords) : Fin 24 → Bool := if k0_cond26 i = 1#1 then put (q31 i) (chn 11 (k0_off71 i 0)) false else q31 i

def q33 (i : grid0.Coords) : Fin 24 → Bool := if k0_cond25 i = 1#1 then put (q32 i) (chn 11 (k0_off68 i 0)) true else q30 i

def q34 (i : grid0.Coords) : Fin 24 → Bool := put (q33 i) (chn 11 (k0_off75 i 0)) false

def q35 (i : grid0.Coords) : Fin 24 → Bool := if k0_cond27 i = 1#1 then put (q34 i) (chn 11 (k0_off78 i 0)) false else q33 i

theorem run_part12 (h3 : Acc d R arg3 arg3.view.set) (h4 : Acc d R arg4 arg4.view.set) (h7 : Acc d R arg7 arg7.view.set) (h28 : Acc d R arg28 arg28.view.set) (h29 : Acc d R arg29 arg29.view.set) (h30 : Acc d R arg30 arg30.view.set) (h31 : Acc d R arg31 arg31.view.set) :
    Runs defs d (Mx d V R (q0 i)) (k0_part12 i arg2 harg2 arg3 harg3 arg4 harg4 (Memref.whole main_v7) (Memref.isWhole_whole _) arg6 harg6 arg7 harg7 arg8 harg8 arg9 harg9 (Memref.whole main_v8) (Memref.isWhole_whole _) arg11 harg11 arg12 harg12 arg13 harg13 arg14 harg14 arg15 harg15 arg16 harg16 (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) arg22 harg22 (Memref.whole main_v23_1) (Memref.isWhole_whole _) (Memref.whole main_v23_2) (Memref.isWhole_whole _) (Memref.whole main_v23_3) (Memref.isWhole_whole _) (Memref.whole main_v23_4) (Memref.isWhole_whole _) (Memref.whole main_v23_5) (Memref.isWhole_whole _) arg28 harg28 arg29 harg29 arg30 harg30 arg31 harg31 (Memref.whole cc0_scratch4) (Memref.isWhole_whole _) (Memref.whole cc0_scratch5) (Memref.isWhole_whole _) cc0_scratch6 cc0_scratch7 (Memref.whole cc0_scratch8) (Memref.isWhole_whole _) (Memref.whole cc0_scratch9) (Memref.isWhole_whole _) cc0_scratch10 cc0_scratch11 (Memref.whole cc0_scratch12) (Memref.isWhole_whole _) (Memref.whole cc0_scratch13) (Memref.isWhole_whole _) cc0_scratch14 cc0_scratch15 (Memref.whole cc0_scratch16) (Memref.isWhole_whole _) (Memref.whole cc0_scratch17) (Memref.isWhole_whole _) cc0_scratch18 cc0_scratch19 (Memref.whole cc0_scratch20) (Memref.isWhole_whole _) (Memref.whole cc0_scratch21) (Memref.isWhole_whole _) cc0_scratch22 cc0_scratch23 (Memref.whole cc0_scratch24) (Memref.isWhole_whole _) (Memref.whole cc0_scratch25) (Memref.isWhole_whole _) cc0_scratch26 cc0_scratch27) (fun _ => Mx d V R (phase (2 * (i 0).val + (i 1).val + 1))) := by
  unfold k0_part12
  (try extract_lets -underBinder)
  refine .guard (Mx d V R (q0 i)) (fun _ => rfl) (fun _ hj => ?_) ?_
  · refine .conv (congrArg (Mx d V R) (own_free (by exact (by decide +kernel : ∀ i : grid0.Coords, ∀ c : Fin 24, c.val < 4 → q0 i c = false) i)).symm) ?_
    (try extract_lets -underBinder)
    refine .bind (Y := Mx d V R (own (q0 i) true true false false)) (run_part1 h30 h31) fun _ => ?_
    (try extract_lets -underBinder)
    refine .bind (Y := Mx d V R (own (q0 i) false true false false)) (run_part2 h30 h31) fun _ => ?_
    (try extract_lets -underBinder)
    refine .bind (Y := Mx d V R (own (q0 i) false true false false)) (run_part3 h30 h31) fun _ => ?_
    (try extract_lets -underBinder)
    refine .bind (Y := Mx d V R (own (q0 i) true true false false)) (run_part4 h30 h31) fun _ => ?_
    (try extract_lets -underBinder)
    refine .bind (Y := Mx d V R (own (q0 i) false false true false)) (run_part5 h30 h31) fun _ => ?_
    (try extract_lets -underBinder)
    refine .bind (Y := Mx d V R (own (q0 i) false false true false)) (run_part6 h30 h31) fun _ => ?_
    (try extract_lets -underBinder)
    refine .bind (Y := Mx d V R (own (q0 i) false false true true)) (run_part7 h30 h31) fun _ => ?_
    (try extract_lets -underBinder)
    refine .bind (Y := Mx d V R (own (q0 i) false false false true)) (run_part8 h30 h31) fun _ => ?_
    (try extract_lets -underBinder)
    refine .bind (Y := Mx d V R (own (q0 i) false false false true)) (run_part9 h30 h31) fun _ => ?_
    (try extract_lets -underBinder)
    refine load_in 1 (by decide) (fun _ => rfl) 0 (by decide) rfl rfl rfl fun _ => ?_
    (try extract_lets -underBinder)
    refine .load h31.mx fun _ => ?_
    (try extract_lets -underBinder)
    refine .store h31.mx ?_
    (try extract_lets -underBinder)
    refine wait_on 1 (N := (cc0_scratch5.dmaCredit S128x1024 .f32)) (by decide) (fun _ => rfl) ⟨_, rfl⟩ rfl rfl (.conv (congrArg (Mx d V R) put_own3) ?_)
    (try extract_lets -underBinder)
    refine load_in 1 (by decide) (fun _ => rfl) 1 (by decide) rfl rfl rfl fun _ => ?_
    (try extract_lets -underBinder)
    refine .load h31.mx fun _ => ?_
    (try extract_lets -underBinder)
    refine .store h31.mx ?_
    (try extract_lets -underBinder)
    exact .conv (congrArg (Mx d V R) (own_free (by exact (by decide +kernel : ∀ i : grid0.Coords, ∀ c : Fin 24, c.val < 4 → q0 i c = false) i))) hj
  (try extract_lets -underBinder)
  refine .guard (Mx d V R (q35 i)) (fun h => absurd ((by decide +kernel : ∀ i : grid0.Coords, k0_cond2 i = 1#1) i) h) (fun h2 hj0 => ?_) ?_
  · (try extract_lets -underBinder)
    refine .bindEq _ (run_part10 h2) ?_
    (try extract_lets -underBinder)
    refine .bind (run_part11 h2) ?_
    rintro ⟨_, _, _, _⟩
    (try extract_lets -underBinder)
    refine .guard (Mx d V R (q20 i)) (fun h => congrArg (Mx d V R) (show q18 i = q20 i from (if_neg h).symm)) (fun h18 hj => ?_) ?_
    · (try extract_lets -underBinder)
      refine wait_on 5 (N := (main_v23_2.dmaCredit S64x1024 .bf16)) (by decide) (fun _ => rfl) ⟨_, rfl⟩ rfl ((by decide +kernel : ∀ i : grid0.Coords, k0_cond18 i = 1#1 → q18 i (chn 5 (k0_off36 i 0)) = true) i h18) (.conv (congrArg (Mx d V R) (show put (q18 i) (chn 5 (k0_off36 i 0)) false = q19 i from rfl)) ?_)
      (try extract_lets -underBinder)
      refine wait_on 5 (N := (main_v23_2.dmaCredit S64x1024 .bf16)) (by decide) (fun _ => rfl) ⟨_, rfl⟩ rfl ((by decide +kernel : ∀ i : grid0.Coords, k0_cond18 i = 1#1 → q19 i (chn 5 (k0_off39 i 0)) = true) i h18) (.conv (congrArg (Mx d V R) (show put (q19 i) (chn 5 (k0_off39 i 0)) false = q20 i from (if_pos h18).symm)) hj)
    (try extract_lets -underBinder)
    refine .guard (Mx d V R (q23 i)) (fun h => congrArg (Mx d V R) (show q20 i = q23 i from (if_neg h).symm)) (fun h19 hj => ?_) ?_
    · (try extract_lets -underBinder)
      refine wait_on 6 (N := (cc0_scratch16.dmaCredit S64x1024 .f32)) (by decide) (fun _ => rfl) ⟨_, rfl⟩ rfl ((by decide +kernel : ∀ i : grid0.Coords, k0_cond19 i = 1#1 → q20 i (chn 6 (k0_off42 i 0)) = true) i h19) (.conv (congrArg (Mx d V R) (show put (q20 i) (chn 6 (k0_off42 i 0)) false = q21 i from rfl)) ?_)
      (try extract_lets -underBinder)
      refine .guard (Mx d V R (q22 i)) (fun h => congrArg (Mx d V R) (show q21 i = q22 i from (if_neg h).symm)) (fun h20 hjh20 => ?_) ?_
      · (try extract_lets -underBinder)
        refine wait_on 7 (N := (main_v23_3.dmaCredit S64x1024 .bf16)) (by decide) (fun _ => rfl) ⟨_, rfl⟩ rfl ((by decide +kernel : ∀ i : grid0.Coords, k0_cond19 i = 1#1 → k0_cond20 i = 1#1 → q21 i (chn 7 (k0_off45 i 0)) = true) i h19 h20) (.conv (congrArg (Mx d V R) (show put (q21 i) (chn 7 (k0_off45 i 0)) false = q22 i from (if_pos h20).symm)) hjh20)
      (try extract_lets -underBinder)
      refine load_in 6 (by decide) (fun _ => rfl) (k0_off42 i 0) ((by decide +kernel : ∀ i : grid0.Coords, k0_off42 i 0 < 2) i) ((by decide +kernel : ∀ i : grid0.Coords, k0_cond19 i = 1#1 → q22 i (chn 6 (k0_off42 i 0)) = false) i h19) rfl ((by decide +kernel : ∀ i : grid0.Coords, k0_off48 i 0 = k0_off42 i 0) i) fun _ => ?_
      (try extract_lets -underBinder)
      refine load_out 7 (by decide) (fun _ => rfl) (k0_off42 i 0) ((by decide +kernel : ∀ i : grid0.Coords, k0_off42 i 0 < 2) i) ((by decide +kernel : ∀ i : grid0.Coords, k0_cond19 i = 1#1 → q22 i (chn 7 (k0_off42 i 0)) = false) i h19) rfl ((by decide +kernel : ∀ i : grid0.Coords, k0_off48 i 0 = k0_off42 i 0) i) fun _ => ?_
      (try extract_lets -underBinder)
      refine store_out 7 (by decide) (fun _ => rfl) (k0_off42 i 0) ((by decide +kernel : ∀ i : grid0.Coords, k0_off42 i 0 < 2) i) ((by decide +kernel : ∀ i : grid0.Coords, k0_cond19 i = 1#1 → q22 i (chn 7 (k0_off42 i 0)) = false) i h19) rfl ((by decide +kernel : ∀ i : grid0.Coords, k0_off48 i 0 = k0_off42 i 0) i) ?_
      (try extract_lets -underBinder)
      refine issue_out 7 (by decide) (fun _ => rfl) ⟨_, rfl⟩ rfl ((by decide +kernel : ∀ i : grid0.Coords, k0_off43 i 0 = k0_off42 i 0) i) rfl ((by decide +kernel : ∀ i : grid0.Coords, k0_off44 i 0 % 64 = 0 ∧ k0_off44 i 0 / 64 % 2 = k0_off42 i 0) i) rfl ((by decide +kernel : ∀ i : grid0.Coords, k0_cond19 i = 1#1 → q22 i (chn 7 (k0_off42 i 0)) = false) i h19) (.conv (congrArg (Mx d V R) (show put (q22 i) (chn 7 (k0_off42 i 0)) true = q23 i from (if_pos h19).symm)) hj)
    (try extract_lets -underBinder)
    refine .guard (Mx d V R (q25 i)) (fun h => congrArg (Mx d V R) (show q23 i = q25 i from (if_neg h).symm)) (fun h21 hj => ?_) ?_
    · (try extract_lets -underBinder)
      refine wait_on 7 (N := (main_v23_3.dmaCredit S64x1024 .bf16)) (by decide) (fun _ => rfl) ⟨_, rfl⟩ rfl ((by decide +kernel : ∀ i : grid0.Coords, k0_cond21 i = 1#1 → q23 i (chn 7 (k0_off49 i 0)) = true) i h21) (.conv (congrArg (Mx d V R) (show put (q23 i) (chn 7 (k0_off49 i 0)) false = q24 i from rfl)) ?_)
      (try extract_lets -underBinder)
      refine wait_on 7 (N := (main_v23_3.dmaCredit S64x1024 .bf16)) (by decide) (fun _ => rfl) ⟨_, rfl⟩ rfl ((by decide +kernel : ∀ i : grid0.Coords, k0_cond21 i = 1#1 → q24 i (chn 7 (k0_off52 i 0)) = true) i h21) (.conv (congrArg (Mx d V R) (show put (q24 i) (chn 7 (k0_off52 i 0)) false = q25 i from (if_pos h21).symm)) hj)
    (try extract_lets -underBinder)
    refine .guard (Mx d V R (q28 i)) (fun h => congrArg (Mx d V R) (show q25 i = q28 i from (if_neg h).symm)) (fun h22 hj => ?_) ?_
    · (try extract_lets -underBinder)
      refine wait_on 8 (N := (cc0_scratch20.dmaCredit S64x5632 .f32)) (by decide) (fun _ => rfl) ⟨_, rfl⟩ rfl ((by decide +kernel : ∀ i : grid0.Coords, k0_cond22 i = 1#1 → q25 i (chn 8 (k0_off55 i 0)) = true) i h22) (.conv (congrArg (Mx d V R) (show put (q25 i) (chn 8 (k0_off55 i 0)) false = q26 i from rfl)) ?_)
      (try extract_lets -underBinder)
      refine .guard (Mx d V R (q27 i)) (fun h => congrArg (Mx d V R) (show q26 i = q27 i from (if_neg h).symm)) (fun h23 hjh23 => ?_) ?_
      · (try extract_lets -underBinder)
        refine wait_on 9 (N := (main_v23_4.dmaCredit S64x5632 .bf16)) (by decide) (fun _ => rfl) ⟨_, rfl⟩ rfl ((by decide +kernel : ∀ i : grid0.Coords, k0_cond22 i = 1#1 → k0_cond23 i = 1#1 → q26 i (chn 9 (k0_off58 i 0)) = true) i h22 h23) (.conv (congrArg (Mx d V R) (show put (q26 i) (chn 9 (k0_off58 i 0)) false = q27 i from (if_pos h23).symm)) hjh23)
      (try extract_lets -underBinder)
      refine load_in 8 (by decide) (fun _ => rfl) (k0_off55 i 0) ((by decide +kernel : ∀ i : grid0.Coords, k0_off55 i 0 < 2) i) ((by decide +kernel : ∀ i : grid0.Coords, k0_cond22 i = 1#1 → q27 i (chn 8 (k0_off55 i 0)) = false) i h22) rfl ((by decide +kernel : ∀ i : grid0.Coords, k0_off61 i 0 = k0_off55 i 0) i) fun _ => ?_
      (try extract_lets -underBinder)
      refine load_out 9 (by decide) (fun _ => rfl) (k0_off55 i 0) ((by decide +kernel : ∀ i : grid0.Coords, k0_off55 i 0 < 2) i) ((by decide +kernel : ∀ i : grid0.Coords, k0_cond22 i = 1#1 → q27 i (chn 9 (k0_off55 i 0)) = false) i h22) rfl ((by decide +kernel : ∀ i : grid0.Coords, k0_off61 i 0 = k0_off55 i 0) i) fun _ => ?_
      (try extract_lets -underBinder)
      refine store_out 9 (by decide) (fun _ => rfl) (k0_off55 i 0) ((by decide +kernel : ∀ i : grid0.Coords, k0_off55 i 0 < 2) i) ((by decide +kernel : ∀ i : grid0.Coords, k0_cond22 i = 1#1 → q27 i (chn 9 (k0_off55 i 0)) = false) i h22) rfl ((by decide +kernel : ∀ i : grid0.Coords, k0_off61 i 0 = k0_off55 i 0) i) ?_
      (try extract_lets -underBinder)
      refine issue_out 9 (by decide) (fun _ => rfl) ⟨_, rfl⟩ rfl ((by decide +kernel : ∀ i : grid0.Coords, k0_off56 i 0 = k0_off55 i 0) i) rfl ((by decide +kernel : ∀ i : grid0.Coords, k0_off57 i 0 % 64 = 0 ∧ k0_off57 i 0 / 64 % 2 = k0_off55 i 0) i) rfl ((by decide +kernel : ∀ i : grid0.Coords, k0_cond22 i = 1#1 → q27 i (chn 9 (k0_off55 i 0)) = false) i h22) (.conv (congrArg (Mx d V R) (show put (q27 i) (chn 9 (k0_off55 i 0)) true = q28 i from (if_pos h22).symm)) hj)
    (try extract_lets -underBinder)
    refine .guard (Mx d V R (q30 i)) (fun h => congrArg (Mx d V R) (show q28 i = q30 i from (if_neg h).symm)) (fun h24 hj => ?_) ?_
    · (try extract_lets -underBinder)
      refine wait_on 9 (N := (main_v23_4.dmaCredit S64x5632 .bf16)) (by decide) (fun _ => rfl) ⟨_, rfl⟩ rfl ((by decide +kernel : ∀ i : grid0.Coords, k0_cond24 i = 1#1 → q28 i (chn 9 (k0_off62 i 0)) = true) i h24) (.conv (congrArg (Mx d V R) (show put (q28 i) (chn 9 (k0_off62 i 0)) false = q29 i from rfl)) ?_)
      (try extract_lets -underBinder)
      refine wait_on 9 (N := (main_v23_4.dmaCredit S64x5632 .bf16)) (by decide) (fun _ => rfl) ⟨_, rfl⟩ rfl ((by decide +kernel : ∀ i : grid0.Coords, k0_cond24 i = 1#1 → q29 i (chn 9 (k0_off65 i 0)) = true) i h24) (.conv (congrArg (Mx d V R) (show put (q29 i) (chn 9 (k0_off65 i 0)) false = q30 i from (if_pos h24).symm)) hj)
    (try extract_lets -underBinder)
    refine .guard (Mx d V R (q33 i)) (fun h => congrArg (Mx d V R) (show q30 i = q33 i from (if_neg h).symm)) (fun h25 hj => ?_) ?_
    · (try extract_lets -underBinder)
      refine wait_on 10 (N := (cc0_scratch24.dmaCredit S176x1024 .f32)) (by decide) (fun _ => rfl) ⟨_, rfl⟩ rfl ((by decide +kernel : ∀ i : grid0.Coords, k0_cond25 i = 1#1 → q30 i (chn 10 (k0_off68 i 0)) = true) i h25) (.conv (congrArg (Mx d V R) (show put (q30 i) (chn 10 (k0_off68 i 0)) false = q31 i from rfl)) ?_)
      (try extract_lets -underBinder)
      refine .guard (Mx d V R (q32 i)) (fun h => congrArg (Mx d V R) (show q31 i = q32 i from (if_neg h).symm)) (fun h26 hjh26 => ?_) ?_
      · (try extract_lets -underBinder)
        refine wait_on 11 (N := (main_v23_5.dmaCredit S176x1024 .bf16)) (by decide) (fun _ => rfl) ⟨_, rfl⟩ rfl ((by decide +kernel : ∀ i : grid0.Coords, k0_cond25 i = 1#1 → k0_cond26 i = 1#1 → q31 i (chn 11 (k0_off71 i 0)) = true) i h25 h26) (.conv (congrArg (Mx d V R) (show put (q31 i) (chn 11 (k0_off71 i 0)) false = q32 i from (if_pos h26).symm)) hjh26)
      (try extract_lets -underBinder)
      refine load_in 10 (by decide) (fun _ => rfl) (k0_off68 i 0) ((by decide +kernel : ∀ i : grid0.Coords, k0_off68 i 0 < 2) i) ((by decide +kernel : ∀ i : grid0.Coords, k0_cond25 i = 1#1 → q32 i (chn 10 (k0_off68 i 0)) = false) i h25) rfl ((by decide +kernel : ∀ i : grid0.Coords, k0_off74 i 0 = k0_off68 i 0) i) fun _ => ?_
      (try extract_lets -underBinder)
      refine load_out 11 (by decide) (fun _ => rfl) (k0_off68 i 0) ((by decide +kernel : ∀ i : grid0.Coords, k0_off68 i 0 < 2) i) ((by decide +kernel : ∀ i : grid0.Coords, k0_cond25 i = 1#1 → q32 i (chn 11 (k0_off68 i 0)) = false) i h25) rfl ((by decide +kernel : ∀ i : grid0.Coords, k0_off74 i 0 = k0_off68 i 0) i) fun _ => ?_
      (try extract_lets -underBinder)
      refine store_out 11 (by decide) (fun _ => rfl) (k0_off68 i 0) ((by decide +kernel : ∀ i : grid0.Coords, k0_off68 i 0 < 2) i) ((by decide +kernel : ∀ i : grid0.Coords, k0_cond25 i = 1#1 → q32 i (chn 11 (k0_off68 i 0)) = false) i h25) rfl ((by decide +kernel : ∀ i : grid0.Coords, k0_off74 i 0 = k0_off68 i 0) i) ?_
      (try extract_lets -underBinder)
      refine issue_out 11 (by decide) (fun _ => rfl) ⟨_, rfl⟩ rfl ((by decide +kernel : ∀ i : grid0.Coords, k0_off69 i 0 = k0_off68 i 0) i) rfl ((by decide +kernel : ∀ i : grid0.Coords, k0_off70 i 0 % 176 = 0 ∧ k0_off70 i 0 / 176 % 2 = k0_off68 i 0) i) rfl ((by decide +kernel : ∀ i : grid0.Coords, k0_cond25 i = 1#1 → q32 i (chn 11 (k0_off68 i 0)) = false) i h25) (.conv (congrArg (Mx d V R) (show put (q32 i) (chn 11 (k0_off68 i 0)) true = q33 i from (if_pos h25).symm)) hj)
    (try extract_lets -underBinder)
    refine .guard (Mx d V R (q35 i)) (fun h => congrArg (Mx d V R) (show q33 i = q35 i from (if_neg h).symm)) (fun h27 hj => ?_) ?_
    · (try extract_lets -underBinder)
      refine wait_on 11 (N := (main_v23_5.dmaCredit S176x1024 .bf16)) (by decide) (fun _ => rfl) ⟨_, rfl⟩ rfl ((by decide +kernel : ∀ i : grid0.Coords, k0_cond27 i = 1#1 → q33 i (chn 11 (k0_off75 i 0)) = true) i h27) (.conv (congrArg (Mx d V R) (show put (q33 i) (chn 11 (k0_off75 i 0)) false = q34 i from rfl)) ?_)
      (try extract_lets -underBinder)
      refine wait_on 11 (N := (main_v23_5.dmaCredit S176x1024 .bf16)) (by decide) (fun _ => rfl) ⟨_, rfl⟩ rfl ((by decide +kernel : ∀ i : grid0.Coords, k0_cond27 i = 1#1 → q34 i (chn 11 (k0_off78 i 0)) = true) i h27) (.conv (congrArg (Mx d V R) (show put (q34 i) (chn 11 (k0_off78 i 0)) false = q35 i from (if_pos h27).symm)) hj)
    exact hj0
  (try extract_lets -underBinder)
  refine .guard (Mx d V R (q35 i)) (fun _ => rfl) (fun _ hj => ?_) ?_
  · (try extract_lets -underBinder)
    refine .load h28.mx fun _ => ?_
    (try extract_lets -underBinder)
    refine .store h28.mx ?_
    (try extract_lets -underBinder)
    refine .load h29.mx fun _ => ?_
    (try extract_lets -underBinder)
    refine .store h29.mx ?_
    (try extract_lets -underBinder)
    exact hj
  (try extract_lets -underBinder)
  refine .load h3.mx fun _ => ?_
  (try extract_lets -underBinder)
  refine .load h4.mx fun _ => ?_
  (try extract_lets -underBinder)
  refine .load h7.mx fun _ => ?_
  (try extract_lets -underBinder)
  exact .conv (congrArg (Mx d V R) (funext fun c => (by decide +kernel : ∀ i : grid0.Coords, ∀ c : Fin 24, q35 i c = phase (2 * (i 0).val + (i 1).val + 1) c) i c)) (.pure _)

end Cert.Kernel3Ideal
-- ==== Proof.MixerWhole.lean ====
module

public import proofs.«01_k».proof.Proof.MixerTable

/-!
A pair of channels at rest: its two slots make up the whole of its buffers.
-/

@[expose] public section

set_option maxRecDepth 16384

noncomputable section

namespace Cert.Mixer

open Idealize.ShloMosaic
open Idealize.SL Idealize.SL.RA Idealize.SL.BI
open Idealize.SL.BI (sProp Storable)
open scoped Idealize.SL.BI
open Idealize.SL.BI.BIBase Idealize.SL.BI.Laws Idealize.SL.ProofMode Idealize.SL.Sem

section Whole

variable {nD : Nat} {τ : Topo} {sig : RefSig} {Val : EltTy → Type} [∀ e, Nonempty (Val e)] {d : Dev nD}

theorem rows_apart {s : Shape} {a : Fin s.rank} {f : ℕ → ℕ} : Disjoint (rows s a f 0) (rows s a f 1) :=
  Finset.disjoint_filter.2 fun _ _ h h' => by omega

theorem rows_cover {s : Shape} {a : Fin s.rank} {f : ℕ → ℕ} (h : ∀ r, r < s.size a → f r < 2) : rows s a f 0 ∪ rows s a f 1 = Finset.univ := by
  ext ix
  have := h (ix a).val (ix a).isLt
  simp only [rows, Finset.mem_union, Finset.mem_filter, Finset.mem_univ, true_and, iff_true]
  omega

theorem rows_on {sp : Space} {s : Shape} {e : EltTy} {m : Memref sig .tc sp s e} {a : Fin s.rank} {f : ℕ → ℕ}
    (hm : m.view.setOn Finset.univ = Finset.univ) (h : ∀ r, r < s.size a → f r < 2) :
    Disjoint (m.view.setOn (rows s a f 0)) (m.view.setOn (rows s a f 1))
      ∧ m.view.setOn (rows s a f 0) ∪ m.view.setOn (rows s a f 1) = Finset.univ := by
  unfold View.setOn at *
  exact ⟨(Finset.disjoint_map _).2 rows_apart, by rw [← Finset.map_union, rows_cover h, hm]⟩

/-- A region in two parts, at whatever they hold. -/
theorem parts {ℓ : Loc nD τ sig} {S T : Finset (Idx ℓ)} (h : Disjoint S T ∧ S ∪ T = Finset.univ) :
    iprop(∃ f : Buf Val ℓ, ℓ ↦{fullShare} f)
      ⊣⊢ (iprop((∃ f : Buf Val ℓ, (ℓ ↦[S]{fullShare} f)) ∗ ∃ f : Buf Val ℓ, (ℓ ↦[T]{fullShare} f)) : sProp (MT nD τ sig Unit Val ℕ (Pipeline.UD sig nD τ) ℕ)) := by
  constructor
  · iintro ⟨%f, H⟩
    rw [← h.2]
    ihave H2 := (pointsTo_union h.1).1 $$ H
    icases H2 with ⟨H1, H2⟩
    isplitl [H1]
    · iexists f; iexact H1
    iexists f; iexact H2
  · iintro ⟨⟨%f, H1⟩, %g, H2⟩
    ihave H := (pointsTo_join h.1) $$ [H1 H2]
    · isplitl [H1]; · iexact H1
      iexact H2
    rw [h.2]
    iexists _
    iexact H

variable {sp sp' : Space} {s s' : Shape} {e e' : EltTy} {mA : Memref sig .tc sp s e} {mB : Memref sig .tc sp' s' e'} {N : ℕ}

/-- The two slots of a read: the buffer whole, and the source whole. -/
theorem read_pair {a : Fin s'.rank} {f : ℕ → ℕ} {v : Buf Val (mA.view.loc (d.tc : Thread nD τ))} (hA : mA.view.setOn Finset.univ = Finset.univ)
    (hB : mB.view.setOn Finset.univ = Finset.univ) (h : ∀ r, r < s'.size a → f r < 2) :
    iprop((∃ g : Buf Val (mB.view.loc (d.tc : Thread nD τ)), mB.view.loc d.tc ↦{fullShare} g) ∗ (mA.view.loc (d.tc : Thread nD τ) ↦{fullShare} v))
      ⊣⊢ (iprop(Pair (chan d mA Finset.univ mB (rows s' a f 0) (half 0) (fun g => g = v) N)
        ∗ Pair (chan d mA Finset.univ mB (rows s' a f 1) (half 1) (fun g => g = v) N)) : sProp (MT nD τ sig Unit Val ℕ (Pipeline.UD sig nD τ) ℕ)) := by
  unfold Pair chan half
  dsimp only
  rw [hA]
  constructor
  · iintro ⟨HB, HA⟩
    ihave HB2 := (parts (rows_on hB h)).1 $$ HB
    ihave HA2 := (pointsTo_share (PosShare.mem_left_op_right fullShare)).1 $$ HA
    icases HB2 with ⟨HB0, HB1⟩
    icases HA2 with ⟨HA0, HA1⟩
    isplitl [HB0 HA0]
    · isplitl [HA0]
      · iexists v
        isplitr; · ipureintro; rfl
        iexact HA0
      iexact HB0
    · isplitl [HA1]
      · iexists v
        isplitr; · ipureintro; rfl
        iexact HA1
      iexact HB1
  · iintro ⟨⟨⟨%f0, %h0, HA0⟩, HB0⟩, ⟨⟨%f1, %h1, HA1⟩, HB1⟩⟩
    subst h0
    subst h1
    isplitl [HB0 HB1]
    · iapply (parts (rows_on hB h)).2 $$ [HB0 HB1]
      isplitl [HB0]; · iexact HB0
      iexact HB1
    · iapply (pointsTo_share (PosShare.mem_left_op_right fullShare)).2 $$ [HA0 HA1]
      isplitl [HA0]; · iexact HA0
      iexact HA1

/-- The two slots of a write: the buffer whole, and the result whole. -/
theorem write_pair {a : Fin s.rank} {f : ℕ → ℕ} {b : Fin s'.rank} {g : ℕ → ℕ} (hA : mA.view.setOn Finset.univ = Finset.univ)
    (hB : mB.view.setOn Finset.univ = Finset.univ) (h : ∀ r, r < s.size a → f r < 2) (h' : ∀ r, r < s'.size b → g r < 2) :
    iprop((∃ v : Buf Val (mA.view.loc (d.tc : Thread nD τ)), mA.view.loc d.tc ↦{fullShare} v)
        ∗ ∃ v : Buf Val (mB.view.loc (d.tc : Thread nD τ)), mB.view.loc d.tc ↦{fullShare} v)
      ⊣⊢ (iprop(Pair (chan d mA (rows s a f 0) mB (rows s' b g 0) fullShare (fun _ => True) N)
        ∗ Pair (chan d mA (rows s a f 1) mB (rows s' b g 1) fullShare (fun _ => True) N)) : sProp (MT nD τ sig Unit Val ℕ (Pipeline.UD sig nD τ) ℕ)) := by
  unfold Pair chan
  dsimp only
  constructor
  · iintro ⟨HA, HB⟩
    ihave HA2 := (parts (rows_on hA h)).1 $$ HA
    ihave HB2 := (parts (rows_on hB h')).1 $$ HB
    icases HA2 with ⟨⟨%f0, HA0⟩, %f1, HA1⟩
    icases HB2 with ⟨HB0, HB1⟩
    isplitl [HB0 HA0]
    · isplitl [HA0]
      · iexists f0
        isplitr; · ipureintro; trivial
        iexact HA0
      iexact HB0
    · isplitl [HA1]
      · iexists f1
        isplitr; · ipureintro; trivial
        iexact HA1
      iexact HB1
  · iintro ⟨⟨⟨%f0, %_h0, HA0⟩, HB0⟩, ⟨⟨%f1, %_h1, HA1⟩, HB1⟩⟩
    isplitl [HA0 HA1]
    · iapply (parts (rows_on hA h)).2 $$ [HA0 HA1]
      isplitl [HA0]
      · iexists f0; iexact HA0
      iexists f1; iexact HA1
    · iapply (parts (rows_on hB h')).2 $$ [HB0 HB1]
      isplitl [HB0]; · iexact HB0
      iexact HB1

/-- A table at rest: the counters at zero, and what the channels hold. -/
theorem rest_cells {n : ℕ} {sm : Fin n → SemLoc sig} {D : Fin n → Chan nD τ sig Val} {σ : Fin n → Bool} (h : ∀ ch, σ ch = false) :
    (bigSep Finset.univ fun ch => Cell d (sm ch) (D ch) (σ ch))
      = (iprop((bigSep Finset.univ fun ch => semVal (d.tc, sm ch) 0) ∗ bigSep Finset.univ fun ch => Pair (D ch))
        : sProp (MT nD τ sig Unit Val ℕ (Pipeline.UD sig nD τ) ℕ)) := by
  refine Eq.trans ?_ (bigSep_sep Finset.univ _ _)
  refine congrArg (bigSep Finset.univ) (funext fun ch => ?_)
  rw [h ch]
  rfl

/-- A window's staging buffer, at whatever it holds. -/
theorem Acc.staged : Acc d iprop(∃ X : s.Idx → Val e, owns (d.tc : Thread nD τ) mA fullShare X) mA mA.view.set := by
  unfold Acc owns
  iintro ⟨%X, %f, %h, Hf⟩
  iexists f
  isplitl [Hf]; · iexact Hf
  iintro ⟨%g, Hg⟩
  iexists (mA.view.read Val g), g
  isplitr; · ipureintro; rfl
  iexact Hg

theorem Acc.among {n : ℕ} {Φ : Fin n → sProp (MT nD τ sig Unit Val ℕ (Pipeline.UD sig nD τ) ℕ)} {A : Finset (Idx (mA.view.loc (d.tc : Thread nD τ)))}
    (w : Fin n) (h : Acc d (Φ w) mA A) : Acc d (bigSep Finset.univ Φ) mA A := by
  rw [bigSep_take w]
  exact Acc.sep_left h

end Whole

end Cert.Mixer

end
-- ==== Proof.MixerPairs.lean ====
module

public import proofs.«01_k».proof.Proof.Gen.Kernel3Ideal.Frame
public import proofs.«01_k».proof.Proof.MixerWhole

/-!
Each of the mixer's pairs at rest: the two slots make up the whole of its buffers.
-/

@[expose] public section

set_option maxRecDepth 16384

noncomputable section

namespace Cert.Kernel3Ideal

open Idealize.ShloMosaic Idealize.ShloMosaic.TcCoe Idealize.ShloMosaic.Tactic
open Idealize.SL Idealize.SL.RA Idealize.SL.BI
open Idealize.SL.BI (sProp Storable)
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Mixer Cert.Kernel3Ideal.Gen

attribute [local instance] Gen.facts

section Pairs

variable {F : FTy → Type} [FloatOps F] {d : Dev nD} {V : (b : Ref sig .tc) → Buf (Elt F) ((d.tc : Thread nD τ).loc b)}

theorem whole_on (b : Ref sig .tc) : (Memref.whole b).view.setOn Finset.univ = Finset.univ := Finset.map_refl

theorem two (r : ℕ) (h : r < 2) : id r < 2 := h
theorem alt {n : ℕ} (B r : ℕ) (_ : r < n) : r / B % 2 < 2 := Nat.mod_lt _ (by decide)

theorem pair0 : iprop((∃ f : Buf (Elt F) ((d.tc : Thread nD τ).loc cc0_scratch4), ((d.tc : Thread nD τ).loc cc0_scratch4) ↦{fullShare} f) ∗ (((d.tc : Thread nD τ).loc main_v7) ↦{fullShare} V main_v7))
    ⊣⊢ (iprop(Pair (tab d V 0 0) ∗ Pair (tab d V 0 1)) : sProp (MT nD τ sig Unit (Elt F) ℕ (Pipeline.UD sig nD τ) ℕ)) :=
  read_pair (d := d) (mA := (Memref.whole main_v7 : Memref sig .tc .hbm S1024x2816 .f32)) (mB := (Memref.whole cc0_scratch4 : Memref sig .tc .vmem S2x128x2816 .f32)) (a := 0) (f := id) (v := V main_v7)
    (N := cc0_scratch4.dmaCredit S128x2816 .f32) (whole_on main_v7) (whole_on cc0_scratch4) two

theorem pair1 : iprop((∃ f : Buf (Elt F) ((d.tc : Thread nD τ).loc cc0_scratch5), ((d.tc : Thread nD τ).loc cc0_scratch5) ↦{fullShare} f) ∗ (((d.tc : Thread nD τ).loc main_v8) ↦{fullShare} V main_v8))
    ⊣⊢ (iprop(Pair (tab d V 1 0) ∗ Pair (tab d V 1 1)) : sProp (MT nD τ sig Unit (Elt F) ℕ (Pipeline.UD sig nD τ) ℕ)) :=
  read_pair (d := d) (mA := (Memref.whole main_v8 : Memref sig .tc .hbm S1024x1024 .f32)) (mB := (Memref.whole cc0_scratch5 : Memref sig .tc .vmem S2x128x1024 .f32)) (a := 0) (f := id) (v := V main_v8)
    (N := cc0_scratch5.dmaCredit S128x1024 .f32) (whole_on main_v8) (whole_on cc0_scratch5) two

theorem pair2 : iprop((∃ f : Buf (Elt F) ((d.tc : Thread nD τ).loc cc0_scratch8), ((d.tc : Thread nD τ).loc cc0_scratch8) ↦{fullShare} f) ∗ (((d.tc : Thread nD τ).loc main_v0) ↦{fullShare} V main_v0))
    ⊣⊢ (iprop(Pair (tab d V 2 0) ∗ Pair (tab d V 2 1)) : sProp (MT nD τ sig Unit (Elt F) ℕ (Pipeline.UD sig nD τ) ℕ)) :=
  read_pair (d := d) (mA := (Memref.whole main_v0 : Memref sig .tc .hbm S1024x2048 .f32)) (mB := (Memref.whole cc0_scratch8 : Memref sig .tc .vmem S2x64x2048 .f32)) (a := 0) (f := id) (v := V main_v0)
    (N := cc0_scratch8.dmaCredit S64x2048 .f32) (whole_on main_v0) (whole_on cc0_scratch8) two

theorem pair3 : iprop((∃ f : Buf (Elt F) ((d.tc : Thread nD τ).loc cc0_scratch9), ((d.tc : Thread nD τ).loc cc0_scratch9) ↦{fullShare} f) ∗ (∃ f : Buf (Elt F) ((d.tc : Thread nD τ).loc main_v23_1), ((d.tc : Thread nD τ).loc main_v23_1) ↦{fullShare} f))
    ⊣⊢ (iprop(Pair (tab d V 3 0) ∗ Pair (tab d V 3 1)) : sProp (MT nD τ sig Unit (Elt F) ℕ (Pipeline.UD sig nD τ) ℕ)) :=
  write_pair (d := d) (mA := (Memref.whole cc0_scratch9 : Memref sig .tc .vmem S2x64x2048 .bf16)) (mB := (Memref.whole main_v23_1 : Memref sig .tc .hbm S1024x2048 .bf16)) (a := 0) (b := 0) (f := id)
    (g := fun r => r / 64 % 2) (N := main_v23_1.dmaCredit S64x2048 .bf16) (whole_on cc0_scratch9) (whole_on main_v23_1) two (alt _)

theorem pair4 : iprop((∃ f : Buf (Elt F) ((d.tc : Thread nD τ).loc cc0_scratch12), ((d.tc : Thread nD τ).loc cc0_scratch12) ↦{fullShare} f) ∗ (((d.tc : Thread nD τ).loc main_v1) ↦{fullShare} V main_v1))
    ⊣⊢ (iprop(Pair (tab d V 4 0) ∗ Pair (tab d V 4 1)) : sProp (MT nD τ sig Unit (Elt F) ℕ (Pipeline.UD sig nD τ) ℕ)) :=
  read_pair (d := d) (mA := (Memref.whole main_v1 : Memref sig .tc .hbm S1024x1024 .f32)) (mB := (Memref.whole cc0_scratch12 : Memref sig .tc .vmem S2x64x1024 .f32)) (a := 0) (f := id) (v := V main_v1)
    (N := cc0_scratch12.dmaCredit S64x1024 .f32) (whole_on main_v1) (whole_on cc0_scratch12) two

theorem pair5 : iprop((∃ f : Buf (Elt F) ((d.tc : Thread nD τ).loc cc0_scratch13), ((d.tc : Thread nD τ).loc cc0_scratch13) ↦{fullShare} f) ∗ (∃ f : Buf (Elt F) ((d.tc : Thread nD τ).loc main_v23_2), ((d.tc : Thread nD τ).loc main_v23_2) ↦{fullShare} f))
    ⊣⊢ (iprop(Pair (tab d V 5 0) ∗ Pair (tab d V 5 1)) : sProp (MT nD τ sig Unit (Elt F) ℕ (Pipeline.UD sig nD τ) ℕ)) :=
  write_pair (d := d) (mA := (Memref.whole cc0_scratch13 : Memref sig .tc .vmem S2x64x1024 .bf16)) (mB := (Memref.whole main_v23_2 : Memref sig .tc .hbm S1024x1024 .bf16)) (a := 0) (b := 0) (f := id)
    (g := fun r => r / 64 % 2) (N := main_v23_2.dmaCredit S64x1024 .bf16) (whole_on cc0_scratch13) (whole_on main_v23_2) two (alt _)

theorem pair6 : iprop((∃ f : Buf (Elt F) ((d.tc : Thread nD τ).loc cc0_scratch16), ((d.tc : Thread nD τ).loc cc0_scratch16) ↦{fullShare} f) ∗ (((d.tc : Thread nD τ).loc main_v2) ↦{fullShare} V main_v2))
    ⊣⊢ (iprop(Pair (tab d V 6 0) ∗ Pair (tab d V 6 1)) : sProp (MT nD τ sig Unit (Elt F) ℕ (Pipeline.UD sig nD τ) ℕ)) :=
  read_pair (d := d) (mA := (Memref.whole main_v2 : Memref sig .tc .hbm S1024x1024 .f32)) (mB := (Memref.whole cc0_scratch16 : Memref sig .tc .vmem S2x64x1024 .f32)) (a := 0) (f := id) (v := V main_v2)
    (N := cc0_scratch16.dmaCredit S64x1024 .f32) (whole_on main_v2) (whole_on cc0_scratch16) two

theorem pair7 : iprop((∃ f : Buf (Elt F) ((d.tc : Thread nD τ).loc cc0_scratch17), ((d.tc : Thread nD τ).loc cc0_scratch17) ↦{fullShare} f) ∗ (∃ f : Buf (Elt F) ((d.tc : Thread nD τ).loc main_v23_3), ((d.tc : Thread nD τ).loc main_v23_3) ↦{fullShare} f))
    ⊣⊢ (iprop(Pair (tab d V 7 0) ∗ Pair (tab d V 7 1)) : sProp (MT nD τ sig Unit (Elt F) ℕ (Pipeline.UD sig nD τ) ℕ)) :=
  write_pair (d := d) (mA := (Memref.whole cc0_scratch17 : Memref sig .tc .vmem S2x64x1024 .bf16)) (mB := (Memref.whole main_v23_3 : Memref sig .tc .hbm S1024x1024 .bf16)) (a := 0) (b := 0) (f := id)
    (g := fun r => r / 64 % 2) (N := main_v23_3.dmaCredit S64x1024 .bf16) (whole_on cc0_scratch17) (whole_on main_v23_3) two (alt _)

theorem pair8 : iprop((∃ f : Buf (Elt F) ((d.tc : Thread nD τ).loc cc0_scratch20), ((d.tc : Thread nD τ).loc cc0_scratch20) ↦{fullShare} f) ∗ (((d.tc : Thread nD τ).loc main_v3) ↦{fullShare} V main_v3))
    ⊣⊢ (iprop(Pair (tab d V 8 0) ∗ Pair (tab d V 8 1)) : sProp (MT nD τ sig Unit (Elt F) ℕ (Pipeline.UD sig nD τ) ℕ)) :=
  read_pair (d := d) (mA := (Memref.whole main_v3 : Memref sig .tc .hbm S1024x5632 .f32)) (mB := (Memref.whole cc0_scratch20 : Memref sig .tc .vmem S2x64x5632 .f32)) (a := 0) (f := id) (v := V main_v3)
    (N := cc0_scratch20.dmaCredit S64x5632 .f32) (whole_on main_v3) (whole_on cc0_scratch20) two

theorem pair9 : iprop((∃ f : Buf (Elt F) ((d.tc : Thread nD τ).loc cc0_scratch21), ((d.tc : Thread nD τ).loc cc0_scratch21) ↦{fullShare} f) ∗ (∃ f : Buf (Elt F) ((d.tc : Thread nD τ).loc main_v23_4), ((d.tc : Thread nD τ).loc main_v23_4) ↦{fullShare} f))
    ⊣⊢ (iprop(Pair (tab d V 9 0) ∗ Pair (tab d V 9 1)) : sProp (MT nD τ sig Unit (Elt F) ℕ (Pipeline.UD sig nD τ) ℕ)) :=
  write_pair (d := d) (mA := (Memref.whole cc0_scratch21 : Memref sig .tc .vmem S2x64x5632 .bf16)) (mB := (Memref.whole main_v23_4 : Memref sig .tc .hbm S1024x5632 .bf16)) (a := 0) (b := 0) (f := id)
    (g := fun r => r / 64 % 2) (N := main_v23_4.dmaCredit S64x5632 .bf16) (whole_on cc0_scratch21) (whole_on main_v23_4) two (alt _)

theorem pair10 : iprop((∃ f : Buf (Elt F) ((d.tc : Thread nD τ).loc cc0_scratch24), ((d.tc : Thread nD τ).loc cc0_scratch24) ↦{fullShare} f) ∗ (((d.tc : Thread nD τ).loc main_v4) ↦{fullShare} V main_v4))
    ⊣⊢ (iprop(Pair (tab d V 10 0) ∗ Pair (tab d V 10 1)) : sProp (MT nD τ sig Unit (Elt F) ℕ (Pipeline.UD sig nD τ) ℕ)) :=
  read_pair (d := d) (mA := (Memref.whole main_v4 : Memref sig .tc .hbm S2816x1024 .f32)) (mB := (Memref.whole cc0_scratch24 : Memref sig .tc .vmem S2x176x1024 .f32)) (a := 0) (f := id) (v := V main_v4)
    (N := cc0_scratch24.dmaCredit S176x1024 .f32) (whole_on main_v4) (whole_on cc0_scratch24) two

theorem pair11 : iprop((∃ f : Buf (Elt F) ((d.tc : Thread nD τ).loc cc0_scratch25), ((d.tc : Thread nD τ).loc cc0_scratch25) ↦{fullShare} f) ∗ (∃ f : Buf (Elt F) ((d.tc : Thread nD τ).loc main_v23_5), ((d.tc : Thread nD τ).loc main_v23_5) ↦{fullShare} f))
    ⊣⊢ (iprop(Pair (tab d V 11 0) ∗ Pair (tab d V 11 1)) : sProp (MT nD τ sig Unit (Elt F) ℕ (Pipeline.UD sig nD τ) ℕ)) :=
  write_pair (d := d) (mA := (Memref.whole cc0_scratch25 : Memref sig .tc .vmem S2x176x1024 .bf16)) (mB := (Memref.whole main_v23_5 : Memref sig .tc .hbm S2816x1024 .bf16)) (a := 0) (b := 0) (f := id)
    (g := fun r => r / 176 % 2) (N := main_v23_5.dmaCredit S176x1024 .bf16) (whole_on cc0_scratch25) (whole_on main_v23_5) two (alt _)

theorem pairs_list : (bigSep Finset.univ fun ch : Fin 24 => Pair (tabs d V ch) : sProp (MT nD τ sig Unit (Elt F) ℕ (Pipeline.UD sig nD τ) ℕ))
    = iprop(Pair (tab d V 0 0) ∗ Pair (tab d V 0 1) ∗ Pair (tab d V 1 0) ∗ Pair (tab d V 1 1) ∗ Pair (tab d V 2 0) ∗ Pair (tab d V 2 1) ∗ Pair (tab d V 3 0) ∗ Pair (tab d V 3 1) ∗ Pair (tab d V 4 0) ∗ Pair (tab d V 4 1) ∗ Pair (tab d V 5 0) ∗ Pair (tab d V 5 1) ∗ Pair (tab d V 6 0) ∗ Pair (tab d V 6 1) ∗ Pair (tab d V 7 0) ∗ Pair (tab d V 7 1) ∗ Pair (tab d V 8 0) ∗ Pair (tab d V 8 1) ∗ Pair (tab d V 9 0) ∗ Pair (tab d V 9 1) ∗ Pair (tab d V 10 0) ∗ Pair (tab d V 10 1) ∗ Pair (tab d V 11 0) ∗ Pair (tab d V 11 1)) := by
  rw [BI.bigSep_univ_eq_bigSepL [0, 1, 2, 3, 4, 5, 6, 7, 8, 9, 10, 11, 12, 13, 14, 15, 16, 17, 18, 19, 20, 21, 22, 23] (by decide) (by decide)]; rfl

/-- Every buffer of the channels whole, and the channels at rest. -/
theorem pairs_whole : iprop(((∃ f : Buf (Elt F) ((d.tc : Thread nD τ).loc cc0_scratch4), ((d.tc : Thread nD τ).loc cc0_scratch4) ↦{fullShare} f) ∗ (∃ f : Buf (Elt F) ((d.tc : Thread nD τ).loc cc0_scratch5), ((d.tc : Thread nD τ).loc cc0_scratch5) ↦{fullShare} f) ∗ (∃ f : Buf (Elt F) ((d.tc : Thread nD τ).loc cc0_scratch8), ((d.tc : Thread nD τ).loc cc0_scratch8) ↦{fullShare} f) ∗ (∃ f : Buf (Elt F) ((d.tc : Thread nD τ).loc cc0_scratch9), ((d.tc : Thread nD τ).loc cc0_scratch9) ↦{fullShare} f) ∗ (∃ f : Buf (Elt F) ((d.tc : Thread nD τ).loc cc0_scratch12), ((d.tc : Thread nD τ).loc cc0_scratch12) ↦{fullShare} f) ∗ (∃ f : Buf (Elt F) ((d.tc : Thread nD τ).loc cc0_scratch13), ((d.tc : Thread nD τ).loc cc0_scratch13) ↦{fullShare} f) ∗ (∃ f : Buf (Elt F) ((d.tc : Thread nD τ).loc cc0_scratch16), ((d.tc : Thread nD τ).loc cc0_scratch16) ↦{fullShare} f) ∗ (∃ f : Buf (Elt F) ((d.tc : Thread nD τ).loc cc0_scratch17), ((d.tc : Thread nD τ).loc cc0_scratch17) ↦{fullShare} f) ∗ (∃ f : Buf (Elt F) ((d.tc : Thread nD τ).loc cc0_scratch20), ((d.tc : Thread nD τ).loc cc0_scratch20) ↦{fullShare} f) ∗ (∃ f : Buf (Elt F) ((d.tc : Thread nD τ).loc cc0_scratch21), ((d.tc : Thread nD τ).loc cc0_scratch21) ↦{fullShare} f) ∗ (∃ f : Buf (Elt F) ((d.tc : Thread nD τ).loc cc0_scratch24), ((d.tc : Thread nD τ).loc cc0_scratch24) ↦{fullShare} f) ∗ (∃ f : Buf (Elt F) ((d.tc : Thread nD τ).loc cc0_scratch25), ((d.tc : Thread nD τ).loc cc0_scratch25) ↦{fullShare} f))
      ∗ ((((d.tc : Thread nD τ).loc main_v7) ↦{fullShare} V main_v7) ∗ (((d.tc : Thread nD τ).loc main_v8) ↦{fullShare} V main_v8) ∗ (((d.tc : Thread nD τ).loc main_v0) ↦{fullShare} V main_v0) ∗ (((d.tc : Thread nD τ).loc main_v1) ↦{fullShare} V main_v1) ∗ (((d.tc : Thread nD τ).loc main_v2) ↦{fullShare} V main_v2) ∗ (((d.tc : Thread nD τ).loc main_v3) ↦{fullShare} V main_v3) ∗ (((d.tc : Thread nD τ).loc main_v4) ↦{fullShare} V main_v4))
      ∗ ((∃ f : Buf (Elt F) ((d.tc : Thread nD τ).loc main_v23_1), ((d.tc : Thread nD τ).loc main_v23_1) ↦{fullShare} f) ∗ (∃ f : Buf (Elt F) ((d.tc : Thread nD τ).loc main_v23_2), ((d.tc : Thread nD τ).loc main_v23_2) ↦{fullShare} f) ∗ (∃ f : Buf (Elt F) ((d.tc : Thread nD τ).loc main_v23_3), ((d.tc : Thread nD τ).loc main_v23_3) ↦{fullShare} f) ∗ (∃ f : Buf (Elt F) ((d.tc : Thread nD τ).loc main_v23_4), ((d.tc : Thread nD τ).loc main_v23_4) ↦{fullShare} f) ∗ (∃ f : Buf (Elt F) ((d.tc : Thread nD τ).loc main_v23_5), ((d.tc : Thread nD τ).loc main_v23_5) ↦{fullShare} f)))
    ⊣⊢ (bigSep Finset.univ fun ch : Fin 24 => Pair (tabs d V ch) : sProp (MT nD τ sig Unit (Elt F) ℕ (Pipeline.UD sig nD τ) ℕ)) := by
  rw [pairs_list]
  constructor
  · iintro ⟨⟨S0, S1, S2, S3, S4, S5, S6, S7, S8, S9, S10, S11⟩, ⟨H0, H1, H2, H4, H6, H8, H10⟩, ⟨R3, R5, R7, R9, R11⟩⟩
    ihave P0 := (pair0 (V := V)).1 $$ [S0 H0]
    · isplitl [S0]; · iexact S0
      iexact H0
    icases P0 with ⟨A0, B0⟩
    ihave P1 := (pair1 (V := V)).1 $$ [S1 H1]
    · isplitl [S1]; · iexact S1
      iexact H1
    icases P1 with ⟨A1, B1⟩
    ihave P2 := (pair2 (V := V)).1 $$ [S2 H2]
    · isplitl [S2]; · iexact S2
      iexact H2
    icases P2 with ⟨A2, B2⟩
    ihave P3 := (pair3 (V := V)).1 $$ [S3 R3]
    · isplitl [S3]; · iexact S3
      iexact R3
    icases P3 with ⟨A3, B3⟩
    ihave P4 := (pair4 (V := V)).1 $$ [S4 H4]
    · isplitl [S4]; · iexact S4
      iexact H4
    icases P4 with ⟨A4, B4⟩
    ihave P5 := (pair5 (V := V)).1 $$ [S5 R5]
    · isplitl [S5]; · iexact S5
      iexact R5
    icases P5 with ⟨A5, B5⟩
    ihave P6 := (pair6 (V := V)).1 $$ [S6 H6]
    · isplitl [S6]; · iexact S6
      iexact H6
    icases P6 with ⟨A6, B6⟩
    ihave P7 := (pair7 (V := V)).1 $$ [S7 R7]
    · isplitl [S7]; · iexact S7
      iexact R7
    icases P7 with ⟨A7, B7⟩
    ihave P8 := (pair8 (V := V)).1 $$ [S8 H8]
    · isplitl [S8]; · iexact S8
      iexact H8
    icases P8 with ⟨A8, B8⟩
    ihave P9 := (pair9 (V := V)).1 $$ [S9 R9]
    · isplitl [S9]; · iexact S9
      iexact R9
    icases P9 with ⟨A9, B9⟩
    ihave P10 := (pair10 (V := V)).1 $$ [S10 H10]
    · isplitl [S10]; · iexact S10
      iexact H10
    icases P10 with ⟨A10, B10⟩
    ihave P11 := (pair11 (V := V)).1 $$ [S11 R11]
    · isplitl [S11]; · iexact S11
      iexact R11
    icases P11 with ⟨A11, B11⟩
    isplitl [A0]; · iexact A0
    isplitl [B0]; · iexact B0
    isplitl [A1]; · iexact A1
    isplitl [B1]; · iexact B1
    isplitl [A2]; · iexact A2
    isplitl [B2]; · iexact B2
    isplitl [A3]; · iexact A3
    isplitl [B3]; · iexact B3
    isplitl [A4]; · iexact A4
    isplitl [B4]; · iexact B4
    isplitl [A5]; · iexact A5
    isplitl [B5]; · iexact B5
    isplitl [A6]; · iexact A6
    isplitl [B6]; · iexact B6
    isplitl [A7]; · iexact A7
    isplitl [B7]; · iexact B7
    isplitl [A8]; · iexact A8
    isplitl [B8]; · iexact B8
    isplitl [A9]; · iexact A9
    isplitl [B9]; · iexact B9
    isplitl [A10]; · iexact A10
    isplitl [B10]; · iexact B10
    isplitl [A11]; · iexact A11
    iexact B11
  · iintro ⟨A0, B0, A1, B1, A2, B2, A3, B3, A4, B4, A5, B5, A6, B6, A7, B7, A8, B8, A9, B9, A10, B10, A11, B11⟩
    ihave P0 := (pair0 (V := V)).2 $$ [A0 B0]
    · isplitl [A0]; · iexact A0
      iexact B0
    icases P0 with ⟨S0, H0⟩
    ihave P1 := (pair1 (V := V)).2 $$ [A1 B1]
    · isplitl [A1]; · iexact A1
      iexact B1
    icases P1 with ⟨S1, H1⟩
    ihave P2 := (pair2 (V := V)).2 $$ [A2 B2]
    · isplitl [A2]; · iexact A2
      iexact B2
    icases P2 with ⟨S2, H2⟩
    ihave P3 := (pair3 (V := V)).2 $$ [A3 B3]
    · isplitl [A3]; · iexact A3
      iexact B3
    icases P3 with ⟨S3, R3⟩
    ihave P4 := (pair4 (V := V)).2 $$ [A4 B4]
    · isplitl [A4]; · iexact A4
      iexact B4
    icases P4 with ⟨S4, H4⟩
    ihave P5 := (pair5 (V := V)).2 $$ [A5 B5]
    · isplitl [A5]; · iexact A5
      iexact B5
    icases P5 with ⟨S5, R5⟩
    ihave P6 := (pair6 (V := V)).2 $$ [A6 B6]
    · isplitl [A6]; · iexact A6
      iexact B6
    icases P6 with ⟨S6, H6⟩
    ihave P7 := (pair7 (V := V)).2 $$ [A7 B7]
    · isplitl [A7]; · iexact A7
      iexact B7
    icases P7 with ⟨S7, R7⟩
    ihave P8 := (pair8 (V := V)).2 $$ [A8 B8]
    · isplitl [A8]; · iexact A8
      iexact B8
    icases P8 with ⟨S8, H8⟩
    ihave P9 := (pair9 (V := V)).2 $$ [A9 B9]
    · isplitl [A9]; · iexact A9
      iexact B9
    icases P9 with ⟨S9, R9⟩
    ihave P10 := (pair10 (V := V)).2 $$ [A10 B10]
    · isplitl [A10]; · iexact A10
      iexact B10
    icases P10 with ⟨S10, H10⟩
    ihave P11 := (pair11 (V := V)).2 $$ [A11 B11]
    · isplitl [A11]; · iexact A11
      iexact B11
    icases P11 with ⟨S11, R11⟩
    isplitl [S0 S1 S2 S3 S4 S5 S6 S7 S8 S9 S10 S11]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    isplitl [H0 H1 H2 H4 H6 H8 H10]
    · isplitl [H0]; · iexact H0
      isplitl [H1]; · iexact H1
      isplitl [H2]; · iexact H2
      isplitl [H4]; · iexact H4
      isplitl [H6]; · iexact H6
      isplitl [H8]; · iexact H8
      iexact H10
    isplitl [R3]; · iexact R3
    isplitl [R5]; · iexact R5
    isplitl [R7]; · iexact R7
    isplitl [R9]; · iexact R9
    iexact R11

end Pairs

end Cert.Kernel3Ideal

end
-- ==== Proof.MixerFrame.lean ====
module

public import proofs.«01_k».proof.Proof.Gen.Kernel3Ideal.Frame
public import proofs.«01_k».proof.Proof.MixerSteps
public import proofs.«01_k».proof.Proof.MixerBody
public import proofs.«01_k».proof.Proof.MixerPairs

/-!
The mixer's run. Between points the pipeline's invariant holds the scratch vectors, the random register and the
table of channels at the point's phase; at either end every channel rests, and the two slots of a pair make up
the whole of its buffers.
-/

@[expose] public section

set_option maxRecDepth 16384

noncomputable section

namespace Cert.Kernel3Ideal

open Idealize.ShloMosaic Idealize.ShloMosaic.TcCoe Idealize.ShloMosaic.Tactic
open Idealize.SL Idealize.SL.RA Idealize.SL.BI
open Idealize.SL.BI (sProp Storable)
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Mixer Cert.Kernel3Ideal.Gen

attribute [local instance] Gen.facts

section Run

variable {F : FTy → Type} [FloatOps F] (m : (ℓ : Loc nD τ sig) → Buf (Elt F) ℓ) (ρ : Dev nD → PrngReg)

/-- The arrays the body reads by copies, and those it writes by copies. -/
def H0 : Finset (Ref sig .tc) := {main_v7, main_v8, main_v0, main_v1, main_v2, main_v3, main_v4}
def R0 : Finset (Ref sig .tc) := {main_v23_1, main_v23_2, main_v23_3, main_v23_4, main_v23_5}

theorem ownSemFacts0 : Pipeline.OwnSemFacts spec0 cell := by decide
theorem H0_sub : H0 ⊆ Pipeline.restRefs sig spec0 := by decide
theorem R0_sub : R0 ⊆ Pipeline.restRefs sig spec0 \ H0 := by decide

theorem H0_list (c : Dev nD) : (bigSep H0 fun b => ((c : Thread nD τ).loc b) ↦{fullShare} V m c b : sProp (MT nD τ sig Unit (Elt F) ℕ (Pipeline.UD sig nD τ) ℕ))
    = iprop((((c.tc : Thread nD τ).loc main_v7) ↦{fullShare} V m c main_v7) ∗ (((c.tc : Thread nD τ).loc main_v8) ↦{fullShare} V m c main_v8) ∗ (((c.tc : Thread nD τ).loc main_v0) ↦{fullShare} V m c main_v0) ∗ (((c.tc : Thread nD τ).loc main_v1) ↦{fullShare} V m c main_v1) ∗ (((c.tc : Thread nD τ).loc main_v2) ↦{fullShare} V m c main_v2) ∗ (((c.tc : Thread nD τ).loc main_v3) ↦{fullShare} V m c main_v3) ∗ (((c.tc : Thread nD τ).loc main_v4) ↦{fullShare} V m c main_v4)) := by
  rw [BI.bigSep_eq_bigSepL_of_eq [main_v7, main_v8, main_v0, main_v1, main_v2, main_v3, main_v4] (by decide) (by decide)]; rfl

theorem R0_list (c : Dev nD) : (Pipeline.owned R0 c : sProp (MT nD τ sig Unit (Elt F) ℕ (Pipeline.UD sig nD τ) ℕ))
    = iprop((∃ f : Buf (Elt F) ((c.tc : Thread nD τ).loc main_v23_1), ((c.tc : Thread nD τ).loc main_v23_1) ↦{fullShare} f) ∗ (∃ f : Buf (Elt F) ((c.tc : Thread nD τ).loc main_v23_2), ((c.tc : Thread nD τ).loc main_v23_2) ↦{fullShare} f) ∗ (∃ f : Buf (Elt F) ((c.tc : Thread nD τ).loc main_v23_3), ((c.tc : Thread nD τ).loc main_v23_3) ↦{fullShare} f) ∗ (∃ f : Buf (Elt F) ((c.tc : Thread nD τ).loc main_v23_4), ((c.tc : Thread nD τ).loc main_v23_4) ↦{fullShare} f) ∗ (∃ f : Buf (Elt F) ((c.tc : Thread nD τ).loc main_v23_5), ((c.tc : Thread nD τ).loc main_v23_5) ↦{fullShare} f)) := by
  unfold Pipeline.owned; rw [BI.bigSep_eq_bigSepL_of_eq [main_v23_1, main_v23_2, main_v23_3, main_v23_4, main_v23_5] (by decide) (by decide)]; rfl

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's scratch vectors and the random register. -/
def vecs (c : Dev nD) : sProp (MT nD τ sig Unit (Elt F) ℕ (Pipeline.UD sig nD τ) ℕ) :=
  iprop((∃ f : Buf (Elt F) ((c.tc : Thread nD τ).loc cc0_scratch0), ((c.tc : Thread nD τ).loc cc0_scratch0) ↦{fullShare} f) ∗ (∃ f : Buf (Elt F) ((c.tc : Thread nD τ).loc cc0_scratch1), ((c.tc : Thread nD τ).loc cc0_scratch1) ↦{fullShare} f) ∗ (∃ f : Buf (Elt F) ((c.tc : Thread nD τ).loc cc0_scratch2), ((c.tc : Thread nD τ).loc cc0_scratch2) ↦{fullShare} f) ∗ (∃ f : Buf (Elt F) ((c.tc : Thread nD τ).loc cc0_scratch3), ((c.tc : Thread nD τ).loc cc0_scratch3) ↦{fullShare} f) ∗ ∃ r, prngReg c r)

/-- Between points `t - 1` and `t`. -/
def between (c : Dev nD) (t : ℕ) : sProp (MT nD τ sig Unit (Elt F) ℕ (Pipeline.UD sig nD τ) ℕ) :=
  iprop(vecs c ∗ bigSep Finset.univ fun ch => Cell c (cell ch) (tabs c (V m c) ch) (phase t ch))

theorem phase_rest {t : ℕ} (h : t = 0 ∨ 15 < t) (ch : Fin 24) : phase t ch = false := if_pos (.inr h)

theorem between_rest (c : Dev nD) {t : ℕ} (h : t = 0 ∨ 15 < t) : between m c t ⊣⊢ Pipeline.ΦDR cell spec0 H0 R0 (V m) c := by
  rw [Pipeline.ΦDR_eq, scopedRest0_eq, H0_list, R0_list]
  unfold between vecs Pipeline.ownSems0
  rw [rest_cells (phase_rest h)]
  constructor
  · iintro ⟨⟨V0, V1, V2, V3, P⟩, C, T⟩
    ihave T2 := (pairs_whole (V := V m c)).2 $$ T
    icases T2 with ⟨⟨S0, S1, S2, S3, S4, S5, S6, S7, S8, S9, S10, S11⟩, HH, RR⟩
    isplitl [V0 V1 V2 V3 S0 S1 S2 S3 S4 S5 S6 S7 S8 S9 S10 S11]
    · isplitl [V0]; · iexact V0
      isplitl [V1]; · iexact V1
      isplitl [V2]; · iexact V2
      isplitl [V3]; · iexact V3
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    isplitl [P]; · iexact P
    isplitl [C]; · iexact C
    isplitl [HH]; · iexact HH
    iexact RR
  · iintro ⟨⟨V0, V1, V2, V3, SS⟩, P, C, HH, RR⟩
    isplitl [V0 V1 V2 V3 P]
    · isplitl [V0]; · iexact V0
      isplitl [V1]; · iexact V1
      isplitl [V2]; · iexact V2
      isplitl [V3]; · iexact V3
      iexact P
    isplitl [C]; · iexact C
    iapply (pairs_whole (V := V m c)).1 $$ [SS HH RR]
    isplitl [SS]; · iexact SS
    isplitl [HH]; · iexact HH
    iexact RR

def rdat (c : Dev nD) : RDat τ (Elt F) Unit ℕ (Pipeline.UD sig nD τ) ℕ cfg0 c where
  A w := V m c (Pipeline.arrRef spec0 w)
  after _ _ _ _ := True
  Φ t := between m c t.val
  q _ := fullShare
  owed _ := 0

/-- The staged blocks at a point, at whatever they hold. -/
def staged (c : Dev nD) (t : Fin cfg0.N) : sProp (MT nD τ sig Unit (Elt F) ℕ (Pipeline.UD sig nD τ) ℕ) :=
  bigSep Finset.univ fun w => iprop(∃ X, owns (c : Thread nD τ) ((cfg0.win w).stage (cfg0.slots t w)) fullShare X)

theorem staged_acc (c : Dev nD) (t : Fin cfg0.N) (w : Fin cfg0.W) : Acc c (iprop(staged (F := F) c t ∗ vecs c)) ((cfg0.win w).stage (cfg0.slots t w))
    ((cfg0.win w).stage (cfg0.slots t w)).view.set :=
  .sep_left (.among w .staged)

theorem vec_acc {c : Dev nD} (b : Ref sig .tc) :
    Acc c (iprop(∃ f : Buf (Elt F) ((c : Thread nD τ).loc b), ((c : Thread nD τ).loc b) ↦{fullShare} f) : sProp (MT nD τ sig Unit (Elt F) ℕ (Pipeline.UD sig nD τ) ℕ)) (Memref.whole b) (Memref.whole b).view.set := by
  rw [show (Memref.whole b).view.set = Finset.univ from View.set_whole b]
  exact Acc.owned (d := c) (m := Memref.whole b) (A := Finset.univ)

theorem acc0 (c : Dev nD) (t : Fin cfg0.N) : Acc c (iprop(staged (F := F) c t ∗ vecs c)) (Memref.whole cc0_scratch0) (Memref.whole cc0_scratch0).view.set := by
  unfold vecs
  exact .sep_right (.sep_left (vec_acc cc0_scratch0))
theorem acc1 (c : Dev nD) (t : Fin cfg0.N) : Acc c (iprop(staged (F := F) c t ∗ vecs c)) (Memref.whole cc0_scratch1) (Memref.whole cc0_scratch1).view.set := by
  unfold vecs
  exact .sep_right (.sep_right (.sep_left (vec_acc cc0_scratch1)))
theorem acc2 (c : Dev nD) (t : Fin cfg0.N) : Acc c (iprop(staged (F := F) c t ∗ vecs c)) (Memref.whole cc0_scratch2) (Memref.whole cc0_scratch2).view.set := by
  unfold vecs
  exact .sep_right (.sep_right (.sep_right (.sep_left (vec_acc cc0_scratch2))))
theorem acc3 (c : Dev nD) (t : Fin cfg0.N) : Acc c (iprop(staged (F := F) c t ∗ vecs c)) (Memref.whole cc0_scratch3) (Memref.whole cc0_scratch3).view.set := by
  unfold vecs
  exact .sep_right (.sep_right (.sep_right (.sep_right (.sep_left (vec_acc cc0_scratch3)))))

theorem coords_point : ∀ t : Fin cfg0.N, 2 * (grid0.coords t 0).val + (grid0.coords t 1).val = t.val := by
  decide +kernel

theorem body_runs (c : Dev nD) (t : Fin cfg0.N) :
    Runs defs₀ c (Mx c (V m c) (iprop(staged (F := F) c t ∗ vecs c)) (phase t.val)) (bodyAt0 t)
      (fun _ => Mx c (V m c) (iprop(staged (F := F) c t ∗ vecs c)) (phase (t.val + 1))) := by
  have hp := coords_point t
  rw [← hp]
  exact run_mixer (run_part12 (staged_acc c t 1) (staged_acc c t 2) (staged_acc c t 4) (acc0 c t) (acc1 c t) (acc2 c t) (acc3 c t))
    (.mx (staged_acc c t 0)) (.mx (staged_acc c t 1)) (.mx (staged_acc c t 2)) (.mx (staged_acc c t 3)) (.mx (staged_acc c t 4))
    (.mx (staged_acc c t 5)) (.mx (staged_acc c t 6)) (.mx (staged_acc c t 7)) (.mx (staged_acc c t 8)) (.mx (staged_acc c t 9))
    (.mx (staged_acc c t 10)) (.mx (staged_acc c t 11)) (.mx (staged_acc c t 12)) (.mx (staged_acc c t 13))
    (.mx (acc0 c t)) (.mx (acc1 c t)) (.mx (acc2 c t)) (.mx (acc3 c t))

theorem defs₀_row (t : Fin cfg0.N) : defs₀ (F := F) .tc cfg0.body (cfg0.bodyArgs t (cfg0.slots t)) = bodyAt0 t := by
  unfold defs₀; rw [Defs.onTc_tc]

theorem owes_some (c : Dev nD) (t : Fin (cfg0.N + 1)) :
    (rdat m c).owesAt () t ⊣⊢ (iprop(∃ W : Waits sig Unit, owes (c.tc : Thread nD τ) 0 W) : sProp (MT nD τ sig Unit (Elt F) ℕ (Pipeline.UD sig nD τ) ℕ)) := by
  unfold RDat.owesAt Pipeline.owesWithin
  constructor
  · iintro ⟨%W, %_h, H⟩
    iexists W
    iexact H
  · iintro ⟨%W, H⟩
    iexists W
    isplitr
    · ipureintro; exact fun _ _ => Or.inl trivial
    iexact H

theorem owns_any {c : Dev nD} {sp : Space} {s : Shape} {e : EltTy} {M : Memref sig .tc sp s e} {Y : s.Idx → Elt F e} :
    (owns (c : Thread nD τ) M fullShare Y : sProp (MT nD τ sig Unit (Elt F) ℕ (Pipeline.UD sig nD τ) ℕ)) ⊢ iprop(∃ X, owns (c : Thread nD τ) M fullShare X) := by
  iintro H
  iexists Y
  iexact H

theorem any_owns {c : Dev nD} {sp : Space} {s : Shape} {e : EltTy} {M : Memref sig .tc sp s e} {p : (s.Idx → Elt F e) → Prop} (h : ∀ X, p X) :
    iprop(∃ X, owns (c : Thread nD τ) M fullShare X) ⊢ (iprop(∃ X, ⌜p X⌝ ∗ owns (c : Thread nD τ) M fullShare X) : sProp (MT nD τ sig Unit (Elt F) ℕ (Pipeline.UD sig nD τ) ℕ)) := by
  iintro ⟨%X, H⟩
  iexists X
  isplitr
  · ipureintro; exact h X
  iexact H

theorem staged_of (c : Dev nD) (t : Fin cfg0.N) (Y : (w : Fin cfg0.W) → (cfg0.win w).block.Idx → Elt F (cfg0.win w).elt) :
    (bigSep Finset.univ fun w => owns (c : Thread nD τ) ((cfg0.win w).stage (cfg0.slots t w)) fullShare (Y w) : sProp (MT nD τ sig Unit (Elt F) ℕ (Pipeline.UD sig nD τ) ℕ)) ⊢ staged c t := by
  unfold staged
  exact bigSep_mono fun w _ => owns_any

theorem staged_to (c : Dev nD) (t : Fin cfg0.N) (Y : (w : Fin cfg0.W) → (cfg0.win w).block.Idx → Elt F (cfg0.win w).elt) :
    staged c t ⊢ (bigSep Finset.univ fun w => iprop(∃ X, ⌜(rdat m c).after w t (Y w) X⌝
      ∗ owns (c : Thread nD τ) ((cfg0.win w).stage (cfg0.slots t w)) fullShare X) : sProp (MT nD τ sig Unit (Elt F) ℕ (Pipeline.UD sig nD τ) ℕ)) := by
  unfold staged
  exact bigSep_mono fun w _ => any_owns fun _ => trivial

theorem body_obligation (c : Dev nD) : (rdat m c).BodyObligation (defs₀ (F := F)) Variants.none () Set.univ := fun t Y _ => by
  rw [defs₀_row]
  have run := body_runs m c t
  unfold Runs Mx St at run
  have enter : iprop((rdat m c).Φ t.castSucc ∗ (rdat m c).owesAt () t.castSucc
        ∗ bigSep Finset.univ fun w => owns (c : Thread nD τ) ((cfg0.win w).stage (cfg0.slots t w)) fullShare (Y w))
      ⊢ iprop(((staged (F := F) c t ∗ vecs c) ∗ ∃ W : Waits sig Unit, owes (c.tc : Thread nD τ) 0 W)
        ∗ bigSep Finset.univ fun ch => Cell c (cell ch) (tabs c (V m c) ch) (phase t.val ch)) := by
    show iprop(between m c t.val ∗ _) ⊢ _
    unfold between
    iintro ⟨⟨Hv, Hc⟩, Ho, Hw⟩
    isplitl [Hv Ho Hw]
    · isplitl [Hv Hw]
      · isplitl [Hw]
        · iapply (staged_of c t Y) $$ Hw
        iexact Hv
      iapply (owes_some m c t.castSucc).1 $$ Ho
    iexact Hc
  refine enter.trans (run.trans (wp_mono frame _ _ fun _ => ?_))
  show _ ⊢ iprop(between m c (t.val + 1) ∗ _)
  unfold between
  iintro ⟨⟨⟨Hw, Hv⟩, Ho⟩, Hc⟩
  isplitl [Hv Hc]
  · isplitl [Hv]; · iexact Hv
    iexact Hc
  isplitl [Ho]
  · iapply (owes_some m c t.succ).2 $$ Ho
  iapply (staged_to m c t Y) $$ Hw

set_option backward.isDefEq.respectTransparency.types false in
theorem run_main : θ_run defs (onTc (τ := τ) (main (F := F))) (s₀ m ρ) (fun r => RDat.FramePostR cfg0 (rdat m) R0 (V m) r ∧ r.2.sem = fun _ => 0) :=
  Pipeline.RDat.θ_run_frame_dmaR (Q' := _) cfgs (0 : Fin 1) launch0 cell defs₀ Variants.none (rdat m) ownSemFacts0 H0 R0 H0_sub R0_sub m ρ main
    (hbody := body_obligation m) (hshare := fun c => (rdat m c).share_full fun _ => rfl)
    (howed := fun _ _ => rfl) (V := V m) (hmain := hmain m Variants.none) (hA := fun _ _ => rfl)
    (hin := fun c => (between_rest m c (.inl rfl)).2)
    (hout := fun c => (between_rest m c (t := cfg0.N) (.inr (by rw [show cfg0.N = 16 from N_0]; decide))).1)

/-- The run ends with every argument as launched and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨(h.1.arr_in c 1 rfl).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    (h.1.arr_in c 8 rfl).trans (V_main_arg6 m c),
    ((h.1 c).2 main_arg7 (Finset.mem_sdiff.mpr ⟨Pipeline.mem_restRefs_of main_arg7 (by decide) (by decide), by decide⟩)).trans (V_main_arg7 m c),
    ((h.1 c).2 main_arg8 (Finset.mem_sdiff.mpr ⟨Pipeline.mem_restRefs_of main_arg8 (by decide) (by decide), by decide⟩)).trans (V_main_arg8 m c),
    ((h.1 c).2 main_arg9 (Finset.mem_sdiff.mpr ⟨Pipeline.mem_restRefs_of main_arg9 (by decide) (by decide), by decide⟩)).trans (V_main_arg9 m c),
    ((h.1 c).2 main_arg10 (Finset.mem_sdiff.mpr ⟨Pipeline.mem_restRefs_of main_arg10 (by decide) (by decide), by decide⟩)).trans (V_main_arg10 m c),
    ((h.1 c).2 main_arg11 (Finset.mem_sdiff.mpr ⟨Pipeline.mem_restRefs_of main_arg11 (by decide) (by decide), by decide⟩)).trans (V_main_arg11 m c),
    ((h.1 c).2 main_arg12 (Finset.mem_sdiff.mpr ⟨Pipeline.mem_restRefs_of main_arg12 (by decide) (by decide), by decide⟩)).trans (V_main_arg12 m c),
    ((h.1 c).2 main_arg13 (Finset.mem_sdiff.mpr ⟨Pipeline.mem_restRefs_of main_arg13 (by decide) (by decide), by decide⟩)).trans (V_main_arg13 m c)⟩, h.2⟩) (run_main m ρ)

end Run

end Cert.Kernel3Ideal

end
-- ==== Proof.lean ====
/- The certificate: the frames of the cross-attention and the feed-forward kernels and of their references, the one named
   constant, and the two value claims (Proof/XattnEq.lean, Proof/FfnEq.lean); the frame of the mixer's ideal program (Proof/MixerFrame.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.KernelIdeal.Value
public import proofs.«01_k».proof.Proof.Gen.Kernel2Ideal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3Ideal
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.FfnEq
public import proofs.«01_k».proof.Proof.XattnEq
public import proofs.«01_k».proof.Proof.MixerFrame
public import Idealize.ShloMosaic.Adequacy
public import Idealize.ShloMosaic.Init

@[expose] public section

noncomputable section

namespace Cert.Proof

open Idealize.ShloMosaic Idealize.SL.Sem

/-- The shape relations of the cross-attention's precondition. -/
instance factsScores : Cert.Pre_finite_scores.Facts where
  bcast_S_S1x1024 := by decide
  reducesTo_S1x1024_S_d0_1 := by decide
  h_S_ := by decide
  bcast_S_S1x1024x1024 := by decide
  reducesTo_S1x1024x1024_S_d0_1_2 := by decide
  bcast_S_S1x1024x2048 := by decide
  reducesTo_S1x1024x2048_S_d0_1_2 := by decide

/-- The shape relations of the feed-forward's precondition. -/
instance factsGates : Cert.Pre_finite_gates.Facts where
  bcast_S_S1x1024 := by decide
  reducesTo_S1x1024_S_d0_1 := by decide
  h_S_ := by decide
  bcast_S_S1x1024x5632 := by decide
  reducesTo_S1x1024x5632_S_d0_1_2 := by decide

/-- The cross-attention reference keeps its arguments, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The feed-forward reference keeps its arguments, and it has no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The mixer's ideal program keeps its arguments. -/
theorem frame_kernel3Ideal : Cert.quiescent_Kernel3Ideal (hKernel3Ideal := Cert.Kernel3Ideal.Gen.facts) := fun m ρ _ =>
  Cert.Kernel3Ideal.frame_any (F := Ideal) m ρ

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts,
  Cert.Kernel3Ideal.Gen.facts, factsScores, factsGates,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  frame_kernel3Ideal,
  IdealRules.named_const.statement Cert.KernelIdeal.κ "score_scale" .f32 0x3DB8AA3B#32 (((1 / 16) * (Real.log 2)⁻¹ : ℝ) : EReal) rfl,
  Cert.Xattn.algebraic,
  trivial,
  Cert.Ffn.algebraic⟩

end Cert.Proof

end
